-- ==== Defs.lean ====
def Pre_Kernel [hPre_segments_in_range : Cert.Pre_segments_in_range.Facts] (m : (ℓ : Loc Cert.Kernel.nD Cert.Kernel.τ Cert.Kernel.sig) → Buf (Elt Bits) ℓ) : Prop :=
  ∀ c : Dev Cert.Kernel.nD,
    (Cert.Pre_segments_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_segments_in_range : Cert.Pre_segments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_inputs_as_drawn [hPre_inputs_as_drawn : Cert.Pre_inputs_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_drawn [hPre_inputs_as_drawn : Cert.Pre_inputs_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_segments_in_range : Cert.Pre_segments_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_as_drawn [hKernelIdeal : Cert.KernelIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_as_drawn [hReferenceIdeal : Cert.ReferenceIdeal.Facts] [hPre_inputs_as_drawn : Cert.Pre_inputs_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_inputs_as_drawn [hKernelIdeal : Cert.KernelIdeal.Facts] [hReferenceIdeal : Cert.ReferenceIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_segments_in_range : Cert.Pre_segments_in_range.Facts) (hPre_inputs_as_drawn : Cert.Pre_inputs_as_drawn.Facts),
    quiescent_Kernel (hKernel := hKernel) (hPre_segments_in_range := hPre_segments_in_range)
    ∧ quiescent_KernelIdeal (hKernelIdeal := hKernelIdeal) (hPre_segments_in_range := hPre_segments_in_range)
    ∧ quiescent_KernelIdeal_pre_inputs_as_drawn (hKernelIdeal := hKernelIdeal) (hPre_inputs_as_drawn := hPre_inputs_as_drawn)
    ∧ quiescent_ReferenceIdeal (hReferenceIdeal := hReferenceIdeal)
    ∧ quiescent_ReferenceIdeal_pre_inputs_as_drawn (hReferenceIdeal := hReferenceIdeal) (hPre_inputs_as_drawn := hPre_inputs_as_drawn)
    ∧ preserves_Kernel_KernelIdeal
    ∧ algebraic_KernelIdeal_ReferenceIdeal_pre_inputs_as_drawn (hKernelIdeal := hKernelIdeal) (hReferenceIdeal := hReferenceIdeal) (hPre_inputs_as_drawn := hPre_inputs_as_drawn)
-- ==== Pre_inputs_as_drawn.lean ====
abbrev S65536x128 : Shape := ⟨2, ![65536, 128]⟩
abbrev S65536 : Shape := ⟨1, ![65536]⟩
abbrev S128x56 : Shape := ⟨2, ![128, 56]⟩
abbrev S56 : Shape := ⟨1, ![56]⟩
abbrev S200x200 : Shape := ⟨2, ![200, 200]⟩
abbrev S256x256 : Shape := ⟨2, ![256, 256]⟩
abbrev S256 : Shape := ⟨1, ![256]⟩
abbrev S256x1 : Shape := ⟨2, ![256, 1]⟩
abbrev S_ : Shape := ⟨0, ![]⟩
abbrev S65535 : Shape := ⟨1, ![65535]⟩

class Facts : Prop where
  bcast_S_S65536 : S_.BroadcastsInDim S65536 (![] : Fin 0 → Fin S65536.rank)
  slices_S65536_S65535_1 : S65536.Slices ![1] S65535
  slices_S65536_S65535_0 : S65536.Slices ![0] S65535
  reducesTo_S65536_S_d0 : S65536.ReducesTo [0] S_
  h_S_ : 0 < S_.numel
  reducesTo_S65535_S_d0 : S65535.ReducesTo [0] S_

variable [Facts]

def fn_part1 {F : FTy → Type} [FloatOps F] (main_arg3 : IVec S65536 32) (main_arg4 : IVec S65536 32) (main_arg5 : IVec S65536 32) (main_arg6 : IVec S65536 32) (main_v16 : IVec S65536 1) (main_c_5 : IVec S_ 32) : IVec S_ 1 :=
  let main_v17 : IVec S65536 32 := broadcastInDim S65536 ![] bcast_S_S65536 main_c_5
  let main_v18 : IVec S65536 1 := cmpi .sge main_arg3 main_v17
  let main_v19 : IVec S65536 1 := andi main_v16 main_v18
  let main_c_6 : IVec S_ 32 := constantI S_ 32 200#32
  let main_v20 : IVec S65536 32 := broadcastInDim S65536 ![] bcast_S_S65536 main_c_6
  let main_v21 : IVec S65536 1 := cmpi .slt main_arg3 main_v20
  let main_v22 : IVec S65536 1 := andi main_v19 main_v21
  let main_c_7 : IVec S_ 32 := constantI S_ 32 1#32
  let main_v23 : IVec S65536 32 := broadcastInDim S65536 ![] bcast_S_S65536 main_c_7
  let main_v24 : IVec S65536 1 := cmpi .eq main_arg4 main_v23
  let main_v25 : IVec S65536 1 := andi main_v22 main_v24
  let main_v26 : IVec S65535 32 := (extractStridedSlice S65535 ![1] · slices_S65536_S65535_1) main_arg5
  let main_v27 : IVec S65535 32 := (extractStridedSlice S65535 ![0] · slices_S65536_S65535_0) main_arg5
  let main_v28 : IVec S65535 1 := cmpi .sge main_v26 main_v27
  let main_v29 : IVec S65535 32 := (extractStridedSlice S65535 ![1] · slices_S65536_S65535_1) main_arg6
  let main_v30 : IVec S65535 32 := (extractStridedSlice S65535 ![0] · slices_S65536_S65535_0) main_arg6
  let main_v31 : IVec S65535 1 := cmpi .sge main_v29 main_v30
  let main_v32 : IVec S65535 1 := andi main_v28 main_v31
  let main_c_8 : IVec S_ 1 := constantI S_ 1 1#1
  let main_v33 : IVec S_ 1 := (fun x v => Host.reduce IntOp.andi x v reducesTo_S65536_S_d0 h_S_) main_v25 main_c_8
  let main_c_9 : IVec S_ 1 := constantI S_ 1 1#1
  let main_v34 : IVec S_ 1 := (fun x v => Host.reduce IntOp.andi x v reducesTo_S65535_S_d0 h_S_) main_v32 main_c_9
  let main_v35 : IVec S_ 1 := andi main_v33 main_v34
  main_v35

def fn {F : FTy → Type} [FloatOps F] (main_arg0 : FVec F S65536x128 .f32) (main_arg1 : FVec F S65536x128 .f32) (main_arg2 : IVec S65536 32) (main_arg3 : IVec S65536 32) (main_arg4 : IVec S65536 32) (main_arg5 : IVec S65536 32) (main_arg6 : IVec S65536 32) (main_arg7 : FVec F S128x56 .f32) (main_arg8 : FVec F S56 .f32) (main_arg9 : FVec F S128x56 .f32) (main_arg10 : FVec F S56 .f32) (main_arg11 : FVec F S200x200 .f32) (main_arg12 : FVec F S256x256 .f32) (main_arg13 : FVec F S256 .f32) (main_arg14 : FVec F S256x256 .f32) (main_arg15 : FVec F S256x1 .f32) : IVec S_ 1 :=
  let main_c : IVec S_ 32 := constantI S_ 32 0#32
  let main_v0 : IVec S65536 32 := broadcastInDim S65536 ![] bcast_S_S65536 main_c
  let main_v1 : IVec S65536 1 := cmpi .sge main_arg5 main_v0
  let main_c_0 : IVec S_ 32 := constantI S_ 32 4096#32
  let main_v2 : IVec S65536 32 := broadcastInDim S65536 ![] bcast_S_S65536 main_c_0
  let main_v3 : IVec S65536 1 := cmpi .slt main_arg5 main_v2
  let main_v4 : IVec S65536 1 := andi main_v1 main_v3
  let main_c_1 : IVec S_ 32 := constantI S_ 32 0#32
  let main_v5 : IVec S65536 32 := broadcastInDim S65536 ![] bcast_S_S65536 main_c_1
  let main_v6 : IVec S65536 1 := cmpi .sge main_arg6 main_v5
  let main_v7 : IVec S65536 1 := andi main_v4 main_v6
  let main_c_2 : IVec S_ 32 := constantI S_ 32 4096#32
  let main_v8 : IVec S65536 32 := broadcastInDim S65536 ![] bcast_S_S65536 main_c_2
  let main_v9 : IVec S65536 1 := cmpi .slt main_arg6 main_v8
  let main_v10 : IVec S65536 1 := andi main_v7 main_v9
  let main_c_3 : IVec S_ 32 := constantI S_ 32 0#32
  let main_v11 : IVec S65536 32 := broadcastInDim S65536 ![] bcast_S_S65536 main_c_3
  let main_v12 : IVec S65536 1 := cmpi .sge main_arg2 main_v11
  let main_v13 : IVec S65536 1 := andi main_v10 main_v12
  let main_c_4 : IVec S_ 32 := constantI S_ 32 200#32
  let main_v14 : IVec S65536 32 := broadcastInDim S65536 ![] bcast_S_S65536 main_c_4
  let main_v15 : IVec S65536 1 := cmpi .slt main_arg2 main_v14
  let main_v16 : IVec S65536 1 := andi main_v13 main_v15
  let main_c_5 : IVec S_ 32 := constantI S_ 32 0#32
  fn_part1 (F := F) main_arg3 main_arg4 main_arg5 main_arg6 main_v16 main_c_5
-- ==== Pre_segments_in_range.lean ====
abbrev S65536x128 : Shape := ⟨2, ![65536, 128]⟩
abbrev S65536 : Shape := ⟨1, ![65536]⟩
abbrev S128x56 : Shape := ⟨2, ![128, 56]⟩
abbrev S56 : Shape := ⟨1, ![56]⟩
abbrev S200x200 : Shape := ⟨2, ![200, 200]⟩
abbrev S256x256 : Shape := ⟨2, ![256, 256]⟩
abbrev S256 : Shape := ⟨1, ![256]⟩
abbrev S256x1 : Shape := ⟨2, ![256, 1]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : FVec F S65536x128 .f32) (main_arg1 : FVec F S65536x128 .f32) (main_arg2 : IVec S65536 32) (main_arg3 : IVec S65536 32) (main_arg4 : IVec S65536 32) (main_arg5 : IVec S65536 32) (main_arg6 : IVec S65536 32) (main_arg7 : FVec F S128x56 .f32) (main_arg8 : FVec F S56 .f32) (main_arg9 : FVec F S128x56 .f32) (main_arg10 : FVec F S56 .f32) (main_arg11 : FVec F S200x200 .f32) (main_arg12 : FVec F S256x256 .f32) (main_arg13 : FVec F S256 .f32) (main_arg14 : FVec F S256x256 .f32) (main_arg15 : FVec F S256x1 .f32) : IVec S_ 1 :=
  let main_c : IVec S_ 32 := constantI S_ 32 0#32
  let main_v0 : IVec S65536 32 := broadcastInDim S65536 ![] bcast_S_S65536 main_c
  let main_v1 : IVec S65536 1 := cmpi .sge main_arg5 main_v0
  let main_c_0 : IVec S_ 32 := constantI S_ 32 4096#32
  let main_v2 : IVec S65536 32 := broadcastInDim S65536 ![] bcast_S_S65536 main_c_0
  let main_v3 : IVec S65536 1 := cmpi .slt main_arg5 main_v2
  let main_v4 : IVec S65536 1 := andi main_v1 main_v3
  let main_c_1 : IVec S_ 32 := constantI S_ 32 0#32
  let main_v5 : IVec S65536 32 := broadcastInDim S65536 ![] bcast_S_S65536 main_c_1
  let main_v6 : IVec S65536 1 := cmpi .sge main_arg6 main_v5
  let main_v7 : IVec S65536 1 := andi main_v4 main_v6
  let main_c_2 : IVec S_ 32 := constantI S_ 32 4096#32
  let main_v8 : IVec S65536 32 := broadcastInDim S65536 ![] bcast_S_S65536 main_c_2
  let main_v9 : IVec S65536 1 := cmpi .slt main_arg6 main_v8
  let main_v10 : IVec S65536 1 := andi main_v7 main_v9
  let main_c_3 : IVec S_ 1 := constantI S_ 1 1#1
  let main_v11 : IVec S_ 1 := (fun x v => Host.reduce IntOp.andi x v reducesTo_S65536_S_d0 h_S_) main_v10 main_c_3
  main_v11
-- ==== Kernel.lean ====
abbrev S65536x128 : Shape := ⟨2, ![65536, 128]⟩
abbrev S65536 : Shape := ⟨1, ![65536]⟩
abbrev S128x56 : Shape := ⟨2, ![128, 56]⟩
abbrev S56 : Shape := ⟨1, ![56]⟩
abbrev S200x200 : Shape := ⟨2, ![200, 200]⟩
abbrev S256x256 : Shape := ⟨2, ![256, 256]⟩
abbrev S256 : Shape := ⟨1, ![256]⟩
abbrev S256x1 : Shape := ⟨2, ![256, 1]⟩
abbrev S131072x128 : Shape := ⟨2, ![131072, 128]⟩
abbrev S131072 : Shape := ⟨1, ![131072]⟩
abbrev S64x2048x1 : Shape := ⟨3, ![64, 2048, 1]⟩
abbrev S_ : Shape := ⟨0, ![]⟩
abbrev S128x256 : Shape := ⟨2, ![128, 256]⟩
abbrev S1x256 : Shape := ⟨2, ![1, 256]⟩
abbrev S131072x256 : Shape := ⟨2, ![131072, 256]⟩
abbrev S4352x256 : Shape := ⟨2, ![4352, 256]⟩
abbrev S4352x128 : Shape := ⟨2, ![4352, 128]⟩
abbrev S2048x128 : Shape := ⟨2, ![2048, 128]⟩
abbrev S1x2048x1 : Shape := ⟨3, ![1, 2048, 1]⟩
abbrev S2048x256 : Shape := ⟨2, ![2048, 256]⟩
abbrev S2048x1 : Shape := ⟨2, ![2048, 1]⟩
abbrev S1 : Shape := ⟨1, ![1]⟩
abbrev S1x1x1 : Shape := ⟨3, ![1, 1, 1]⟩
abbrev S256x128 : Shape := ⟨2, ![256, 128]⟩
abbrev S4352x1 : Shape := ⟨2, ![4352, 1]⟩
abbrev S2048 : Shape := ⟨1, ![2048]⟩
abbrev S4096x256 : Shape := ⟨2, ![4096, 256]⟩

abbrev nBuf : Space → Nat
  | .hbm => 47
  | .vmem => 30
  | .smem => 0
  | _ => 0

abbrev bufTy : (tb : Table) → Fin (tcTables nBuf tb) → BufTy
  | .hbm, ⟨0, _⟩ => ⟨S65536x128, .f32⟩
  | .hbm, ⟨1, _⟩ => ⟨S65536x128, .f32⟩
  | .hbm, ⟨2, _⟩ => ⟨S65536, .i32⟩
  | .hbm, ⟨3, _⟩ => ⟨S65536, .i32⟩
  | .hbm, ⟨4, _⟩ => ⟨S65536, .i32⟩
  | .hbm, ⟨5, _⟩ => ⟨S65536, .i32⟩
  | .hbm, ⟨6, _⟩ => ⟨S65536, .i32⟩
  | .hbm, ⟨7, _⟩ => ⟨S128x56, .f32⟩
  | .hbm, ⟨8, _⟩ => ⟨S56, .f32⟩
  | .hbm, ⟨9, _⟩ => ⟨S128x56, .f32⟩
  | .hbm, ⟨10, _⟩ => ⟨S56, .f32⟩
  | .hbm, ⟨11, _⟩ => ⟨S200x200, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x1, .f32⟩
  | .hbm, ⟨16, _⟩ => ⟨S131072x128, .f32⟩
  | .hbm, ⟨17, _⟩ => ⟨S131072, .i32⟩
  | .hbm, ⟨18, _⟩ => ⟨S64x2048x1, .i32⟩
  | .hbm, ⟨19, _⟩ => ⟨S131072, .i32⟩
  | .hbm, ⟨20, _⟩ => ⟨S64x2048x1, .i32⟩
  | .hbm, ⟨21, _⟩ => ⟨S_, .i32⟩
  | .hbm, ⟨22, _⟩ => ⟨S_, .f32⟩
  | .hbm, ⟨23, _⟩ => ⟨S128x256, .f32⟩
  | .hbm, ⟨24, _⟩ => ⟨S_, .i32⟩
  | .hbm, ⟨25, _⟩ => ⟨S_, .f32⟩
  | .hbm, ⟨26, _⟩ => ⟨S128x256, .f32⟩
  | .hbm, ⟨27, _⟩ => ⟨S_, .i32⟩
  | .hbm, ⟨28, _⟩ => ⟨S_, .f32⟩
  | .hbm, ⟨29, _⟩ => ⟨S256, .f32⟩
  | .hbm, ⟨30, _⟩ => ⟨S1x256, .f32⟩
  | .hbm, ⟨31, _⟩ => ⟨S_, .i32⟩
  | .hbm, ⟨32, _⟩ => ⟨S_, .f32⟩
  | .hbm, ⟨33, _⟩ => ⟨S256, .f32⟩
  | .hbm, ⟨34, _⟩ => ⟨S1x256, .f32⟩
  | .hbm, ⟨35, _⟩ => ⟨S_, .i32⟩
  | .hbm, ⟨36, _⟩ => ⟨S_, .f32⟩
  | .hbm, ⟨37, _⟩ => ⟨S256x256, .f32⟩
  | .hbm, ⟨38, _⟩ => ⟨S1x256, .f32⟩
  | .hbm, ⟨39, _⟩ => ⟨S1x256, .f32⟩
  | .hbm, ⟨40, _⟩ => ⟨S131072x256, .f32⟩
  | .hbm, ⟨41, _⟩ => ⟨S4352x256, .f32⟩
  | .hbm, ⟨42, _⟩ => ⟨S4352x128, .f32⟩
  | .hbm, ⟨43, _⟩ => ⟨S4352x256, .f32⟩
  | .hbm, ⟨44, _⟩ => ⟨S4352x256, .f32⟩
  | .hbm, ⟨45, _⟩ => ⟨S4352x256, .f32⟩
  | .hbm, ⟨46, _⟩ => ⟨S4096x256, .f32⟩
  | .local _ .vmem, ⟨0, _⟩ => ⟨S2048x128, .f32⟩
  | .local _ .vmem, ⟨1, _⟩ => ⟨S2048x128, .f32⟩
  | .local _ .vmem, ⟨2, _⟩ => ⟨S1x2048x1, .i32⟩
  | .local _ .vmem, ⟨3, _⟩ => ⟨S1x2048x1, .i32⟩
  | .local _ .vmem, ⟨4, _⟩ => ⟨S1x2048x1, .i32⟩
  | .local _ .vmem, ⟨5, _⟩ => ⟨S1x2048x1, .i32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S2048x256, .f32⟩
  | .local _ .vmem, ⟨12, _⟩ => ⟨S2048x256, .f32⟩
  | .local _ .vmem, ⟨13, _⟩ => ⟨S4352x256, .f32⟩
  | .local _ .vmem, ⟨14, _⟩ => ⟨S4352x128, .f32⟩
  | .local _ .vmem, ⟨15, _⟩ => ⟨S4352x256, .f32⟩
  | .local _ .vmem, ⟨16, _⟩ => ⟨S4352x128, .f32⟩
  | .local _ .vmem, ⟨17, _⟩ => ⟨S256x256, .f32⟩
  | .local _ .vmem, ⟨18, _⟩ => ⟨S4352x256, .f32⟩
  | .local _ .vmem, ⟨19, _⟩ => ⟨S4352x256, .f32⟩
  | .local _ .vmem, ⟨20, _⟩ => ⟨S2048x256, .f32⟩
  | .local _ .vmem, ⟨21, _⟩ => ⟨S2048x256, .f32⟩
  | .local _ .vmem, ⟨22, _⟩ => ⟨S1x2048x1, .i32⟩
  | .local _ .vmem, ⟨23, _⟩ => ⟨S1x2048x1, .i32⟩
  | .local _ .vmem, ⟨24, _⟩ => ⟨S4352x256, .f32⟩
  | .local _ .vmem, ⟨25, _⟩ => ⟨S4352x256, .f32⟩
  | .local _ .vmem, ⟨26, _⟩ => ⟨S256x256, .f32⟩
  | .local _ .vmem, ⟨27, _⟩ => ⟨S1x256, .f32⟩
  | .local _ .vmem, ⟨28, _⟩ => ⟨S1x256, .f32⟩
  | .local _ .vmem, ⟨29, _⟩ => ⟨S4352x256, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_call0_v0 : Ref sig .tc := ⟨.hbm, 22, rfl⟩
abbrev main_v5 : Ref sig .tc := ⟨.hbm, 23, rfl⟩
abbrev main_c_0 : Ref sig .tc := ⟨.hbm, 24, rfl⟩
abbrev main_call1_v0 : Ref sig .tc := ⟨.hbm, 25, rfl⟩
abbrev main_v6 : Ref sig .tc := ⟨.hbm, 26, rfl⟩
abbrev main_c_1 : Ref sig .tc := ⟨.hbm, 27, rfl⟩
abbrev main_call2_v0 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_call3_v0 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_call4_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v14_2 : Ref sig .tc := ⟨.hbm, 42, rfl⟩
abbrev main_v15_0 : Ref sig .tc := ⟨.hbm, 43, rfl⟩
abbrev main_v15_1 : Ref sig .tc := ⟨.hbm, 44, rfl⟩
abbrev main_v16 : Ref sig .tc := ⟨.hbm, 45, rfl⟩
abbrev main_v17 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29

abbrev nD : Nat := 1
abbrev τ : Topo := Topo.v7x

variable {F : FTy → Type} [FloatOps F]

abbrev grid0 : Pipeline.Grid := ⟨1, ![64], ![false]⟩

def k0_mult1 (v45 : BitVec 32) : BitVec 32 :=
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c8_i32 : BitVec 32 := 8#32
  let c0_i32_26 : BitVec 32 := 0#32
  let v52 : BitVec 1 := Scalar.cmpi .sgt c8_i32 c0_i32_26
  let v53 : BitVec 32 := Scalar.extui v52
  let c0_i32_27 : BitVec 32 := 0#32
  let v54 : BitVec 1 := Scalar.cmpi .slt c8_i32 c0_i32_27
  let v55 : BitVec 32 := Scalar.extui v54
  let v56 : BitVec 32 := Scalar.subi v53 v55
  let v57 : BitVec 1 := Scalar.cmpi .ne v51 v56
  let v58 : BitVec 32 := Scalar.remsi v45 c8_i32
  let c0_i32_28 : BitVec 32 := 0#32
  let v59 : BitVec 1 := Scalar.cmpi .ne v58 c0_i32_28
  let v60 : BitVec 1 := Scalar.andi v57 v59
  let v46 : BitVec 32 := Scalar.divsi v45 c8_i32
  let c1_i32 : BitVec 32 := 1#32
  let v61 : BitVec 32 := Scalar.subi v46 c1_i32
  let v62 : BitVec 32 := Scalar.select v60 v61 v46
  let c8_i32_29 : BitVec 32 := 8#32
  let v63 : BitVec 32 := Scalar.muli v62 c8_i32_29
  v63

def k0_off1 (v45 : BitVec 32) : Fin 2 → Nat :=
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c8_i32 : BitVec 32 := 8#32
  let c0_i32_26 : BitVec 32 := 0#32
  let v52 : BitVec 1 := Scalar.cmpi .sgt c8_i32 c0_i32_26
  let v53 : BitVec 32 := Scalar.extui v52
  let c0_i32_27 : BitVec 32 := 0#32
  let v54 : BitVec 1 := Scalar.cmpi .slt c8_i32 c0_i32_27
  let v55 : BitVec 32 := Scalar.extui v54
  let v56 : BitVec 32 := Scalar.subi v53 v55
  let v57 : BitVec 1 := Scalar.cmpi .ne v51 v56
  let v58 : BitVec 32 := Scalar.remsi v45 c8_i32
  let c0_i32_28 : BitVec 32 := 0#32
  let v59 : BitVec 1 := Scalar.cmpi .ne v58 c0_i32_28
  let v60 : BitVec 1 := Scalar.andi v57 v59
  let v46 : BitVec 32 := Scalar.divsi v45 c8_i32
  let c1_i32 : BitVec 32 := 1#32
  let v61 : BitVec 32 := Scalar.subi v46 c1_i32
  let v62 : BitVec 32 := Scalar.select v60 v61 v46
  let c8_i32_29 : BitVec 32 := 8#32
  let v63 : BitVec 32 := Scalar.muli v62 c8_i32_29
  let v64 : BitVec 32 := v63
  let v80 : Index := Scalar.indexCast v64
  let c0_33 : Index := 0#32
  ![v80.toNat, 0]
def k0_off2 (v45 : BitVec 32) : Fin 2 → Nat :=
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c8_i32 : BitVec 32 := 8#32
  let c0_i32_26 : BitVec 32 := 0#32
  let v52 : BitVec 1 := Scalar.cmpi .sgt c8_i32 c0_i32_26
  let v53 : BitVec 32 := Scalar.extui v52
  let c0_i32_27 : BitVec 32 := 0#32
  let v54 : BitVec 1 := Scalar.cmpi .slt c8_i32 c0_i32_27
  let v55 : BitVec 32 := Scalar.extui v54
  let v56 : BitVec 32 := Scalar.subi v53 v55
  let v57 : BitVec 1 := Scalar.cmpi .ne v51 v56
  let v58 : BitVec 32 := Scalar.remsi v45 c8_i32
  let c0_i32_28 : BitVec 32 := 0#32
  let v59 : BitVec 1 := Scalar.cmpi .ne v58 c0_i32_28
  let v60 : BitVec 1 := Scalar.andi v57 v59
  let v46 : BitVec 32 := Scalar.divsi v45 c8_i32
  let c1_i32 : BitVec 32 := 1#32
  let v61 : BitVec 32 := Scalar.subi v46 c1_i32
  let v62 : BitVec 32 := Scalar.select v60 v61 v46
  let c8_i32_29 : BitVec 32 := 8#32
  let v63 : BitVec 32 := Scalar.muli v62 c8_i32_29
  let v64 : BitVec 32 := v63
  let v86 : Index := Scalar.indexCast v64
  let c0_35 : Index := 0#32
  ![v86.toNat, 0]

def k0_chk1 (v45 : BitVec 32) : Prop :=
  (8 ∣ (k0_mult1 v45).toNat) ∧
  (∀ a, (k0_off1 v45) a + S256x256.size a ≤ S4352x256.size a) ∧
  (∀ a, (k0_off2 v45) a + S256x128.size a ≤ S4352x128.size a)
theorem k0_mult1_dvd : ∀ (v45 : BitVec 32) (k0_hw1 : k0_chk1 v45), 8 ∣ (k0_mult1 v45).toNat := fun v45 k0_hw1 => k0_hw1.1
theorem k0_off1_inb : ∀ (v45 : BitVec 32) (k0_hw1 : k0_chk1 v45), ∀ a, (k0_off1 v45) a + S256x256.size a ≤ S4352x256.size a := fun v45 k0_hw1 => k0_hw1.2.1
theorem k0_off2_inb : ∀ (v45 : BitVec 32) (k0_hw1 : k0_chk1 v45), ∀ a, (k0_off2 v45) a + S256x128.size a ≤ S4352x128.size a := fun v45 k0_hw1 => k0_hw1.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4352x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4352x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := .none

abbrev stage1_0 : Fin 1 → Memref sig .tc .vmem S4352x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4352x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4352x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4352x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![64], ![false]⟩

def k2_mult1 (v28 : BitVec 32) : BitVec 32 :=
  let c0_i32_14 : BitVec 32 := 0#32
  let v30 : BitVec 1 := Scalar.cmpi .sgt v28 c0_i32_14
  let v31 : BitVec 32 := Scalar.extui v30
  let c0_i32_15 : BitVec 32 := 0#32
  let v32 : BitVec 1 := Scalar.cmpi .slt v28 c0_i32_15
  let v33 : BitVec 32 := Scalar.extui v32
  let v34 : BitVec 32 := Scalar.subi v31 v33
  let c8_i32 : BitVec 32 := 8#32
  let c0_i32_16 : BitVec 32 := 0#32
  let v35 : BitVec 1 := Scalar.cmpi .sgt c8_i32 c0_i32_16
  let v36 : BitVec 32 := Scalar.extui v35
  let c0_i32_17 : BitVec 32 := 0#32
  let v37 : BitVec 1 := Scalar.cmpi .slt c8_i32 c0_i32_17
  let v38 : BitVec 32 := Scalar.extui v37
  let v39 : BitVec 32 := Scalar.subi v36 v38
  let v40 : BitVec 1 := Scalar.cmpi .ne v34 v39
  let v41 : BitVec 32 := Scalar.remsi v28 c8_i32
  let c0_i32_18 : BitVec 32 := 0#32
  let v42 : BitVec 1 := Scalar.cmpi .ne v41 c0_i32_18
  let v43 : BitVec 1 := Scalar.andi v40 v42
  let v29 : BitVec 32 := Scalar.divsi v28 c8_i32
  let c1_i32 : BitVec 32 := 1#32
  let v44 : BitVec 32 := Scalar.subi v29 c1_i32
  let v45 : BitVec 32 := Scalar.select v43 v44 v29
  let c8_i32_19 : BitVec 32 := 8#32
  let v46 : BitVec 32 := Scalar.muli v45 c8_i32_19
  v46

def k2_off1 (v28 : BitVec 32) : Fin 2 → Nat :=
  let c0_i32_14 : BitVec 32 := 0#32
  let v30 : BitVec 1 := Scalar.cmpi .sgt v28 c0_i32_14
  let v31 : BitVec 32 := Scalar.extui v30
  let c0_i32_15 : BitVec 32 := 0#32
  let v32 : BitVec 1 := Scalar.cmpi .slt v28 c0_i32_15
  let v33 : BitVec 32 := Scalar.extui v32
  let v34 : BitVec 32 := Scalar.subi v31 v33
  let c8_i32 : BitVec 32 := 8#32
  let c0_i32_16 : BitVec 32 := 0#32
  let v35 : BitVec 1 := Scalar.cmpi .sgt c8_i32 c0_i32_16
  let v36 : BitVec 32 := Scalar.extui v35
  let c0_i32_17 : BitVec 32 := 0#32
  let v37 : BitVec 1 := Scalar.cmpi .slt c8_i32 c0_i32_17
  let v38 : BitVec 32 := Scalar.extui v37
  let v39 : BitVec 32 := Scalar.subi v36 v38
  let v40 : BitVec 1 := Scalar.cmpi .ne v34 v39
  let v41 : BitVec 32 := Scalar.remsi v28 c8_i32
  let c0_i32_18 : BitVec 32 := 0#32
  let v42 : BitVec 1 := Scalar.cmpi .ne v41 c0_i32_18
  let v43 : BitVec 1 := Scalar.andi v40 v42
  let v29 : BitVec 32 := Scalar.divsi v28 c8_i32
  let c1_i32 : BitVec 32 := 1#32
  let v44 : BitVec 32 := Scalar.subi v29 c1_i32
  let v45 : BitVec 32 := Scalar.select v43 v44 v29
  let c8_i32_19 : BitVec 32 := 8#32
  let v46 : BitVec 32 := Scalar.muli v45 c8_i32_19
  let v47 : BitVec 32 := v46
  let v61 : Index := Scalar.indexCast v47
  let c0_21 : Index := 0#32
  ![v61.toNat, 0]

def k2_chk1 (v28 : BitVec 32) : Prop :=
  (8 ∣ (k2_mult1 v28).toNat) ∧
  (∀ a, (k2_off1 v28) a + S256x256.size a ≤ S4352x256.size a)
theorem k2_mult1_dvd : ∀ (v28 : BitVec 32) (k2_hw1 : k2_chk1 v28), 8 ∣ (k2_mult1 v28).toNat := fun v28 k2_hw1 => k2_hw1.1
theorem k2_off1_inb : ∀ (v28 : BitVec 32) (k2_hw1 : k2_chk1 v28), ∀ a, (k2_off1 v28) a + S256x256.size a ≤ S4352x256.size a := fun v28 k2_hw1 => k2_hw1.2

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4352x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4352x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S4352x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== ReferenceIdeal.lean ====
abbrev S65536x128 : Shape := ⟨2, ![65536, 128]⟩
abbrev S65536 : Shape := ⟨1, ![65536]⟩
abbrev S128x56 : Shape := ⟨2, ![128, 56]⟩
abbrev S56 : Shape := ⟨1, ![56]⟩
abbrev S200x200 : Shape := ⟨2, ![200, 200]⟩
abbrev S256x256 : Shape := ⟨2, ![256, 256]⟩
abbrev S256 : Shape := ⟨1, ![256]⟩
abbrev S256x1 : Shape := ⟨2, ![256, 1]⟩
abbrev S65536x56 : Shape := ⟨2, ![65536, 56]⟩
abbrev S1x56 : Shape := ⟨2, ![1, 56]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x200 : Shape := ⟨2, ![65536, 200]⟩
abbrev S65536x256 : Shape := ⟨2, ![65536, 256]⟩
abbrev S65535 : Shape := ⟨1, ![65535]⟩
abbrev S131072x256 : Shape := ⟨2, ![131072, 256]⟩
abbrev S131072 : Shape := ⟨1, ![131072]⟩
abbrev S4096x256 : Shape := ⟨2, ![4096, 256]⟩
abbrev S131072x1 : Shape := ⟨2, ![131072, 1]⟩
abbrev S4096x1 : Shape := ⟨2, ![4096, 1]⟩
abbrev S1x256 : Shape := ⟨2, ![1, 256]⟩

abbrev nBuf : Space → Nat
  | .hbm => 251
  | .vmem => 0
  | .smem => 0
  | _ => 0

abbrev hbmTy0_0 (i : Nat) : BufTy := match i % 128 with
  | 0 => ⟨S65536x128, .f32⟩
  | 1 => ⟨S65536x128, .f32⟩
  | 2 => ⟨S65536, .i32⟩
  | 3 => ⟨S65536, .i32⟩
  | 4 => ⟨S65536, .i32⟩
  | 5 => ⟨S65536, .i32⟩
  | 6 => ⟨S65536, .i32⟩
  | 7 => ⟨S128x56, .f32⟩
  | 8 => ⟨S56, .f32⟩
  | 9 => ⟨S128x56, .f32⟩
  | 10 => ⟨S56, .f32⟩
  | 11 => ⟨S200x200, .f32⟩
  | 12 => ⟨S256x256, .f32⟩
  | 13 => ⟨S256, .f32⟩
  | 14 => ⟨S256x256, .f32⟩
  | 15 => ⟨S256x1, .f32⟩
  | 16 => ⟨S65536x56, .f32⟩
  | 17 => ⟨S1x56, .f32⟩
  | 18 => ⟨S65536x56, .f32⟩
  | 19 => ⟨S65536x56, .f32⟩
  | 20 => ⟨S65536x56, .f32⟩
  | 21 => ⟨S1x56, .f32⟩
  | 22 => ⟨S65536x56, .f32⟩
  | 23 => ⟨S65536x56, .f32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S1, .i32⟩
  | 33 => ⟨S_, .i32⟩
  | 34 => ⟨S65536x1, .i32⟩
  | 35 => ⟨S65536x1, .i1⟩
  | 36 => ⟨S1x1, .i32⟩
  | 37 => ⟨S65536x1, .i32⟩
  | 38 => ⟨S65536x1, .i1⟩
  | 39 => ⟨S65536x1, .i1⟩
  | 40 => ⟨S_, .i1⟩
  | 41 => ⟨S65536, .i1⟩
  | 42 => ⟨S65536x200, .f32⟩
  | 43 => ⟨S65536x200, .i1⟩
  | 44 => ⟨S_, .f32⟩
  | 45 => ⟨S65536x200, .f32⟩
  | 46 => ⟨S65536x200, .f32⟩
  | 47 => ⟨S65536x256, .f32⟩
  | 48 => ⟨S65536x256, .f32⟩
  | 49 => ⟨S1, .i32⟩
  | 50 => ⟨S65535, .i32⟩
  | 51 => ⟨S65536, .i32⟩
  | 52 => ⟨S_, .i32⟩
  | 53 => ⟨S1, .i32⟩
  | 54 => ⟨S_, .i32⟩
  | 55 => ⟨S65536, .i32⟩
  | 56 => ⟨S_, .i32⟩
  | 57 => ⟨S_, .i32⟩
  | 58 => ⟨S65536, .i32⟩
  | 59 => ⟨S_, .i32⟩
  | 60 => ⟨S65536, .i32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S65536x1, .i32⟩
  | 69 => ⟨S_, .i32⟩
  | 70 => ⟨S65536, .i32⟩
  | 71 => ⟨S65536, .i32⟩
  | 72 => ⟨S_, .i32⟩
  | 73 => ⟨S_, .i32⟩
  | 74 => ⟨S65536, .i32⟩
  | 75 => ⟨S_, .i32⟩
  | 76 => ⟨S65536, .i32⟩
  | 77 => ⟨S65536, .i32⟩
  | 78 => ⟨S_, .i32⟩
  | 79 => ⟨S65536, .i32⟩
  | 80 => ⟨S65536, .i1⟩
  | 81 => ⟨S_, .i32⟩
  | 82 => ⟨S65536, .i32⟩
  | 83 => ⟨S65536, .i32⟩
  | 84 => ⟨S65536, .i32⟩
  | 85 => ⟨S65536x1, .i32⟩
  | 86 => ⟨S1, .i32⟩
  | 87 => ⟨S_, .i32⟩
  | 88 => ⟨S65536x1, .i32⟩
  | 89 => ⟨S65536x1, .i1⟩
  | 90 => ⟨S1x1, .i32⟩
  | 91 => ⟨S65536x1, .i32⟩
  | 92 => ⟨S65536x1, .i1⟩
  | 93 => ⟨S65536x1, .i1⟩
  | 94 => ⟨S_, .i1⟩
  | 95 => ⟨S65536, .i1⟩
  | 96 => ⟨S65536x56, .f32⟩
  | 97 => ⟨S65536x56, .i1⟩
  | 98 => ⟨S_, .f32⟩
  | 99 => ⟨S65536x56, .f32⟩
  | 100 => ⟨S65536x56, .f32⟩
  | 101 => ⟨S_, .i32⟩
  | 102 => ⟨S65536, .i32⟩
  | 103 => ⟨S65536, .i1⟩
  | 104 => ⟨S_, .i32⟩
  | 105 => ⟨S65536, .i32⟩
  | 106 => ⟨S65536, .i32⟩
  | 107 => ⟨S65536, .i32⟩
  | 108 => ⟨S65536x1, .i32⟩
  | 109 => ⟨S1, .i32⟩
  | 110 => ⟨S_, .i32⟩
  | 111 => ⟨S65536x1, .i32⟩
  | 112 => ⟨S65536x1, .i1⟩
  | 113 => ⟨S1x1, .i32⟩
  | 114 => ⟨S65536x1, .i32⟩
  | 115 => ⟨S65536x1, .i1⟩
  | 116 => ⟨S65536x1, .i1⟩
  | 117 => ⟨S_, .i1⟩
  | 118 => ⟨S65536, .i1⟩
  | 119 => ⟨S65536x200, .f32⟩
  | 120 => ⟨S65536x200, .i1⟩
  | 121 => ⟨S_, .f32⟩
  | 122 => ⟨S65536x200, .f32⟩
  | 123 => ⟨S65536x200, .f32⟩
  | 124 => ⟨S65536x256, .f32⟩
  | 125 => ⟨S65536x256, .f32⟩
  | 126 => ⟨S1, .i32⟩
  | 127 => ⟨S65535, .i32⟩
  | _ => ⟨S65536x128, .f32⟩

abbrev hbmTy0_1 (i : Nat) : BufTy := match i % 128 with
  | 0 => ⟨S65536, .i32⟩
  | 1 => ⟨S_, .i32⟩
  | 2 => ⟨S1, .i32⟩
  | 3 => ⟨S_, .i32⟩
  | 4 => ⟨S65536, .i32⟩
  | 5 => ⟨S_, .i32⟩
  | 6 => ⟨S_, .i32⟩
  | 7 => ⟨S65536, .i32⟩
  | 8 => ⟨S_, .i32⟩
  | 9 => ⟨S65536, .i32⟩
  | 10 => ⟨S_, .i32⟩
  | 11 => ⟨S65536, .i32⟩
  | 12 => ⟨S65536, .i1⟩
  | 13 => ⟨S_, .i32⟩
  | 14 => ⟨S65536, .i32⟩
  | 15 => ⟨S65536, .i32⟩
  | 16 => ⟨S65536, .i32⟩
  | 17 => ⟨S65536x1, .i32⟩
  | 18 => ⟨S_, .i32⟩
  | 19 => ⟨S65536, .i32⟩
  | 20 => ⟨S65536, .i32⟩
  | 21 => ⟨S_, .i32⟩
  | 22 => ⟨S_, .i32⟩
  | 23 => ⟨S65536, .i32⟩
  | 24 => ⟨S_, .i32⟩
  | 25 => ⟨S65536, .i32⟩
  | 26 => ⟨S65536, .i32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S1, .i32⟩
  | 36 => ⟨S_, .i32⟩
  | 37 => ⟨S65536x1, .i32⟩
  | 38 => ⟨S65536x1, .i1⟩
  | 39 => ⟨S1x1, .i32⟩
  | 40 => ⟨S65536x1, .i32⟩
  | 41 => ⟨S65536x1, .i1⟩
  | 42 => ⟨S65536x1, .i1⟩
  | 43 => ⟨S_, .i1⟩
  | 44 => ⟨S65536, .i1⟩
  | 45 => ⟨S65536, .i32⟩
  | 46 => ⟨S_, .i32⟩
  | 47 => ⟨S65536, .i32⟩
  | 48 => ⟨S65536, .i32⟩
  | 49 => ⟨S131072x256, .f32⟩
  | 50 => ⟨S131072, .i32⟩
  | 51 => ⟨S_, .f32⟩
  | 52 => ⟨S4096x256, .f32⟩
  | 53 => ⟨S131072x1, .i32⟩
  | 54 => ⟨S4096x256, .f32⟩
  | 55 => ⟨S_, .f32⟩
  | 56 => ⟨S131072x1, .f32⟩
  | 57 => ⟨S_, .f32⟩
  | 58 => ⟨S4096x1, .f32⟩
  | 59 => ⟨S131072x1, .i32⟩
  | 60 => ⟨S4096x1, .f32⟩
  | 61 => ⟨S_, .f32⟩
  | 62 => ⟨S_, .f32⟩
  | 63 => ⟨S4096x1, .f32⟩
  | 64 => ⟨S4096x1, .f32⟩
  | 65 => ⟨S4096x256, .f32⟩
  | 66 => ⟨S4096x256, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S131072x1, .i32⟩
  | 75 => ⟨S1, .i32⟩
  | 76 => ⟨S_, .i32⟩
  | 77 => ⟨S131072x1, .i32⟩
  | 78 => ⟨S131072x1, .i1⟩
  | 79 => ⟨S1x1, .i32⟩
  | 80 => ⟨S131072x1, .i32⟩
  | 81 => ⟨S131072x1, .i1⟩
  | 82 => ⟨S131072x1, .i1⟩
  | 83 => ⟨S_, .i1⟩
  | 84 => ⟨S131072, .i1⟩
  | 85 => ⟨S131072x256, .f32⟩
  | 86 => ⟨S131072x256, .i1⟩
  | 87 => ⟨S_, .f32⟩
  | 88 => ⟨S131072x256, .f32⟩
  | 89 => ⟨S131072x256, .f32⟩
  | 90 => ⟨S131072x256, .f32⟩
  | 91 => ⟨S1x256, .f32⟩
  | 92 => ⟨S131072x256, .f32⟩
  | 93 => ⟨S131072x256, .f32⟩
  | 94 => ⟨S131072x256, .f32⟩
  | 95 => ⟨S131072x256, .f32⟩
  | 96 => ⟨S131072x256, .f32⟩
  | 97 => ⟨S131072x256, .f32⟩
  | 98 => ⟨S_, .f32⟩
  | 99 => ⟨S131072x256, .f32⟩
  | 100 => ⟨S131072x256, .f32⟩
  | 101 => ⟨S_, .f32⟩
  | 102 => ⟨S131072x256, .f32⟩
  | 103 => ⟨S131072x256, .f32⟩
  | 104 => ⟨S131072x1, .f32⟩
  | 105 => ⟨S131072x256, .f32⟩
  | 106 => ⟨S131072x256, .f32⟩
  | 107 => ⟨S_, .f32⟩
  | 108 => ⟨S4096x256, .f32⟩
  | 109 => ⟨S131072x1, .i32⟩
  | 110 => ⟨S4096x256, .f32⟩
  | 111 => ⟨S_, .f32⟩
  | 112 => ⟨S131072x1, .f32⟩
  | 113 => ⟨S_, .f32⟩
  | 114 => ⟨S4096x1, .f32⟩
  | 115 => ⟨S131072x1, .i32⟩
  | 116 => ⟨S4096x1, .f32⟩
  | 117 => ⟨S_, .f32⟩
  | 118 => ⟨S_, .f32⟩
  | 119 => ⟨S4096x1, .f32⟩
  | 120 => ⟨S4096x1, .f32⟩
  | 121 => ⟨S4096x256, .f32⟩
  | 122 => ⟨S4096x256, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_call1_v0 : Ref sig .tc := ⟨.hbm, 49, rfl⟩
abbrev main_call1_v1 : Ref sig .tc := ⟨.hbm, 50, rfl⟩
abbrev main_v11 : Ref sig .tc := ⟨.hbm, 51, rfl⟩
abbrev main_c : Ref sig .tc := ⟨.hbm, 52, rfl⟩
abbrev main_v12 : Ref sig .tc := ⟨.hbm, 53, rfl⟩
abbrev main_c_0 : Ref sig .tc := ⟨.hbm, 54, rfl⟩
abbrev main_v13 : Ref sig .tc := ⟨.hbm, 55, rfl⟩
abbrev main_call2_call0_c : Ref sig .tc := ⟨.hbm, 56, rfl⟩
abbrev main_call2_call0_v0 : Ref sig .tc := ⟨.hbm, 57, rfl⟩
abbrev main_v14 : Ref sig .tc := ⟨.hbm, 58, rfl⟩
abbrev main_c_1 : Ref sig .tc := ⟨.hbm, 59, rfl⟩
abbrev main_v15 : Ref sig .tc := ⟨.hbm, 60, rfl⟩
abbrev main_c_2 : Ref sig .tc := ⟨.hbm, 61, rfl⟩
abbrev main_v16 : Ref sig .tc := ⟨.hbm, 62, rfl⟩
abbrev main_v17 : Ref sig .tc := ⟨.hbm, 63, rfl⟩
abbrev main_c_3 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_c_4 : Ref sig .tc := ⟨.hbm, 69, rfl⟩
abbrev main_v22 : Ref sig .tc := ⟨.hbm, 70, rfl⟩
abbrev main_v23 : Ref sig .tc := ⟨.hbm, 71, rfl⟩
abbrev main_call3_call0_c : Ref sig .tc := ⟨.hbm, 72, rfl⟩
abbrev main_call3_call0_v0 : Ref sig .tc := ⟨.hbm, 73, rfl⟩
abbrev main_v24 : Ref sig .tc := ⟨.hbm, 74, rfl⟩
abbrev main_c_5 : Ref sig .tc := ⟨.hbm, 75, rfl⟩
abbrev main_v25 : Ref sig .tc := ⟨.hbm, 76, rfl⟩
abbrev main_v26 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_v14 : Ref sig .tc := ⟨.hbm, 97, rfl⟩
abbrev main_call4_cst : Ref sig .tc := ⟨.hbm, 98, rfl⟩
abbrev main_call4_v15 : Ref sig .tc := ⟨.hbm, 99, rfl⟩
abbrev main_v27 : Ref sig .tc := ⟨.hbm, 100, rfl⟩
abbrev main_call5_c : Ref sig .tc := ⟨.hbm, 101, rfl⟩
abbrev main_call5_v0 : Ref sig .tc := ⟨.hbm, 102, rfl⟩
abbrev main_call5_v1 : Ref sig .tc := ⟨.hbm, 103, rfl⟩
abbrev main_call5_c_0 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_c_1 : Ref sig .tc := ⟨.hbm, 109, rfl⟩
abbrev main_call5_c_2 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_c_3 : Ref sig .tc := ⟨.hbm, 117, rfl⟩
abbrev main_call5_v12 : Ref sig .tc := ⟨.hbm, 118, rfl⟩
abbrev main_call5_v13 : Ref sig .tc := ⟨.hbm, 119, rfl⟩
abbrev main_call5_v14 : Ref sig .tc := ⟨.hbm, 120, rfl⟩
abbrev main_call5_cst : Ref sig .tc := ⟨.hbm, 121, rfl⟩
abbrev main_call5_v15 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_call6_v0 : Ref sig .tc := ⟨.hbm, 126, rfl⟩
abbrev main_call6_v1 : Ref sig .tc := ⟨.hbm, 127, rfl⟩
abbrev main_v31 : Ref sig .tc := ⟨.hbm, 128, rfl⟩
abbrev main_c_6 : Ref sig .tc := ⟨.hbm, 129, rfl⟩
abbrev main_v32 : Ref sig .tc := ⟨.hbm, 130, rfl⟩
abbrev main_c_7 : Ref sig .tc := ⟨.hbm, 131, rfl⟩
abbrev main_v33 : Ref sig .tc := ⟨.hbm, 132, rfl⟩
abbrev main_call7_call0_c : Ref sig .tc := ⟨.hbm, 133, rfl⟩
abbrev main_call7_call0_v0 : Ref sig .tc := ⟨.hbm, 134, rfl⟩
abbrev main_v34 : Ref sig .tc := ⟨.hbm, 135, rfl⟩
abbrev main_c_8 : Ref sig .tc := ⟨.hbm, 136, rfl⟩
abbrev main_v35 : Ref sig .tc := ⟨.hbm, 137, rfl⟩
abbrev main_c_9 : Ref sig .tc := ⟨.hbm, 138, rfl⟩
abbrev main_v36 : Ref sig .tc := ⟨.hbm, 139, rfl⟩
abbrev main_v37 : Ref sig .tc := ⟨.hbm, 140, rfl⟩
abbrev main_c_10 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_c_11 : Ref sig .tc := ⟨.hbm, 146, rfl⟩
abbrev main_v42 : Ref sig .tc := ⟨.hbm, 147, rfl⟩
abbrev main_v43 : Ref sig .tc := ⟨.hbm, 148, rfl⟩
abbrev main_call8_call0_c : Ref sig .tc := ⟨.hbm, 149, rfl⟩
abbrev main_call8_call0_v0 : Ref sig .tc := ⟨.hbm, 150, rfl⟩
abbrev main_v44 : Ref sig .tc := ⟨.hbm, 151, rfl⟩
abbrev main_c_12 : Ref sig .tc := ⟨.hbm, 152, rfl⟩
abbrev main_v45 : Ref sig .tc := ⟨.hbm, 153, rfl⟩
abbrev main_v46 : Ref sig .tc := ⟨.hbm, 154, rfl⟩
abbrev main_call9_c : Ref sig .tc := ⟨.hbm, 155, rfl⟩
abbrev main_call9_v0 : Ref sig .tc := ⟨.hbm, 156, rfl⟩
abbrev main_call9_v1 : Ref sig .tc := ⟨.hbm, 157, rfl⟩
abbrev main_call9_c_0 : Ref sig .tc := ⟨.hbm, 158, rfl⟩
abbrev main_call9_v2 : Ref sig .tc := ⟨.hbm, 159, rfl⟩
abbrev main_call9_v3 : Ref sig .tc := ⟨.hbm, 160, rfl⟩
abbrev main_call9_v4 : Ref sig .tc := ⟨.hbm, 161, rfl⟩
abbrev main_call9_v5 : Ref sig .tc := ⟨.hbm, 162, rfl⟩
abbrev main_call9_c_1 : Ref sig .tc := ⟨.hbm, 163, rfl⟩
abbrev main_call9_c_2 : Ref sig .tc := ⟨.hbm, 164, rfl⟩
abbrev main_call9_v6 : Ref sig .tc := ⟨.hbm, 165, rfl⟩
abbrev main_call9_v7 : Ref sig .tc := ⟨.hbm, 166, rfl⟩
abbrev main_call9_v8 : Ref sig .tc := ⟨.hbm, 167, rfl⟩
abbrev main_call9_v9 : Ref sig .tc := ⟨.hbm, 168, rfl⟩
abbrev main_call9_v10 : Ref sig .tc := ⟨.hbm, 169, rfl⟩
abbrev main_call9_v11 : Ref sig .tc := ⟨.hbm, 170, rfl⟩
abbrev main_call9_c_3 : Ref sig .tc := ⟨.hbm, 171, rfl⟩
abbrev main_call9_v12 : Ref sig .tc := ⟨.hbm, 172, rfl⟩
abbrev main_call9_v13 : Ref sig .tc := ⟨.hbm, 173, rfl⟩
abbrev main_call9_c_4 : Ref sig .tc := ⟨.hbm, 174, rfl⟩
abbrev main_call9_v14 : Ref sig .tc := ⟨.hbm, 175, rfl⟩
abbrev main_v47 : Ref sig .tc := ⟨.hbm, 176, rfl⟩
abbrev main_v48 : Ref sig .tc := ⟨.hbm, 177, rfl⟩
abbrev main_v49 : Ref sig .tc := ⟨.hbm, 178, rfl⟩
abbrev main_cst : Ref sig .tc := ⟨.hbm, 179, rfl⟩
abbrev main_v50 : Ref sig .tc := ⟨.hbm, 180, rfl⟩
abbrev main_v51 : Ref sig .tc := ⟨.hbm, 181, rfl⟩
abbrev main_v52 : Ref sig .tc := ⟨.hbm, 182, rfl⟩
abbrev main_cst_13 : Ref sig .tc := ⟨.hbm, 183, rfl⟩
abbrev main_v53 : Ref sig .tc := ⟨.hbm, 184, rfl⟩
abbrev main_cst_14 : Ref sig .tc := ⟨.hbm, 185, rfl⟩
abbrev main_v54 : Ref sig .tc := ⟨.hbm, 186, rfl⟩
abbrev main_v55 : Ref sig .tc := ⟨.hbm, 187, rfl⟩
abbrev main_v56 : Ref sig .tc := ⟨.hbm, 188, rfl⟩
abbrev main_cst_15 : Ref sig .tc := ⟨.hbm, 189, rfl⟩
abbrev main_call10_v0 : Ref sig .tc := ⟨.hbm, 190, rfl⟩
abbrev main_call10_v1 : Ref sig .tc := ⟨.hbm, 191, rfl⟩
abbrev main_v57 : Ref sig .tc := ⟨.hbm, 192, rfl⟩
abbrev main_v58 : Ref sig .tc := ⟨.hbm, 193, rfl⟩
abbrev main_v59 : Ref sig .tc := ⟨.hbm, 194, rfl⟩
abbrev main_call11_c : Ref sig .tc := ⟨.hbm, 195, rfl⟩
abbrev main_call11_v0 : Ref sig .tc := ⟨.hbm, 196, rfl⟩
abbrev main_call11_v1 : Ref sig .tc := ⟨.hbm, 197, rfl⟩
abbrev main_call11_c_0 : Ref sig .tc := ⟨.hbm, 198, rfl⟩
abbrev main_call11_v2 : Ref sig .tc := ⟨.hbm, 199, rfl⟩
abbrev main_call11_v3 : Ref sig .tc := ⟨.hbm, 200, rfl⟩
abbrev main_call11_v4 : Ref sig .tc := ⟨.hbm, 201, rfl⟩
abbrev main_call11_v5 : Ref sig .tc := ⟨.hbm, 202, rfl⟩
abbrev main_call11_c_1 : Ref sig .tc := ⟨.hbm, 203, rfl⟩
abbrev main_call11_c_2 : Ref sig .tc := ⟨.hbm, 204, rfl⟩
abbrev main_call11_v6 : Ref sig .tc := ⟨.hbm, 205, rfl⟩
abbrev main_call11_v7 : Ref sig .tc := ⟨.hbm, 206, rfl⟩
abbrev main_call11_v8 : Ref sig .tc := ⟨.hbm, 207, rfl⟩
abbrev main_call11_v9 : Ref sig .tc := ⟨.hbm, 208, rfl⟩
abbrev main_call11_v10 : Ref sig .tc := ⟨.hbm, 209, rfl⟩
abbrev main_call11_v11 : Ref sig .tc := ⟨.hbm, 210, rfl⟩
abbrev main_call11_c_3 : Ref sig .tc := ⟨.hbm, 211, rfl⟩
abbrev main_call11_v12 : Ref sig .tc := ⟨.hbm, 212, rfl⟩
abbrev main_call11_v13 : Ref sig .tc := ⟨.hbm, 213, rfl⟩
abbrev main_call11_v14 : Ref sig .tc := ⟨.hbm, 214, rfl⟩
abbrev main_call11_cst : Ref sig .tc := ⟨.hbm, 215, rfl⟩
abbrev main_call11_v15 : Ref sig .tc := ⟨.hbm, 216, rfl⟩
abbrev main_v60 : Ref sig .tc := ⟨.hbm, 217, rfl⟩
abbrev main_v61 : Ref sig .tc := ⟨.hbm, 218, rfl⟩
abbrev main_v62 : Ref sig .tc := ⟨.hbm, 219, rfl⟩
abbrev main_v63 : Ref sig .tc := ⟨.hbm, 220, rfl⟩
abbrev main_v64 : Ref sig .tc := ⟨.hbm, 221, rfl⟩
abbrev main_v65 : Ref sig .tc := ⟨.hbm, 222, rfl⟩
abbrev main_v66 : Ref sig .tc := ⟨.hbm, 223, rfl⟩
abbrev main_v67 : Ref sig .tc := ⟨.hbm, 224, rfl⟩
abbrev main_v68 : Ref sig .tc := ⟨.hbm, 225, rfl⟩
abbrev main_cst_16 : Ref sig .tc := ⟨.hbm, 226, rfl⟩
abbrev main_v69 : Ref sig .tc := ⟨.hbm, 227, rfl⟩
abbrev main_v70 : Ref sig .tc := ⟨.hbm, 228, rfl⟩
abbrev main_cst_17 : Ref sig .tc := ⟨.hbm, 229, rfl⟩
abbrev main_v71 : Ref sig .tc := ⟨.hbm, 230, rfl⟩
abbrev main_v72 : Ref sig .tc := ⟨.hbm, 231, rfl⟩
abbrev main_v73 : Ref sig .tc := ⟨.hbm, 232, rfl⟩
abbrev main_v74 : Ref sig .tc := ⟨.hbm, 233, rfl⟩
abbrev main_v75 : Ref sig .tc := ⟨.hbm, 234, rfl⟩
abbrev main_cst_18 : Ref sig .tc := ⟨.hbm, 235, rfl⟩
abbrev main_v76 : Ref sig .tc := ⟨.hbm, 236, rfl⟩
abbrev main_v77 : Ref sig .tc := ⟨.hbm, 237, rfl⟩
abbrev main_v78 : Ref sig .tc := ⟨.hbm, 238, rfl⟩
abbrev main_cst_19 : Ref sig .tc := ⟨.hbm, 239, rfl⟩
abbrev main_v79 : Ref sig .tc := ⟨.hbm, 240, rfl⟩
abbrev main_cst_20 : Ref sig .tc := ⟨.hbm, 241, rfl⟩
abbrev main_v80 : Ref sig .tc := ⟨.hbm, 242, rfl⟩
abbrev main_v81 : Ref sig .tc := ⟨.hbm, 243, rfl⟩
abbrev main_v82 : Ref sig .tc := ⟨.hbm, 244, rfl⟩
abbrev main_cst_21 : Ref sig .tc := ⟨.hbm, 245, rfl⟩
abbrev main_call12_v0 : Ref sig .tc := ⟨.hbm, 246, rfl⟩
abbrev main_call12_v1 : Ref sig .tc := ⟨.hbm, 247, rfl⟩
abbrev main_v83 : Ref sig .tc := ⟨.hbm, 248, rfl⟩
abbrev main_v84 : Ref sig .tc := ⟨.hbm, 249, rfl⟩
abbrev main_v85 : Ref sig .tc := ⟨.hbm, 250, rfl⟩

abbrev nD : Nat := 1
abbrev τ : Topo := Topo.v7x

variable {F : FTy → Type} [FloatOps F]
-- ==== Proof.Word.lean ====
/- Integer facts about one step of a kernel's loop over windows of segments, stated apart from the kernel: the minimum
   of a column of words, the count of a column of bits, the comparisons of small words as comparisons of naturals, and
   the multiple of eight at or below a segment. -/
module

public import Idealize.ShloMosaic.PureOps.Reduce
public import Idealize.ShloMosaic.Lib.WordSum
public import Idealize.ShloMosaic.Lib.ValueIdx
public import Idealize.ShloMosaic.Lib.ValueLayout
public import Idealize.ShloMosaic.Lib.Pipeline.Value

@[expose] public section

namespace Cert.Window

open Idealize.ShloMosaic Idealize.ShloMosaic.ValueIdx

/-- The shape of a block's column of segments. -/
abbrev Col : Shape := ⟨2, ![2048, 1]⟩
/-- The column as the reductions read it. -/
abbrev Col3 : Shape := ⟨3, ![1, 2048, 1]⟩
/-- The one number a reduction leaves. -/
abbrev One1 : Shape := ⟨1, ![1]⟩
/-- The same as the program extracts it. -/
abbrev One3 : Shape := ⟨3, ![1, 1, 1]⟩

/-- The signed minimum of two words without sign is their minimum as naturals. -/
theorem minsi_eq (x y : BitVec 32) (hx : x.toNat < 2 ^ 31) (hy : y.toNat < 2 ^ 31) :
    IntOp.minsi x y = if x.toNat ≤ y.toNat then x else y := by
  have hxi : x.toInt = x.toNat := by rw [BitVec.toInt_eq_toNat_cond]; omega
  have hyi : y.toInt = y.toNat := by rw [BitVec.toInt_eq_toNat_cond]; omega
  unfold IntOp.minsi
  simp only [BitVec.slt, hxi, hyi, Nat.cast_lt, decide_eq_true_eq]
  by_cases h : x.toNat = y.toNat
  · rw [BitVec.eq_of_toNat_eq h]; simp
  · by_cases h' : x.toNat < y.toNat
    · rw [if_pos h', if_pos h'.le]
    · rw [if_neg h', if_neg (by omega)]

/-- The fold of the signed minimum over words without sign: below each of them, and one of them unless it is where the
fold started. -/
theorem fold_minsi {ι : Type} (S : Finset ι) (f : ι → BitVec 32) (hf : ∀ i, (f i).toNat < 2 ^ 31) :
    (S.fold IntOp.minsi 2147483647#32 f).toNat < 2 ^ 31 ∧ (∀ i ∈ S, (S.fold IntOp.minsi 2147483647#32 f).toNat ≤ (f i).toNat)
      ∧ (S.fold IntOp.minsi 2147483647#32 f = 2147483647#32 ∨ ∃ i ∈ S, S.fold IntOp.minsi 2147483647#32 f = f i) := by
  induction S using Finset.cons_induction with
  | empty => simp
  | cons a S ha ih =>
    obtain ⟨h1, h2, h3⟩ := ih
    rw [Finset.fold_cons, minsi_eq _ _ (hf a) h1]
    split
    · rename_i hle
      refine ⟨hf a, fun i hi => ?_, Or.inr ⟨a, Finset.mem_cons_self _ _, rfl⟩⟩
      rcases Finset.mem_cons.1 hi with rfl | hi
      · exact le_rfl
      · exact hle.trans (h2 i hi)
    · rename_i hle
      refine ⟨h1, fun i hi => ?_, ?_⟩
      · rcases Finset.mem_cons.1 hi with rfl | hi
        · omega
        · exact h2 i hi
      · rcases h3 with h3 | ⟨i, hi, h3⟩
        · exact Or.inl h3
        · exact Or.inr ⟨i, Finset.mem_cons_of_mem hi, h3⟩

/-- The one index of the reduced shape. -/
theorem one1_eq (i j : One1.Idx) : i = j := by
  funext a
  have h1 := (i a).isLt
  have h2 := (j a).isLt
  obtain rfl : a = 0 := Fin.fin_one_eq_zero a
  exact Fin.ext (by have h1 : (i 0).val < 1 := h1; have h2 : (j 0).val < 1 := h2; omega)

/-- An index of the column is its row. -/
theorem col_eq (x : Col.Idx) : x = ix2 (x 0) (0 : Fin 1) := by
  rw [eq_ix2 x]
  congr 1
  exact Fin.fin_one_eq_zero _

/-- An index of the column as the reductions read it is its row. -/
theorem col3_eq (x : Col3.Idx) : x = ix3 (0 : Fin 1) (x 1 : Fin 2048) (0 : Fin 1) := by
  funext a
  match a with
  | ⟨0, _⟩ => exact Fin.fin_one_eq_zero (x 0)
  | ⟨1, _⟩ => rfl
  | ⟨2, _⟩ => exact Fin.fin_one_eq_zero (x 2)

/-- The column cast for a reduction reads, at an index, the column at its row. -/
theorem col3_read {α : Type} (t : Col.Idx → α) (hc : Col.ShapeCasts Col3) (x : Col3.Idx) (r : Fin 2048) (hx : r = x 1) :
    shapeCast Col3 t hc x = t (ix2 r (0 : Fin 1)) := by
  subst hx
  exact (congrArg (shapeCast Col3 t hc) (col3_eq x)).trans (shapeCast_ab_1ab_apply t hc (0 : Fin 1) (x 1 : Fin 2048) (0 : Fin 1))

/-- Extracting the reduced number reads the reduction at its one index. -/
theorem extract_one (v : One1.Idx → BitVec 32) (hc : One1.ShapeCasts One3) (hp : ∀ a, (![0, 0, 0] : Fin 3 → ℕ) a < One3.size a) :
    extractAt ![0, 0, 0] (shapeCast One3 v hc) hp = v (ix1 (0 : Fin 1)) := by
  unfold extractAt shapeCast
  exact congrArg v (one1_eq _ _)

/-- The minimum of a column of words below `2 ^ 31 - 1`: one of them, and below each. -/
theorem min_column (t : IVec Col 32) (hs : ∀ x, (t x).toNat < 2147483647) (hc : Col.ShapeCasts Col3)
    (hr : Col3.Reduces [1, 2] One1) (ha : (2147483647#32 : BitVec 32) = IKind.minsi.neutral) (hc1 : One1.ShapeCasts One3)
    (hp : ∀ a, (![0, 0, 0] : Fin 3 → ℕ) a < One3.size a) (m : BitVec 32)
    (hm : m = extractAt ![0, 0, 0] (shapeCast One3 (multiReductionI .minsi [1, 2] One1 (shapeCast Col3 t hc) 2147483647#32 hr ha) hc1) hp) :
    (∃ i : Fin 2048, m = t (ix2 i (0 : Fin 1))) ∧ ∀ i : Fin 2048, m.toNat ≤ (t (ix2 i (0 : Fin 1))).toNat := by
  rw [extract_one, multiReductionI_eq_fold] at hm
  have key := fold_minsi (Finset.univ.filter fun i => hr.drop i = ix1 (0 : Fin 1)) (shapeCast Col3 t hc)
    (fun i => by unfold shapeCast; exact (hs _).trans (by norm_num))
  have hm' : m = Finset.fold IntOp.minsi 2147483647#32 (shapeCast Col3 t hc) (Finset.univ.filter fun i => hr.drop i = ix1 (0 : Fin 1)) := hm
  rw [← hm'] at key
  obtain ⟨-, h2, h3⟩ := key
  have hle : ∀ i : Fin 2048, m.toNat ≤ (t (ix2 i (0 : Fin 1))).toNat := fun i => by
    have := h2 (ix3 (0 : Fin 1) i (0 : Fin 1)) (Finset.mem_filter.2 ⟨Finset.mem_univ _, one1_eq _ _⟩)
    rwa [shapeCast_ab_1ab_apply] at this
  refine ⟨?_, hle⟩
  rcases h3 with h3 | ⟨i, -, h3⟩
  · have h0 := hle 0
    have h1 := hs (ix2 (0 : Fin 2048) (0 : Fin 1))
    rw [h3] at h0
    simp only [BitVec.toNat_ofNat] at h0
    omega
  · exact ⟨i 1, h3.trans (col3_read t hc i (i 1) rfl)⟩

/-- The sum of a column of bits, widened, is the number of its ones. -/
theorem count_column (b : IVec Col 1) (hw : 1 < 32) (hc : Col.ShapeCasts Col3) (hr : Col3.Reduces [1, 2] One1)
    (ha : (0#32 : BitVec 32) = IKind.add.neutral) (hc1 : One1.ShapeCasts One3)
    (hp : ∀ a, (![0, 0, 0] : Fin 3 → ℕ) a < One3.size a) :
    (extractAt ![0, 0, 0] (shapeCast One3 (multiReductionI .add [1, 2] One1 (shapeCast Col3 (extui 32 b hw) hc) 0#32 hr ha) hc1) hp).toNat
      = (Finset.univ.filter fun i : Fin 2048 => b (ix2 i (0 : Fin 1)) = 1#1).card := by
  have hsum : ∑ i ∈ Finset.univ.filter (fun i => hr.drop i = ix1 (0 : Fin 1)), (shapeCast Col3 (extui 32 b hw) hc i).toNat
      = (Finset.univ.filter fun i : Fin 2048 => b (ix2 i (0 : Fin 1)) = 1#1).card := by
    rw [Finset.filter_true_of_mem (fun i _ => one1_eq _ _), Finset.card_filter]
    refine Finset.sum_nbij' (fun i : Col3.Idx => (i 1 : Fin 2048)) (fun i => ix3 (0 : Fin 1) i (0 : Fin 1)) ?_ ?_ ?_ ?_ ?_
    · intro i _; exact Finset.mem_univ _
    · intro i _; exact Finset.mem_univ _
    · intro i _
      exact (col3_eq i).symm
    · intro i _; rfl
    · intro i _
      have e := col3_read (extui 32 b hw) hc i (i 1) rfl
      rw [extui_apply] at e
      refine (congrArg BitVec.toNat e).trans ?_
      show _ = if b (ix2 (i 1 : Fin 2048) (0 : Fin 1)) = 1#1 then 1 else 0
      rcases BitVec.eq_zero_or_eq_one (b (ix2 (i 1 : Fin 2048) (0 : Fin 1))) with h | h <;> rw [h] <;> decide
  rw [extract_one, WordSum.toNat_multiReductionI_add, hsum]
  rw [hsum]
  refine lt_of_le_of_lt (Finset.card_le_univ _) ?_
  simp

end Cert.Window
-- ==== Proof.PI.Step.lean ====
/- The integers of one step of the kernel's loops over windows of segments. From row `k` of a block on, the step takes
   the least segment of the rows left, opens the window of 256 segments at the multiple of eight below it, takes the
   rows left whose segment lies in the window, and advances by their number. Of a block all of whose segments are below
   4096 the window lies inside the padded array, at least one row is taken, and no more than are left. -/
module

public import proofs.«01_k».proof.Proof.Word
public import proofs.«01_k».proof.Proof.Gen.KernelIdeal.Skeleton

@[expose] public section

set_option maxRecDepth 16384

noncomputable section

namespace Cert.KernelIdeal.Loop

open Idealize.ShloMosaic Idealize.ShloMosaic.ValueIdx Cert.KernelIdeal Cert.KernelIdeal.Gen Cert.Window
open Cert.KernelIdeal.Facts

/-- The row numbers of a block. -/
def rows : IVec S2048x1 32 := iota .tc S2048x1 32 [0] iota_S2048x1_d0_w32
/-- The lane numbers of a block. -/
def lanes : IVec S2048x256 32 := iota .tc S2048x256 32 [1] iota_S2048x256_d1_w32

/-- The least segment of the rows from `k` on. -/
def firstSeg (s : IVec S2048x1 32) (k : BitVec 32) : BitVec 32 := extractAt ![0, 0, 0] (k0_pay10 rows s k) inpos_S1x1x1_p0_0_0
/-- Where the window opens. -/
def base (s : IVec S2048x1 32) (k : BitVec 32) : ℕ := (firstSeg s k).toNat / 8 * 8
/-- The rows taken. -/
def taken (s : IVec S2048x1 32) (k : BitVec 32) : Finset (Fin 2048) :=
  Finset.univ.filter fun i => k.toNat ≤ i.val ∧ (s (ix2 i (0 : Fin 1))).toNat < base s k + 256
/-- The row the next step starts from. -/
def nextRow (s : IVec S2048x1 32) (k : BitVec 32) : BitVec 32 :=
  Scalar.addi k (extractAt ![0, 0, 0] (k0_pay5 (k0_pay12 rows s k)) inpos_S1x1x1_p0_0_0)

/-- A block's segments are all below 4096. -/
def SegsOk (s : IVec S2048x1 32) : Prop := ∀ i : Fin 2048, (s (ix2 i (0 : Fin 1))).toNat < 4096

/-- A small word's signed value. -/
theorem toInt_small (x : BitVec 32) (hx : x.toNat < 2 ^ 31) : x.toInt = x.toNat := by
  rw [BitVec.toInt_eq_toNat_cond]; omega

/-- The row numbers, read. -/
theorem rows_read (i : Fin 2048) : rows (ix2 i (0 : Fin 1)) = BitVec.ofNat 32 i.val := by
  unfold rows iota
  simp

/-- The lane numbers, read. -/
theorem lanes_read (i : Fin 2048) (c : Fin 256) : lanes (ix2 i c) = BitVec.ofNat 32 c.val := by
  unfold lanes iota
  simp

/-- The bit of "this row is still to come". -/
theorem later_iff (k : BitVec 32) (hk : k.toNat < 2 ^ 31) (i : Fin 2048) :
    k0_pay9 rows k (ix2 i (0 : Fin 1)) = 1#1 ↔ k.toNat ≤ i.val := by
  have hi := i.isLt
  have e : k0_pay9 rows k (ix2 i (0 : Fin 1)) = IntOp.cmpi .sge (rows (ix2 i (0 : Fin 1))) k := rfl
  have hn : (BitVec.ofNat 32 i.val).toNat = i.val := by rw [BitVec.toNat_ofNat]; omega
  rw [e, rows_read]
  simp only [IntOp.cmpi, BitVec.sle, toInt_small k hk, toInt_small (BitVec.ofNat 32 i.val) (by omega), hn]
  by_cases h : k.toNat ≤ i.val
  · simp [h]
  · simp [h]

/-- What the minimum is taken over, read. -/
theorem masked_read (s : IVec S2048x1 32) (k : BitVec 32) (hk : k.toNat < 2 ^ 31) (i : Fin 2048) :
    select (k0_pay9 rows k) s (broadcast S2048x1 4096#32) (ix2 i (0 : Fin 1))
      = if k.toNat ≤ i.val then s (ix2 i (0 : Fin 1)) else 4096#32 := by
  rw [select_apply, broadcast_apply, Scalar.select]
  by_cases h : k.toNat ≤ i.val
  · rw [if_pos h]; exact if_pos ((later_iff k hk i).2 h)
  · rw [if_neg h]; exact if_neg fun hh => h ((later_iff k hk i).1 hh)

/-- The least segment is one of the rows left's, and below each. -/
theorem firstSeg_spec (s : IVec S2048x1 32) (hs : SegsOk s) (k : BitVec 32) (hk : k.toNat < 2048) :
    (∃ i : Fin 2048, k.toNat ≤ i.val ∧ firstSeg s k = s (ix2 i (0 : Fin 1)))
      ∧ ∀ i : Fin 2048, k.toNat ≤ i.val → (firstSeg s k).toNat ≤ (s (ix2 i (0 : Fin 1))).toNat := by
  have hk' : k.toNat < 2 ^ 31 := by omega
  have key := min_column (select (k0_pay9 rows k) s (broadcast S2048x1 4096#32)) (fun x => by
      have hx := masked_read s k hk' (x 0)
      rw [show select (k0_pay9 rows k) s (broadcast S2048x1 4096#32) x = _ from
        (congrArg (select (k0_pay9 rows k) s (broadcast S2048x1 4096#32)) (col_eq x)).trans hx]
      split
      · exact lt_trans (hs _) (by norm_num)
      · decide) shapeCasts_S2048x1_S1x2048x1 reduces_S1x2048x1_S1 rfl shapeCasts_S1_S1x1x1 inpos_S1x1x1_p0_0_0 (firstSeg s k) rfl
  obtain ⟨⟨i, hi⟩, hle⟩ := key
  have hle' : ∀ i : Fin 2048, k.toNat ≤ i.val → (firstSeg s k).toNat ≤ (s (ix2 i (0 : Fin 1))).toNat := fun i h => by
    have := hle i
    rwa [masked_read s k hk', if_pos h] at this
  refine ⟨?_, hle'⟩
  rw [masked_read s k hk'] at hi
  by_cases h : k.toNat ≤ i.val
  · rw [if_pos h] at hi; exact ⟨i, h, hi⟩
  · rw [if_neg h] at hi
    have h1 := hle' ⟨2047, by omega⟩ (by show k.toNat ≤ 2047; omega)
    have h2 := hs ⟨2047, by omega⟩
    rw [hi] at h1
    have h3 : (4096#32 : BitVec 32).toNat = 4096 := by decide
    omega

theorem firstSeg_lt (s : IVec S2048x1 32) (hs : SegsOk s) (k : BitVec 32) (hk : k.toNat < 2048) : (firstSeg s k).toNat < 4096 := by
  obtain ⟨⟨i, -, h⟩, -⟩ := firstSeg_spec s hs k hk
  rw [h]; exact hs i

set_option maxRecDepth 65536 in
/-- The program's multiple of eight, at every segment. -/
theorem mult_all : ∀ n : Fin 4096, (k0_mult1 (BitVec.ofNat 32 n.val)).toNat = n.val / 8 * 8 := by decide +kernel

theorem mult_eq (v : BitVec 32) (hv : v.toNat < 4096) : (k0_mult1 v).toNat = v.toNat / 8 * 8 := by
  have := mult_all ⟨v.toNat, hv⟩
  rwa [show BitVec.ofNat 32 (⟨v.toNat, hv⟩ : Fin 4096).val = v from by simp] at this

theorem off1_eq (s : IVec S2048x1 32) (hs : SegsOk s) (k : BitVec 32) (hk : k.toNat < 2048) : k0_off1 (firstSeg s k) = ![base s k, 0] := by
  have e : k0_off1 (firstSeg s k) = ![(k0_mult1 (firstSeg s k)).toNat, 0] := rfl
  rw [e, mult_eq _ (firstSeg_lt s hs k hk)]; rfl

theorem off2_eq (s : IVec S2048x1 32) (hs : SegsOk s) (k : BitVec 32) (hk : k.toNat < 2048) : k0_off2 (firstSeg s k) = ![base s k, 0] :=
  off1_eq s hs k hk

theorem base_le (s : IVec S2048x1 32) (hs : SegsOk s) (k : BitVec 32) (hk : k.toNat < 2048) : base s k + 256 ≤ 4352 := by
  have := firstSeg_lt s hs k hk
  unfold base; omega

/-- The window's side condition holds. -/
theorem chk1 (s : IVec S2048x1 32) (hs : SegsOk s) (k : BitVec 32) (hk : k.toNat < 2048) : k0_chk1 (firstSeg s k) := by
  have hb := base_le s hs k hk
  refine ⟨?_, ?_, ?_⟩
  · rw [mult_eq _ (firstSeg_lt s hs k hk)]; exact Dvd.intro_left _ rfl
  · rw [off1_eq s hs k hk]
    intro a
    match a with
    | ⟨0, _⟩ => exact hb
    | ⟨1, _⟩ => exact Nat.le_refl 256
  · rw [off2_eq s hs k hk]
    intro a
    match a with
    | ⟨0, _⟩ => exact hb
    | ⟨1, _⟩ => exact Nat.le_refl 128

/-- The other loop's side condition. -/
theorem chk2 (s : IVec S2048x1 32) (hs : SegsOk s) (k : BitVec 32) (hk : k.toNat < 2048) : k2_chk1 (firstSeg s k) :=
  ⟨(chk1 s hs k hk).1, (chk1 s hs k hk).2.1⟩

/-- A row's place in the window, as the program subtracts it. -/
theorem place_eq (s : IVec S2048x1 32) (k : BitVec 32) (i : Fin 2048) :
    k0_pay11 rows s k (ix2 i (0 : Fin 1)) = s (ix2 i (0 : Fin 1)) - k0_mult1 (firstSeg s k) := rfl

/-- A row left lies at or after the window's start. -/
theorem base_le_seg (s : IVec S2048x1 32) (hs : SegsOk s) (k : BitVec 32) (hk : k.toNat < 2048) (i : Fin 2048) (hi : k.toNat ≤ i.val) :
    base s k ≤ (s (ix2 i (0 : Fin 1))).toNat := by
  have := (firstSeg_spec s hs k hk).2 i hi
  unfold base; omega

/-- A row left's place in the window, as a natural. -/
theorem place_toNat (s : IVec S2048x1 32) (hs : SegsOk s) (k : BitVec 32) (hk : k.toNat < 2048) (i : Fin 2048) (hi : k.toNat ≤ i.val) :
    (k0_pay11 rows s k (ix2 i (0 : Fin 1))).toNat = (s (ix2 i (0 : Fin 1))).toNat - base s k := by
  have h1 := base_le_seg s hs k hk i hi
  have h2 := mult_eq _ (firstSeg_lt s hs k hk)
  have h3 := hs i
  rw [place_eq, BitVec.toNat_sub, h2]
  unfold base at h1 ⊢
  omega

/-- The bit of "this row is taken". -/
theorem taken_iff (s : IVec S2048x1 32) (hs : SegsOk s) (k : BitVec 32) (hk : k.toNat < 2048) (i : Fin 2048) :
    k0_pay12 rows s k (ix2 i (0 : Fin 1)) = 1#1 ↔ i ∈ taken s k := by
  have e : k0_pay12 rows s k (ix2 i (0 : Fin 1))
      = k0_pay9 rows k (ix2 i (0 : Fin 1)) &&& IntOp.cmpi .slt (k0_pay11 rows s k (ix2 i (0 : Fin 1))) 256#32 := rfl
  have hl := later_iff k (by omega) i
  rw [e, taken, Finset.mem_filter]
  by_cases h : k.toNat ≤ i.val
  · rw [hl.2 h]
    have hp := place_toNat s hs k hk i h
    have hb := base_le_seg s hs k hk i h
    have h3 := hs i
    have hx : (k0_pay11 rows s k (ix2 i (0 : Fin 1))).toInt = (k0_pay11 rows s k (ix2 i (0 : Fin 1))).toNat := toInt_small _ (by omega)
    have h256 : (256#32 : BitVec 32).toInt = 256 := by decide
    simp only [IntOp.cmpi, BitVec.slt, hx, h256, hp]
    by_cases h' : (s (ix2 i (0 : Fin 1))).toNat < base s k + 256
    · have h4 : (((s (ix2 i (0 : Fin 1))).toNat - base s k : ℕ) : ℤ) < 256 := by omega
      simp [h4, h', h]
    · have h4 : ¬ (((s (ix2 i (0 : Fin 1))).toNat - base s k : ℕ) : ℤ) < 256 := by omega
      simp [h4, h']
  · have : k0_pay9 rows k (ix2 i (0 : Fin 1)) = 0#1 := eq_zero_of_ne_one fun hh => h (hl.1 hh)
    rw [this]
    simp [h]

/-- The number of rows taken, as the program counts it. -/
theorem count_eq (s : IVec S2048x1 32) (hs : SegsOk s) (k : BitVec 32) (hk : k.toNat < 2048) :
    (extractAt ![0, 0, 0] (k0_pay5 (k0_pay12 rows s k)) inpos_S1x1x1_p0_0_0).toNat = (taken s k).card := by
  refine (count_column (k0_pay12 rows s k) natLt_1_32 shapeCasts_S2048x1_S1x2048x1 reduces_S1x2048x1_S1 rfl shapeCasts_S1_S1x1x1
    inpos_S1x1x1_p0_0_0).trans ?_
  congr 1
  ext i
  rw [Finset.mem_filter]
  exact ⟨fun h => (taken_iff s hs k hk i).1 h.2, fun h => ⟨Finset.mem_univ _, (taken_iff s hs k hk i).2 h⟩⟩

/-- At least one row is taken. -/
theorem taken_pos (s : IVec S2048x1 32) (hs : SegsOk s) (k : BitVec 32) (hk : k.toNat < 2048) : 1 ≤ (taken s k).card := by
  obtain ⟨⟨i, hi, h⟩, -⟩ := firstSeg_spec s hs k hk
  refine Finset.card_pos.2 ⟨i, Finset.mem_filter.2 ⟨Finset.mem_univ _, hi, ?_⟩⟩
  unfold base
  rw [h]; omega

/-- No more rows are taken than are left. -/
theorem taken_le (s : IVec S2048x1 32) (k : BitVec 32) : (taken s k).card ≤ 2048 - k.toNat := by
  have h : taken s k ⊆ Finset.univ.filter fun i : Fin 2048 => k.toNat ≤ i.val :=
    fun i hi => Finset.mem_filter.2 ⟨Finset.mem_univ _, (Finset.mem_filter.1 hi).2.1⟩
  refine (Finset.card_le_card h).trans ?_
  have e : (Finset.univ.filter fun i : Fin 2048 => k.toNat ≤ i.val).card = ((Finset.range 2048).filter fun i => k.toNat ≤ i).card := by
    rw [← Finset.card_map Fin.valEmbedding]
    congr 1
    ext i
    simp only [Finset.mem_map, Finset.mem_filter, Finset.mem_univ, true_and, Fin.valEmbedding_apply, Finset.mem_range]
    constructor
    · rintro ⟨a, ha, rfl⟩; exact ⟨a.isLt, ha⟩
    · rintro ⟨h1, h2⟩; exact ⟨⟨i, h1⟩, h2, rfl⟩
  rw [e]
  have e2 : (Finset.range 2048).filter (fun i => k.toNat ≤ i) = Finset.Ico k.toNat 2048 := by
    ext i; simp only [Finset.mem_filter, Finset.mem_range, Finset.mem_Ico]; omega
  rw [e2, Nat.card_Ico]

/-- The next step starts after the rows taken. -/
theorem nextRow_toNat (s : IVec S2048x1 32) (hs : SegsOk s) (k : BitVec 32) (hk : k.toNat < 2048) :
    (nextRow s k).toNat = k.toNat + (taken s k).card := by
  have h := taken_le s k
  have e : nextRow s k = k + extractAt ![0, 0, 0] (k0_pay5 (k0_pay12 rows s k)) inpos_S1x1x1_p0_0_0 := rfl
  rw [e, BitVec.toNat_add, count_eq s hs k hk]
  omega

theorem next_arith (a b c n : ℕ) (h1 : 1 ≤ b) (h2 : b ≤ 2048 - a) (h3 : c = a + b) (h4 : 2048 - a ≤ n + 1) :
    c ≤ 2048 ∧ 2048 - c ≤ n := by omega

/-- Each step leaves fewer rows. -/
theorem nextRow_le (s : IVec S2048x1 32) (hs : SegsOk s) (k : BitVec 32) (hk : k.toNat < 2048) (n : ℕ) (hn : 2048 - k.toNat ≤ n + 1) :
    (nextRow s k).toNat ≤ 2048 ∧ 2048 - (nextRow s k).toNat ≤ n :=
  next_arith _ _ _ _ (taken_pos s hs k hk) (taken_le s k) (nextRow_toNat s hs k hk) hn

/-- The loop goes on exactly while rows are left. -/
theorem go_iff (k : BitVec 32) (hk : k.toNat ≤ 2048) : Scalar.cmpi .slt k 2048#32 = 1#1 ↔ k.toNat < 2048 := by
  have e : Scalar.cmpi .slt k 2048#32 = BitVec.ofBool (k.slt 2048#32) := rfl
  have h : (2048#32 : BitVec 32).toInt = 2048 := by decide
  rw [e]
  simp only [BitVec.slt, toInt_small k (by omega), h]
  by_cases h : k.toNat < 2048
  · have : (k.toNat : ℤ) < 2048 := by omega
    simp [this, h]
  · have : ¬ (k.toNat : ℤ) < 2048 := by omega
    simp [this, h]

end Cert.KernelIdeal.Loop

end
-- ==== Proof.Update.lean ====
/- A window of 256 rows of an array held whole in a buffer: what a load of the window reads, and what the array is after
   the window has been added to. -/
module

public import Idealize.ShloMosaic.Lib.Pipeline.Frame
public import Idealize.ShloMosaic.Lib.ValueIdx

@[expose] public section

namespace Cert.Window

open Idealize.ShloMosaic Idealize.ShloMosaic.ValueIdx

variable {sig : RefSig} {κ : Kind} {sp : Space} {e : EltTy} {Val : EltTy → Type} {n m : ℕ}

/-- `X` with the block `B` joined to its 256 rows from row `o` on, element by element, by `f`. -/
def accBlock {α β : Type} (f : α → β → α) (X : (⟨2, ![n, m]⟩ : Shape).Idx → α) (o : ℕ) (B : (⟨2, ![256, m]⟩ : Shape).Idx → β) :
    (⟨2, ![n, m]⟩ : Shape).Idx → α :=
  fun i => if h : o ≤ (i 0).val ∧ (i 0).val < o + 256 then f (X i) (B (ix2 (⟨(i 0).val - o, by omega⟩ : Fin 256) (i 1 : Fin m))) else X i

/-- The 256 rows of `X` from row `o` on (the last row again where the array ends before). -/
def block {α : Type} (hn : 0 < n) (X : (⟨2, ![n, m]⟩ : Shape).Idx → α) (o : ℕ) : (⟨2, ![256, m]⟩ : Shape).Idx → α :=
  fun i => X (ix2 (⟨min (o + (i 0).val) (n - 1), by omega⟩ : Fin n) (i 1 : Fin m))

/-- Where a window's rectangle puts an index. -/
theorem emb_window (o : ℕ) (off : Fin 2 → ℕ) (ho : off = ![o, 0])
    (inb : ∀ a, off a + (⟨2, ![256, m]⟩ : Shape).size a ≤ (⟨2, ![n, m]⟩ : Shape).size a) (x : (⟨2, ![256, m]⟩ : Shape).Idx) :
    (((Rect.unit (s := ⟨2, ![n, m]⟩) off (⟨2, ![256, m]⟩ : Shape).size inb).emb x) 0).val = o + (x 0).val
      ∧ (((Rect.unit (s := ⟨2, ![n, m]⟩) off (⟨2, ![256, m]⟩ : Shape).size inb).emb x) 1).val = (x 1).val := by
  subst ho
  constructor
  · show o + 1 * (x 0).val = _; omega
  · show 0 + 1 * (x 1).val = _; omega

/-- A load of a window reads the array's block. -/
theorem read_window (M : Memref sig κ sp ⟨2, ![n, m]⟩ e) (h : M.IsWhole) (hn : 0 < n) (X : (⟨2, ![n, m]⟩ : Shape).Idx → Val e)
    (o : ℕ) (off : Fin 2 → ℕ) (ho : off = ![o, 0])
    (inb : ∀ a, off a + (⟨2, ![256, m]⟩ : Shape).size a ≤ (⟨2, ![n, m]⟩ : Shape).size a) :
    (M.access (Rect.unit (s := ⟨2, ![n, m]⟩) off (⟨2, ![256, m]⟩ : Shape).size inb)).read Val (h.unread X) = block hn X o := by
  funext x
  have e1 : (M.access (Rect.unit (s := ⟨2, ![n, m]⟩) off (⟨2, ![256, m]⟩ : Shape).size inb)).read Val (h.unread X) x
      = X ((Rect.unit (s := ⟨2, ![n, m]⟩) off (⟨2, ![256, m]⟩ : Shape).size inb).emb x) :=
    congrFun (h.read_unread X) _
  rw [e1]
  obtain ⟨h0, h1⟩ := emb_window (n := n) (m := m) o off ho inb x
  have hb : o + (x 0).val < n := by
    have := (((Rect.unit (s := ⟨2, ![n, m]⟩) off (⟨2, ![256, m]⟩ : Shape).size inb).emb x) 0).isLt
    exact h0 ▸ this
  refine congrArg X ?_
  funext a
  match a with
  | ⟨0, _⟩ => exact Fin.ext (h0.trans (by show _ = min (o + (x 0).val) (n - 1); omega))
  | ⟨1, _⟩ => exact Fin.ext h1

/-- A store to a window of its own elements joined to a block leaves the array with the block joined. -/
theorem write_window {α : Type} (f : Val e → α → Val e) (M : Memref sig κ sp ⟨2, ![n, m]⟩ e) (h : M.IsWhole) (hn : 0 < n)
    (X : (⟨2, ![n, m]⟩ : Shape).Idx → Val e) (o : ℕ) (off : Fin 2 → ℕ) (ho : off = ![o, 0])
    (inb : ∀ a, off a + (⟨2, ![256, m]⟩ : Shape).size a ≤ (⟨2, ![n, m]⟩ : Shape).size a)
    (B : (⟨2, ![256, m]⟩ : Shape).Idx → α) :
    (M.access (Rect.unit (s := ⟨2, ![n, m]⟩) off (⟨2, ![256, m]⟩ : Shape).size inb)).write Val (h.unread X)
        (fun j => f (block hn X o j) (B j)) Finset.univ
      = h.unread (accBlock f X o B) := by
  refine h.eq_unread (funext fun y => ?_)
  by_cases hy : o ≤ (y 0).val ∧ (y 0).val < o + 256
  · have hx : (Rect.unit (s := ⟨2, ![n, m]⟩) off (⟨2, ![256, m]⟩ : Shape).size inb).emb
        (ix2 (⟨(y 0).val - o, by omega⟩ : Fin 256) (y 1 : Fin m)) = y := by
      obtain ⟨h0, h1⟩ := emb_window (n := n) (m := m) o off ho inb (ix2 (⟨(y 0).val - o, by omega⟩ : Fin 256) (y 1 : Fin m))
      funext a
      match a with
      | ⟨0, _⟩ => exact Fin.ext (h0.trans (by show o + ((y 0).val - o) = (y 0).val; omega))
      | ⟨1, _⟩ => exact Fin.ext h1
    conv_lhs => rw [← hx]
    refine (View.read_slice_write_emb (Rect.unit (s := ⟨2, ![n, m]⟩) off (⟨2, ![256, m]⟩ : Shape).size inb) _ _ (Finset.mem_univ _)).trans ?_
    rw [accBlock, dif_pos hy]
    refine congrArg (fun z => f z _) ?_
    refine congrArg X ?_
    have hlt := idx2_lt0 y
    funext a
    match a with
    | ⟨0, _⟩ => exact Fin.ext (by show min (o + ((y 0).val - o)) (n - 1) = (y 0).val; omega)
    | ⟨1, _⟩ => rfl
  · refine (View.read_slice_write_of_not_mem (Rect.unit (s := ⟨2, ![n, m]⟩) off (⟨2, ![256, m]⟩ : Shape).size inb) _ _ _ ?_).trans ?_
    · intro hm
      obtain ⟨x, -, hx⟩ := Finset.mem_map.1 hm
      obtain ⟨h0, -⟩ := emb_window (n := n) (m := m) o off ho inb x
      have hx0 : (y 0).val = o + (x 0).val := by rw [← h0, ← hx]
      have := idx2_lt0 x
      exact hy ⟨by omega, by omega⟩
    · rw [h.read_unread, accBlock, dif_neg hy]

/-- The rectangle of a whole buffer puts an index where it is. -/
theorem emb_whole {S : Shape} (off : Fin S.rank → ℕ) (ho : ∀ a, off a = 0) (inb : ∀ a, off a + S.size a ≤ S.size a) (x : S.Idx) :
    (Rect.unit (s := S) off S.size inb).emb x = x := by
  funext a
  refine Fin.ext ?_
  show off a + 1 * (x a).val = (x a).val
  rw [ho a]; omega

/-- A load of a whole buffer reads its contents. -/
theorem read_whole {S : Shape} (M : Memref sig κ sp S e) (h : M.IsWhole) (X : S.Idx → Val e) (off : Fin S.rank → ℕ) (ho : ∀ a, off a = 0)
    (inb : ∀ a, off a + S.size a ≤ S.size a) : (M.access (Rect.unit (s := S) off S.size inb)).read Val (h.unread X) = X := by
  funext x
  have e1 : (M.access (Rect.unit (s := S) off S.size inb)).read Val (h.unread X) x = X ((Rect.unit (s := S) off S.size inb).emb x) :=
    congrFun (h.read_unread X) _
  rw [e1, emb_whole off ho]

/-- A store of a whole buffer leaves what it stores, whatever the buffer held. -/
theorem write_whole {S : Shape} (M : Memref sig κ sp S e) (h : M.IsWhole) (f : M.view.ty.Contents Val) (w : S.Idx → Val e) (off : Fin S.rank → ℕ)
    (ho : ∀ a, off a = 0) (inb : ∀ a, off a + S.size a ≤ S.size a) :
    (M.access (Rect.unit (s := S) off S.size inb)).write Val f w Finset.univ = h.unread w := by
  refine h.eq_unread (funext fun y => ?_)
  conv_lhs => rw [← emb_whole off ho inb y]
  exact View.read_slice_write_emb (Rect.unit (s := S) off S.size inb) _ _ (Finset.mem_univ _)

end Cert.Window
-- ==== Proof.While.lean ====
/- A loop over the rows of a block: as long as rows are left it takes a step and goes on from the row the step says. -/
module

public import Idealize.ShloMosaic.Lib.Tactic

@[expose] public section

noncomputable section

namespace Cert.Window

/-- At most `n` steps from row `k` on state `st`, while `k` is below 2048. -/
def runWhile {α : Type} (next : BitVec 32 → BitVec 32) (step : BitVec 32 → α → α) : ℕ → BitVec 32 → α → α
  | 0, _, st => st
  | n + 1, k, st => if k.toNat < 2048 then runWhile next step n (next k) (step k st) else st

/-- At a row past the end nothing more is done. -/
theorem runWhile_done {α : Type} (next : BitVec 32 → BitVec 32) (step : BitVec 32 → α → α) (n : ℕ) (k : BitVec 32) (st : α)
    (h : ¬ k.toNat < 2048) : runWhile next step n k st = st := by
  cases n with
  | zero => rfl
  | succ n => exact if_neg h

/-- Before the end a step is taken. -/
theorem runWhile_go {α : Type} (next : BitVec 32 → BitVec 32) (step : BitVec 32 → α → α) (n : ℕ) (k : BitVec 32) (st : α)
    (h : k.toNat < 2048) : runWhile next step (n + 1) k st = runWhile next step n (next k) (step k st) := if_pos h

end Cert.Window

end
-- ==== Proof.PI.Loop1.lean ====
/- The first call's loop: from the two accumulators held whole, its run leaves them as the pure loop over the rows says.
   Each step adds to a window of 256 segments of the accumulators the rows taken (the product of the transposed one-hot
   rows with the embeddings) and their numbers. -/
module

public import proofs.«01_k».proof.Proof.PI.Step
public import proofs.«01_k».proof.Proof.Update
public import proofs.«01_k».proof.Proof.While
public import Idealize.ShloMosaic.Lib.Pipeline.Kit

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (choose arbitrary assume consume produce)

variable {F : FTy → Type} [FloatOps F]

/-- The resource algebra: the pipeline library's. -/
abbrev UU (nD : Nat) (τ : Topo) : Type := UR sig nD τ

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The loops end: their calls descend in the naturals. -/
abbrev 𝒱₀ : Variants := Variants.nat

/-- The two accumulators' contents. -/
abbrev St1 (F : FTy → Type) : Type := Vec F S4352x256 .f32 × Vec F S4352x128 .f32

/-- One step: the taken rows' embeddings and numbers added into the window. -/
def step1 (s : IVec S2048x1 32) (e : FVec F S2048x256 .f32) (k : BitVec 32) (st : St1 F) : St1 F :=
  (accBlock FloatOps.addf st.1 (base s k) (k0_pay14 rows s lanes e k),
   accBlock FloatOps.addf st.2 (base s k) (k0_pay15 rows s lanes (k0_pay2 (F := F)) k))

/-- The loop from row `k` on. -/
def loop1 (s : IVec S2048x1 32) (e : FVec F S2048x256 .f32) : ℕ → BitVec 32 → St1 F → St1 F := runWhile (nextRow s) (step1 s e)

/-- What a step stores is the window's contents with the update added. -/
theorem pay3_eq (v : FVec F S256x256 .f32) (w : Vec F S256x256 .f32) : k0_pay3 v w = fun j => FloatOps.addf (w j) (v j) := by
  funext j
  exact congrArg (fun x => FloatOps.addf (w x) (v j)) (Shape.reshapeEquiv_self shapeCasts_S256x256_S256x256 j)

theorem pay4_eq (v : FVec F S256x128 .f32) (w : Vec F S256x128 .f32) : k0_pay4 v w = fun j => FloatOps.addf (w j) (v j) := by
  funext j
  exact congrArg (fun x => FloatOps.addf (w x) (v j)) (Shape.reshapeEquiv_self shapeCasts_S256x128_S256x128 j)

theorem rows_pos : 0 < 4352 := by decide

/-- What a step reads of the sums, and what it leaves in them. -/
theorem read_sums (M : Memref sig .tc .vmem S4352x256 .f32) (hM : M.IsWhole) (X : Vec F S4352x256 .f32) (o : ℕ) (off : Fin 2 → ℕ)
    (ho : off = ![o, 0]) (inb : ∀ a, off a + S256x256.size a ≤ S4352x256.size a) :
    (M.access (Rect.unit (s := S4352x256) off S256x256.size inb)).read (Elt F) (hM.unread X) = block rows_pos X o :=
  read_window (Val := Elt F) M hM rows_pos X o off ho inb

theorem write_sums (M : Memref sig .tc .vmem S4352x256 .f32) (hM : M.IsWhole) (X : Vec F S4352x256 .f32) (o : ℕ) (off : Fin 2 → ℕ)
    (ho : off = ![o, 0]) (inb : ∀ a, off a + S256x256.size a ≤ S4352x256.size a) (B : FVec F S256x256 .f32) :
    (M.access (Rect.unit (s := S4352x256) off S256x256.size inb)).write (Elt F) (hM.unread X) (k0_pay3 B (block rows_pos X o)) Finset.univ
      = hM.unread (accBlock FloatOps.addf X o B) := by
  rw [pay3_eq]
  exact write_window (Val := Elt F) FloatOps.addf M hM rows_pos X o off ho inb B

/-- What a step reads of the counts, and what it leaves in them. -/
theorem read_cnts (M : Memref sig .tc .vmem S4352x128 .f32) (hM : M.IsWhole) (X : Vec F S4352x128 .f32) (o : ℕ) (off : Fin 2 → ℕ)
    (ho : off = ![o, 0]) (inb : ∀ a, off a + S256x128.size a ≤ S4352x128.size a) :
    (M.access (Rect.unit (s := S4352x128) off S256x128.size inb)).read (Elt F) (hM.unread X) = block rows_pos X o :=
  read_window (Val := Elt F) M hM rows_pos X o off ho inb

theorem write_cnts (M : Memref sig .tc .vmem S4352x128 .f32) (hM : M.IsWhole) (X : Vec F S4352x128 .f32) (o : ℕ) (off : Fin 2 → ℕ)
    (ho : off = ![o, 0]) (inb : ∀ a, off a + S256x128.size a ≤ S4352x128.size a) (B : FVec F S256x128 .f32) :
    (M.access (Rect.unit (s := S4352x128) off S256x128.size inb)).write (Elt F) (hM.unread X) (k0_pay4 B (block rows_pos X o)) Finset.univ
      = hM.unread (accBlock FloatOps.addf X o B) := by
  rw [pay4_eq]
  exact write_window (Val := Elt F) FloatOps.addf M hM rows_pos X o off ho inb B

/-- A load of part of a buffer held whole. -/
theorem load_pt (c : Dev nD) {sp : CoreSpace} {S : Shape} {e : EltTy} {α : Type} {bd : Option 𝒱₀.V} {Q : α → sProp 𝕄} (M : Memref sig .tc sp S e)
    (r : Rect S) {hl : M.view.LoadsAt r} {k : (r.shape.Idx → Elt F e) → Prog (TpuEff nD τ sig (Elt F) (Λ₀ F) .tc) α} {f : Bf (F := F) c M}
    {v : r.shape.Idx → Elt F e} (hv : (M.access r).read (Elt F) f = v) :
    pt c M f ⊢ iprop((pt c M f -∗ wp frame (wpE (defs₀ (F := F)) 𝒱₀ (c : Thread nD τ) bd) Set.univ (k v) Q)
      -∗ wp frame (wpE (defs₀ (F := F)) 𝒱₀ (c : Thread nD τ) bd) Set.univ (.op (.load M r hl) k) Q) := by
  subst hv
  exact wp_load_rect 𝒱₀ (c : Thread nD τ) bd Set.univ (m := M) (r := r) (S := Finset.univ) (Finset.subset_univ _)

/-- A store of part of a buffer held whole. -/
theorem store_pt (c : Dev nD) {sp : CoreSpace} {S : Shape} {e : EltTy} {α : Type} {bd : Option 𝒱₀.V} {Q : α → sProp 𝕄} (M : Memref sig .tc sp S e)
    (r : Rect S) {w : r.shape.Idx → Elt F e} {hx : (M.access r).Stores Finset.univ} {hm}
    {k : PUnit → Prog (TpuEff nD τ sig (Elt F) (Λ₀ F) .tc) α} {f g : Bf (F := F) c M}
    (hg : (M.access r).write (Elt F) f w Finset.univ = g) :
    pt c M f ⊢ iprop((pt c M g
        -∗ wp frame (wpE (defs₀ (F := F)) 𝒱₀ (c : Thread nD τ) bd) Set.univ (k ⟨⟩) Q)
      -∗ wp frame (wpE (defs₀ (F := F)) 𝒱₀ (c : Thread nD τ) bd) Set.univ (.op (.store M r w Finset.univ hx hm) k) Q) := by
  subst hg
  exact wp_store 𝒱₀ (c : Thread nD τ) bd Set.univ (m := M) (r := r) (S := Finset.univ) (Finset.subset_univ _)

/-- The steps' stores. -/
theorem store_sums (c : Dev nD) {α : Type} {bd : Option 𝒱₀.V} {Q : α → sProp 𝕄} (M : Memref sig .tc .vmem S4352x256 .f32) (hM : M.IsWhole)
    (X : Vec F S4352x256 .f32) (o : ℕ) (off : Fin 2 → ℕ) (ho : off = ![o, 0]) (inb : ∀ a, off a + S256x256.size a ≤ S4352x256.size a) (B : FVec F S256x256 .f32)
    {hx : (M.access (Rect.unit (s := S4352x256) off S256x256.size inb)).Stores Finset.univ} {hm}
    {k : PUnit → Prog (TpuEff nD τ sig (Elt F) (Λ₀ F) .tc) α} :
    pt c M (hM.unread X) ⊢ iprop((pt c M (hM.unread (accBlock FloatOps.addf X o B))
        -∗ wp frame (wpE (defs₀ (F := F)) 𝒱₀ (c : Thread nD τ) bd) Set.univ (k ⟨⟩) Q)
      -∗ wp frame (wpE (defs₀ (F := F)) 𝒱₀ (c : Thread nD τ) bd) Set.univ
        (.op (.store M (Rect.unit (s := S4352x256) off S256x256.size inb) (k0_pay3 B (block rows_pos X o)) Finset.univ hx hm) k) Q) :=
  store_pt c M (Rect.unit (s := S4352x256) off S256x256.size inb) (w := k0_pay3 B (block rows_pos X o)) (write_sums M hM X o off ho inb B)

theorem store_cnts (c : Dev nD) {α : Type} {bd : Option 𝒱₀.V} {Q : α → sProp 𝕄} (M : Memref sig .tc .vmem S4352x128 .f32) (hM : M.IsWhole)
    (X : Vec F S4352x128 .f32) (o : ℕ) (off : Fin 2 → ℕ) (ho : off = ![o, 0]) (inb : ∀ a, off a + S256x128.size a ≤ S4352x128.size a) (B : FVec F S256x128 .f32)
    {hx : (M.access (Rect.unit (s := S4352x128) off S256x128.size inb)).Stores Finset.univ} {hm}
    {k : PUnit → Prog (TpuEff nD τ sig (Elt F) (Λ₀ F) .tc) α} :
    pt c M (hM.unread X) ⊢ iprop((pt c M (hM.unread (accBlock FloatOps.addf X o B))
        -∗ wp frame (wpE (defs₀ (F := F)) 𝒱₀ (c : Thread nD τ) bd) Set.univ (k ⟨⟩) Q)
      -∗ wp frame (wpE (defs₀ (F := F)) 𝒱₀ (c : Thread nD τ) bd) Set.univ
        (.op (.store M (Rect.unit (s := S4352x128) off S256x128.size inb) (k0_pay4 B (block rows_pos X o)) Finset.univ hx hm) k) Q) :=
  store_pt c M (Rect.unit (s := S4352x128) off S256x128.size inb) (w := k0_pay4 B (block rows_pos X o)) (write_cnts M hM X o off ho inb B)

section
variable (i : grid0.Coords) (s : IVec S2048x1 32) (e : FVec F S2048x256 .f32)
  (M : Memref sig .tc .vmem S4352x256 .f32) (hM : M.IsWhole) (N : Memref sig .tc .vmem S4352x128 .f32) (hN : N.IsWhole)

/-- Equal programs do the same. -/
theorem wp_of_eq {c : Dev nD} {α : Type} {bd : Option 𝒱₀.V} {Q : α → sProp 𝕄} {p q : Prog (TpuEff nD τ sig (Elt F) (Λ₀ F) .tc) α} (h : p = q) :
    wp frame (wpE (defs₀ (F := F)) 𝒱₀ (c : Thread nD τ) bd) Set.univ p Q ⊢ wp frame (wpE (defs₀ (F := F)) 𝒱₀ (c : Thread nD τ) bd) Set.univ q Q := by
  subst h; exact .rfl

/-- The body at a row past the end returns. -/
theorem body1_done (k : BitVec 32) (hk : ¬ Scalar.cmpi .slt k 2048#32 = 1#1) :
    cc0_while1 i rows s lanes e (k0_pay2 (F := F)) M hM N hN k = .ret k := by
  rw [cc0_while1_eq_skeleton]
  unfold cc0_while1_skel
  rw [if_neg hk]; rfl

/-- The body at a row before the end, operation by operation. -/
theorem body1_go (k : BitVec 32) (hk : Scalar.cmpi .slt k 2048#32 = 1#1) :
    cc0_while1 i rows s lanes e (k0_pay2 (F := F)) M hM N hN k
      = .op (.assume (k0_chk1 (firstSeg s k)) (k0_chk1.dec (firstSeg s k))) fun h =>
        .op (.load M (Rect.unit (s := S4352x256) (k0_off1 (firstSeg s k)) S256x256.size (k0_off1_inb (firstSeg s k) h.down)).toLoadRect
          (View.loadsAt_vmem h_S256x256)) fun v81 =>
        .op (.load M (Rect.unit (s := S4352x256) (k0_off1 (firstSeg s k)) S256x256.size (k0_off1_inb (firstSeg s k) h.down)).toLoadRect
          (View.loadsAt_vmem h_S256x256)) fun _ =>
        .op (.store M (Rect.unit (s := S4352x256) (k0_off1 (firstSeg s k)) S256x256.size (k0_off1_inb (firstSeg s k) h.down))
          (k0_pay3 (k0_pay14 rows s lanes e k) v81) Finset.univ (View.stores_vmem_bits_univ h_S256x256 rfl) (.inl rfl)) fun _ =>
        .op (.load N (Rect.unit (s := S4352x128) (k0_off2 (firstSeg s k)) S256x128.size (k0_off2_inb (firstSeg s k) h.down)).toLoadRect
          (View.loadsAt_vmem h_S256x128)) fun v87 =>
        .op (.load N (Rect.unit (s := S4352x128) (k0_off2 (firstSeg s k)) S256x128.size (k0_off2_inb (firstSeg s k) h.down)).toLoadRect
          (View.loadsAt_vmem h_S256x128)) fun _ =>
        .op (.store N (Rect.unit (s := S4352x128) (k0_off2 (firstSeg s k)) S256x128.size (k0_off2_inb (firstSeg s k) h.down))
          (k0_pay4 (k0_pay15 rows s lanes (k0_pay2 (F := F)) k) v87) Finset.univ (View.stores_vmem_bits_univ h_S256x128 rfl) (.inl rfl)) fun _ =>
        .op (.call (3 : (Λ₀ F).Label) ⟨i, rows, s, lanes, e, k0_pay2 (F := F), M, hM, N, hN, nextRow s k⟩) fun r => .ret r := by
  rw [cc0_while1_eq_skeleton]
  unfold cc0_while1_skel
  rw [if_pos hk, k0_part2_eq_skeleton]
  rfl

/-- The loop's label runs its body. -/
theorem row1 (k : BitVec 32) :
    defs₀ (F := F) (.tc) (3 : (Λ₀ F).Label) ⟨i, rows, s, lanes, e, k0_pay2 (F := F), M, hM, N, hN, k⟩
      = cc0_while1 i rows s lanes e (k0_pay2 (F := F)) M hM N hN k := by
  unfold defs₀
  rw [Defs.onTc_tc]

/-- A call of the loop: it takes the accumulators and hands them back as the pure loop leaves them. -/
def call1 (c : Dev nD) (n : ℕ) (k : BitVec 32) (st : St1 F) : sWPT 𝕄 (BitVec 32) := do
  consume (pt c M (hM.unread st.1))
  consume (pt c N (hN.unread st.2))
  let r ← arbitrary
  produce iprop(pt c M (hM.unread (loop1 s e n k st).1) ∗ pt c N (hN.unread (loop1 s e n k st).2))
  pure r

theorem call1_apply (c : Dev nD) (n : ℕ) (k : BitVec 32) (st : St1 F) (K : BitVec 32 → sProp 𝕄) :
    call1 s e M hM N hN c n k st K
      = iprop(pt c M (hM.unread st.1) ∗ pt c N (hN.unread st.2)
        ∗ ∀ r, (pt c M (hM.unread (loop1 s e n k st).1) ∗ pt c N (hN.unread (loop1 s e n k st).2)) -∗ K r) := rfl

/-- The body meets its specification at row `k` for `n` steps. -/
def Meets1 (c : Dev nD) (n : ℕ) (k : BitVec 32) : Prop := ∀ (st : St1 F) (K : BitVec 32 → sProp 𝕄),
  call1 s e M hM N hN c n k st K
    ⊢ wp frame (wpE (defs₀ (F := F)) 𝒱₀ (c : Thread nD τ) (some n)) Set.univ
        (cc0_while1 i rows s lanes e (k0_pay2 (F := F)) M hM N hN k) K

/-- No rows left: the body returns at once. -/
theorem meets1_done (c : Dev nD) (n : ℕ) (k : BitVec 32) (hk : k.toNat ≤ 2048) (hk' : ¬ k.toNat < 2048) : Meets1 i s e M hM N hN c n k := by
  intro st K
  rw [body1_done i s e M hM N hN k (fun h => hk' ((go_iff k hk).1 h)), call1_apply, loop1, runWhile_done _ _ _ _ _ hk', wp_ret]
  iintro ⟨H1, H2, Hk⟩
  imodintro
  iapply Hk
  isplitl [H1] <;> iassumption

attribute [local irreducible] nextRow firstSeg base

/-- Rows left: the body takes a step, and calls itself at the next row. -/
theorem meets1_go (c : Dev nD) (n : ℕ) (k : BitVec 32) (hs : SegsOk s) (hk' : k.toNat < 2048)
    (ih : Meets1 i s e M hM N hN c n (nextRow s k)) : Meets1 i s e M hM N hN c (n + 1) k := by
  intro st K
  have hc := chk1 s hs k hk'
  have hr1 := read_sums M hM st.1 (base s k) _ (off1_eq s hs k hk') (k0_off1_inb (firstSeg s k) hc)
  have hr2 := read_cnts N hN st.2 (base s k) _ (off2_eq s hs k hk') (k0_off2_inb (firstSeg s k) hc)
  have hS : ∀ K : BitVec 32 → sProp 𝕄, call1 s e M hM N hN c n (nextRow s k) (step1 s e k st) K
      ⊢ wp frame (wpE (defs₀ (F := F)) 𝒱₀ (c : Thread nD τ) (some n)) Set.univ
        (defs₀ (F := F) (.tc) (3 : (Λ₀ F).Label) ⟨i, rows, s, lanes, e, k0_pay2 (F := F), M, hM, N, hN, nextRow s k⟩) K := by
    intro K
    rw [row1]
    exact ih _ K
  rw [body1_go i s e M hM N hN k ((go_iff k hk'.le).2 hk'), call1_apply, loop1, runWhile_go _ _ _ _ _ hk']
  iintro ⟨H1, H2, Hk⟩
  iapply (wp_assume 𝒱₀ (c : Thread nD τ) _ Set.univ hc)
  iapply (load_pt c M _ hr1) $$ H1; iintro H1
  iapply (load_pt c M _ hr1) $$ H1; iintro H1
  iapply (store_sums c M hM st.1 (base s k) _ (off1_eq s hs k hk') (k0_off1_inb (firstSeg s k) hc) (k0_pay14 rows s lanes e k)) $$ H1; iintro H1
  iapply (load_pt c N _ hr2) $$ H2; iintro H2
  iapply (load_pt c N _ hr2) $$ H2; iintro H2
  iapply (store_cnts c N hN st.2 (base s k) _ (off2_eq s hs k hk') (k0_off2_inb (firstSeg s k) hc) (k0_pay15 rows s lanes (k0_pay2 (F := F)) k)) $$ H2; iintro H2
  iapply (wp_call_spec (ℓ := (3 : (Λ₀ F).Label)) (a := ⟨i, rows, s, lanes, e, k0_pay2 (F := F), M, hM, N, hN, nextRow s k⟩)
    𝒱₀ (c : Thread nD τ) _ Set.univ (call1 s e M hM N hN c n (nextRow s k) (step1 s e k st)) n
    (fun u hu => by cases hu; exact Nat.lt_succ_self n) hS)
  rw [call1_apply]
  isplitl [H1]; · iexact H1
  isplitl [H2]; · iexact H2
  iintro %r H
  rw [wp_ret]
  imodintro
  iapply Hk
  iexact H

/-- The body meets its specification, by induction on the rows left. -/
theorem loop1_spec (hs : SegsOk s) (c : Dev nD) (n : ℕ) : ∀ k : BitVec 32, k.toNat ≤ 2048 → 2048 - k.toNat ≤ n →
    Meets1 i s e M hM N hN c n k := by
  induction n with
  | zero => intro k hk hn; exact meets1_done i s e M hM N hN c 0 k hk (by omega)
  | succ n ih =>
    intro k hk hn
    by_cases hk' : k.toNat < 2048
    · have hnx := nextRow_le s hs k hk' n hn
      exact meets1_go i s e M hM N hN c n k hs hk' (ih _ hnx.1 hnx.2)
    · exact meets1_done i s e M hM N hN c _ k hk hk'

end

end Cert.KernelIdeal.Loop

end
-- ==== Proof.PI.Body0.lean ====
/- The first call at one point of its grid: from its windows held whole it writes the block of embeddings and leaves the
   accumulators as the loop over the block's rows says, begun from zeroes at the first point. -/
module

public import proofs.«01_k».proof.Proof.PI.Loop1

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (choose arbitrary assume consume produce)

variable {F : FTy → Type} [FloatOps F]

local notation "𝕄" => MT nD τ sig Unit (Elt F) ℕ (UU nD τ) ℕ

/-- A load of a whole buffer reads what it holds; a store of one leaves what is stored. -/
theorem whole_2 {a b : ℕ} {e : EltTy} (M : Memref sig .tc .vmem ⟨2, ![a, b]⟩ e) (h : M.IsWhole) (X : Vec F ⟨2, ![a, b]⟩ e)
    (inb : ∀ d, (![0, 0] : Fin 2 → ℕ) d + (⟨2, ![a, b]⟩ : Shape).size d ≤ (⟨2, ![a, b]⟩ : Shape).size d) :
    (M.access (Rect.unit (s := ⟨2, ![a, b]⟩) ![0, 0] (⟨2, ![a, b]⟩ : Shape).size inb)).read (Elt F) (h.unread X) = X :=
  read_whole (Val := Elt F) M h X _ (fun d => by fin_cases d <;> rfl) inb

theorem whole_3 {a b d : ℕ} {e : EltTy} (M : Memref sig .tc .vmem ⟨3, ![a, b, d]⟩ e) (h : M.IsWhole) (X : Vec F ⟨3, ![a, b, d]⟩ e)
    (inb : ∀ x, (![0, 0, 0] : Fin 3 → ℕ) x + (⟨3, ![a, b, d]⟩ : Shape).size x ≤ (⟨3, ![a, b, d]⟩ : Shape).size x) :
    (M.access (Rect.unit (s := ⟨3, ![a, b, d]⟩) ![0, 0, 0] (⟨3, ![a, b, d]⟩ : Shape).size inb)).read (Elt F) (h.unread X) = X :=
  read_whole (Val := Elt F) M h X _ (fun d => by fin_cases d <;> rfl) inb

theorem write_2 {a b : ℕ} {e : EltTy} (M : Memref sig .tc .vmem ⟨2, ![a, b]⟩ e) (h : M.IsWhole) (f : M.view.ty.Contents (Elt F)) (w : Vec F ⟨2, ![a, b]⟩ e)
    (inb : ∀ d, (![0, 0] : Fin 2 → ℕ) d + (⟨2, ![a, b]⟩ : Shape).size d ≤ (⟨2, ![a, b]⟩ : Shape).size d) :
    (M.access (Rect.unit (s := ⟨2, ![a, b]⟩) ![0, 0] (⟨2, ![a, b]⟩ : Shape).size inb)).write (Elt F) f w Finset.univ = h.unread w :=
  write_whole (Val := Elt F) M h f w _ (fun d => by fin_cases d <;> rfl) inb

/-- Whether this is the first point of the grid. -/
abbrev atFirst (b : BitVec 32) : BitVec 1 := Scalar.cmpi .ne (Scalar.extui (Scalar.cmpi .eq b 0#32)) 0#32

/-- The point's work after the accumulators are ready. -/
def work0 (i : grid0.Coords) (M1 : Memref sig .tc .vmem S2048x128 .f32) (h1 : M1.IsWhole) (M2 : Memref sig .tc .vmem S1x2048x1 .i32) (h2 : M2.IsWhole) (M3 : Memref sig .tc .vmem S1x2048x1 .i32) (h3 : M3.IsWhole) (M4 : Memref sig .tc .vmem S128x256 .f32) (h4 : M4.IsWhole) (M5 : Memref sig .tc .vmem S128x256 .f32) (h5 : M5.IsWhole) (M6 : Memref sig .tc .vmem S1x256 .f32) (h6 : M6.IsWhole) (M7 : Memref sig .tc .vmem S1x256 .f32) (h7 : M7.IsWhole) (M8 : Memref sig .tc .vmem S256x256 .f32) (h8 : M8.IsWhole) (M9 : Memref sig .tc .vmem S2048x256 .f32) (h9 : M9.IsWhole) (M10 : Memref sig .tc .vmem S4352x256 .f32) (h10 : M10.IsWhole) (M11 : Memref sig .tc .vmem S4352x128 .f32) (h11 : M11.IsWhole) :
    Prog (TpuEff nD τ sig (Elt F) (Λ₀ F) .tc) PUnit :=
  .op (.load M4 (Rect.unit (s := S128x256) ![0, 0] S128x256.size inb_S128x256_S128x256_0_0).toLoadRect (View.loadsAt_vmem h_S128x256)) fun v4 =>
  .op (.load M5 (Rect.unit (s := S128x256) ![0, 0] S128x256.size inb_S128x256_S128x256_0_0).toLoadRect (View.loadsAt_vmem h_S128x256)) fun v6 =>
  .op (.load M6 (Rect.unit (s := S1x256) ![0, 0] S1x256.size inb_S1x256_S1x256_0_0).toLoadRect (View.loadsAt_vmem h_S1x256)) fun v9 =>
  .op (.load M7 (Rect.unit (s := S1x256) ![0, 0] S1x256.size inb_S1x256_S1x256_0_0).toLoadRect (View.loadsAt_vmem h_S1x256)) fun v11 =>
  .op (.load M1 (Rect.unit (s := S2048x128) ![0, 0] S2048x128.size inb_S2048x128_S2048x128_0_0).toLoadRect (View.loadsAt_vmem h_S2048x128)) fun v14 =>
  .op (.load M2 (Rect.unit (s := S1x2048x1) ![0, 0, 0] S1x2048x1.size inb_S1x2048x1_S1x2048x1_0_0_0).toLoadRect (View.loadsAt_vmem h_S1x2048x1)) fun v16 =>
  .op (.load M8 (Rect.unit (s := S256x256) ![0, 0] S256x256.size inb_S256x256_S256x256_0_0).toLoadRect (View.loadsAt_vmem h_S256x256)) fun v18 =>
  .op (.load M9 (Rect.unit (s := S2048x256) ![0, 0] S2048x256.size inb_S2048x256_S2048x256_0_0).toLoadRect (View.loadsAt_vmem h_S2048x256)) fun _ =>
  .op (.store M9 (Rect.unit (s := S2048x256) ![0, 0] S2048x256.size inb_S2048x256_S2048x256_0_0) (k0_pay8 i v4 v6 v9 v11 v14 v16 v18) Finset.univ (View.stores_vmem_bits_univ h_S2048x256 rfl) (.inl rfl)) fun _ =>
  .op (.load M3 (Rect.unit (s := S1x2048x1) ![0, 0, 0] S1x2048x1.size inb_S1x2048x1_S1x2048x1_0_0_0).toLoadRect (View.loadsAt_vmem h_S1x2048x1)) fun v32 =>
  .op (.call (3 : (Λ₀ F).Label) ⟨i, rows, k0_pay1 v32, lanes, k0_pay8 i v4 v6 v9 v11 v14 v16 v18, k0_pay2 (F := F), M10, h10, M11, h11, 0#32⟩) fun _ => .ret ⟨⟩

section
variable (i : grid0.Coords) (M1 : Memref sig .tc .vmem S2048x128 .f32) (h1 : M1.IsWhole) (M2 : Memref sig .tc .vmem S1x2048x1 .i32) (h2 : M2.IsWhole) (M3 : Memref sig .tc .vmem S1x2048x1 .i32) (h3 : M3.IsWhole) (M4 : Memref sig .tc .vmem S128x256 .f32) (h4 : M4.IsWhole) (M5 : Memref sig .tc .vmem S128x256 .f32) (h5 : M5.IsWhole) (M6 : Memref sig .tc .vmem S1x256 .f32) (h6 : M6.IsWhole) (M7 : Memref sig .tc .vmem S1x256 .f32) (h7 : M7.IsWhole) (M8 : Memref sig .tc .vmem S256x256 .f32) (h8 : M8.IsWhole) (M9 : Memref sig .tc .vmem S2048x256 .f32) (h9 : M9.IsWhole) (M10 : Memref sig .tc .vmem S4352x256 .f32) (h10 : M10.IsWhole) (M11 : Memref sig .tc .vmem S4352x128 .f32) (h11 : M11.IsWhole)

/-- The body, at the first point and at the others. -/
theorem k1_first (h : atFirst (BitVec.ofNat 32 (i 0).val) = 1#1) :
    cc0__k1 (F := F) i M1 h1 M2 h2 M3 h3 M4 h4 M5 h5 M6 h6 M7 h7 M8 h8 M9 h9 M10 h10 M11 h11 =
      .op (.load M10 (Rect.unit (s := S4352x256) ![0, 0] S4352x256.size inb_S4352x256_S4352x256_0_0).toLoadRect (View.loadsAt_vmem h_S4352x256)) fun _ =>
      .op (.store M10 (Rect.unit (s := S4352x256) ![0, 0] S4352x256.size inb_S4352x256_S4352x256_0_0) (k0_pay6 (F := F)) Finset.univ (View.stores_vmem_bits_univ h_S4352x256 rfl) (.inl rfl)) fun _ =>
      .op (.load M11 (Rect.unit (s := S4352x128) ![0, 0] S4352x128.size inb_S4352x128_S4352x128_0_0).toLoadRect (View.loadsAt_vmem h_S4352x128)) fun _ =>
      .op (.store M11 (Rect.unit (s := S4352x128) ![0, 0] S4352x128.size inb_S4352x128_S4352x128_0_0) (k0_pay7 (F := F)) Finset.univ (View.stores_vmem_bits_univ h_S4352x128 rfl) (.inl rfl)) fun _ =>
      work0 i M1 h1 M2 h2 M3 h3 M4 h4 M5 h5 M6 h6 M7 h7 M8 h8 M9 h9 M10 h10 M11 h11 := by
  rw [cc0__k1_eq_skeleton]
  unfold cc0__k1_skel
  rw [k0_part1_eq_skeleton]
  unfold k0_part1_skel
  rw [dif_pos h]; rfl

theorem k1_later (h : ¬ atFirst (BitVec.ofNat 32 (i 0).val) = 1#1) :
    cc0__k1 (F := F) i M1 h1 M2 h2 M3 h3 M4 h4 M5 h5 M6 h6 M7 h7 M8 h8 M9 h9 M10 h10 M11 h11 = work0 i M1 h1 M2 h2 M3 h3 M4 h4 M5 h5 M6 h6 M7 h7 M8 h8 M9 h9 M10 h10 M11 h11 := by
  rw [cc0__k1_eq_skeleton]
  unfold cc0__k1_skel
  rw [k0_part1_eq_skeleton]
  unfold k0_part1_skel
  rw [dif_neg h]; rfl

variable (c : Dev nD) (X1 : Vec F S2048x128 .f32) (X2 : Vec F S1x2048x1 .i32) (X3 : Vec F S1x2048x1 .i32) (X4 : Vec F S128x256 .f32) (X5 : Vec F S128x256 .f32) (X6 : Vec F S1x256 .f32) (X7 : Vec F S1x256 .f32) (X8 : Vec F S256x256 .f32)

attribute [local irreducible] nextRow firstSeg base

/-- The point's work: the block of embeddings written, the loop run over the accumulators. -/
theorem work0_spec (hs : SegsOk (k0_pay1 X3)) (f9 : Bf (F := F) c M9) (st : St1 F) (K : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 f9 ∗ pt c M10 (h10.unread st.1) ∗ pt c M11 (h11.unread st.2)
      ∗ (pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread (k0_pay8 i X4 X5 X6 X7 X1 X2 X8))
        ∗ pt c M10 (h10.unread (loop1 (k0_pay1 X3) (k0_pay8 i X4 X5 X6 X7 X1 X2 X8) 2048 0#32 st).1) ∗ pt c M11 (h11.unread (loop1 (k0_pay1 X3) (k0_pay8 i X4 X5 X6 X7 X1 X2 X8) 2048 0#32 st).2) -∗ K ⟨⟩))
    ⊢ wp frame (wpE (defs₀ (F := F)) 𝒱₀ (c : Thread nD τ) none) Set.univ (work0 i M1 h1 M2 h2 M3 h3 M4 h4 M5 h5 M6 h6 M7 h7 M8 h8 M9 h9 M10 h10 M11 h11) K := by
  have hS : ∀ K : BitVec 32 → sProp 𝕄, call1 (k0_pay1 X3) (k0_pay8 i X4 X5 X6 X7 X1 X2 X8) M10 h10 M11 h11 c 2048 0#32 st K
      ⊢ wp frame (wpE (defs₀ (F := F)) 𝒱₀ (c : Thread nD τ) (some 2048)) Set.univ
        (defs₀ (F := F) (.tc) (3 : (Λ₀ F).Label) ⟨i, rows, k0_pay1 X3, lanes, (k0_pay8 i X4 X5 X6 X7 X1 X2 X8), k0_pay2 (F := F), M10, h10, M11, h11, 0#32⟩) K := by
    intro K
    rw [row1]
    exact loop1_spec i _ _ M10 h10 M11 h11 hs c 2048 0#32 (by decide) (by decide) st K
  unfold work0
  iintro ⟨H1, H2, H3, H4, H5, H6, H7, H8, H9, H10, H11, Hk⟩
  iapply (load_pt c M4 _ (whole_2 M4 h4 _ inb_S128x256_S128x256_0_0)) $$ H4; iintro H4
  iapply (load_pt c M5 _ (whole_2 M5 h5 _ inb_S128x256_S128x256_0_0)) $$ H5; iintro H5
  iapply (load_pt c M6 _ (whole_2 M6 h6 _ inb_S1x256_S1x256_0_0)) $$ H6; iintro H6
  iapply (load_pt c M7 _ (whole_2 M7 h7 _ inb_S1x256_S1x256_0_0)) $$ H7; iintro H7
  iapply (load_pt c M1 _ (whole_2 M1 h1 _ inb_S2048x128_S2048x128_0_0)) $$ H1; iintro H1
  iapply (load_pt c M2 _ (whole_3 M2 h2 _ inb_S1x2048x1_S1x2048x1_0_0_0)) $$ H2; iintro H2
  iapply (load_pt c M8 _ (whole_2 M8 h8 _ inb_S256x256_S256x256_0_0)) $$ H8; iintro H8
  iapply (load_pt c M9 _ rfl) $$ H9; iintro H9
  iapply (store_pt c M9 _ (w := (k0_pay8 i X4 X5 X6 X7 X1 X2 X8)) (write_2 M9 h9 _ _ inb_S2048x256_S2048x256_0_0)) $$ H9; iintro H9
  iapply (load_pt c M3 _ (whole_3 M3 h3 _ inb_S1x2048x1_S1x2048x1_0_0_0)) $$ H3; iintro H3
  iapply (wp_call_spec (ℓ := (3 : (Λ₀ F).Label)) (a := ⟨i, rows, k0_pay1 X3, lanes, (k0_pay8 i X4 X5 X6 X7 X1 X2 X8), k0_pay2 (F := F), M10, h10, M11, h11, 0#32⟩)
    𝒱₀ (c : Thread nD τ) _ Set.univ (call1 (k0_pay1 X3) (k0_pay8 i X4 X5 X6 X7 X1 X2 X8) M10 h10 M11 h11 c 2048 0#32 st) 2048
    (fun u hu => by cases hu) hS)
  rw [call1_apply]
  isplitl [H10]; · iexact H10
  isplitl [H11]; · iexact H11
  iintro %r H
  icases H with ⟨H10, H11⟩
  rw [wp_ret]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The accumulators as the loop meets them: zeroes at the first point. -/
def begun0 (i : grid0.Coords) (st : St1 F) : St1 F := if atFirst (BitVec.ofNat 32 (i 0).val) = 1#1 then (k0_pay6 (F := F), k0_pay7 (F := F)) else st

/-- The body at one point. -/
theorem k1_spec (hs : SegsOk (k0_pay1 X3)) (f9 : Bf (F := F) c M9) (st : St1 F) (K : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 f9 ∗ pt c M10 (h10.unread st.1) ∗ pt c M11 (h11.unread st.2)
      ∗ (pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread (k0_pay8 i X4 X5 X6 X7 X1 X2 X8))
        ∗ pt c M10 (h10.unread (loop1 (k0_pay1 X3) (k0_pay8 i X4 X5 X6 X7 X1 X2 X8) 2048 0#32 (begun0 i st)).1) ∗ pt c M11 (h11.unread (loop1 (k0_pay1 X3) (k0_pay8 i X4 X5 X6 X7 X1 X2 X8) 2048 0#32 (begun0 i st)).2) -∗ K ⟨⟩))
    ⊢ wp frame (wpE (defs₀ (F := F)) 𝒱₀ (c : Thread nD τ) none) Set.univ (cc0__k1 (F := F) i M1 h1 M2 h2 M3 h3 M4 h4 M5 h5 M6 h6 M7 h7 M8 h8 M9 h9 M10 h10 M11 h11) K := by
  by_cases h : atFirst (BitVec.ofNat 32 (i 0).val) = 1#1
  · rw [k1_first i M1 h1 M2 h2 M3 h3 M4 h4 M5 h5 M6 h6 M7 h7 M8 h8 M9 h9 M10 h10 M11 h11 h, begun0, if_pos h]
    iintro ⟨H1, H2, H3, H4, H5, H6, H7, H8, H9, H10, H11, Hk⟩
    iapply (load_pt c M10 _ rfl) $$ H10; iintro H10
    iapply (store_pt c M10 _ (w := k0_pay6 (F := F)) (write_2 M10 h10 _ _ inb_S4352x256_S4352x256_0_0)) $$ H10; iintro H10
    iapply (load_pt c M11 _ rfl) $$ H11; iintro H11
    iapply (store_pt c M11 _ (w := k0_pay7 (F := F)) (write_2 M11 h11 _ _ inb_S4352x128_S4352x128_0_0)) $$ H11; iintro H11
    iapply (work0_spec i M1 h1 M2 h2 M3 h3 M4 h4 M5 h5 M6 h6 M7 h7 M8 h8 M9 h9 M10 h10 M11 h11 c X1 X2 X3 X4 X5 X6 X7 X8 hs f9 (k0_pay6 (F := F), k0_pay7 (F := F)) K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hk
  · rw [k1_later i M1 h1 M2 h2 M3 h3 M4 h4 M5 h5 M6 h6 M7 h7 M8 h8 M9 h9 M10 h10 M11 h11 h, begun0, if_neg h]
    exact work0_spec i M1 h1 M2 h2 M3 h3 M4 h4 M5 h5 M6 h6 M7 h7 M8 h8 M9 h9 M10 h10 M11 h11 c X1 X2 X3 X4 X5 X6 X7 X8 hs f9 st K

end

end Cert.KernelIdeal.Loop

end
-- ==== Proof.PI.Body1.lean ====
/- The second call: from the sums and counts held whole it writes the reciprocals of the counts and the means' projections. -/
module

public import proofs.«01_k».proof.Proof.PI.Body0

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (choose arbitrary assume consume produce)

variable {F : FTy → Type} [FloatOps F]

local notation "𝕄" => MT nD τ sig Unit (Elt F) ℕ (UU nD τ) ℕ

/-- The first lane of the counts. -/
def firstLane (X : Vec F S4352x128 .f32) : Vec F S4352x1 .f32 := fun j => X ((Rect.unit (s := S4352x128) ![0, 0] S4352x1.size inb_S4352x128_S4352x1_0_0).emb j)

section
variable (M0 : Memref sig .tc .vmem S4352x256 .f32) (h0 : M0.IsWhole) (M1 : Memref sig .tc .vmem S4352x128 .f32) (h1 : M1.IsWhole) (M2 : Memref sig .tc .vmem S256x256 .f32) (h2 : M2.IsWhole) (M3 : Memref sig .tc .vmem S4352x256 .f32) (h3 : M3.IsWhole) (M4 : Memref sig .tc .vmem S4352x256 .f32) (h4 : M4.IsWhole)

/-- The body, operation by operation. -/
theorem kmid_ops : cc1__kmid (F := F) M0 h0 M1 h1 M2 h2 M3 h3 M4 h4 =
      .op (.load M1 (Rect.unit (s := S4352x128) ![0, 0] S4352x1.size inb_S4352x128_S4352x1_0_0).toLoadRect (View.loadsAt_vmem h_S4352x1)) fun v0 =>
      .op (.load M4 (Rect.unit (s := S4352x256) ![0, 0] S4352x256.size inb_S4352x256_S4352x256_0_0).toLoadRect (View.loadsAt_vmem h_S4352x256)) fun _ =>
      .op (.store M4 (Rect.unit (s := S4352x256) ![0, 0] S4352x256.size inb_S4352x256_S4352x256_0_0) (k1_pay2 v0) Finset.univ (View.stores_vmem_bits_univ h_S4352x256 rfl) (.inl rfl)) fun _ =>
      .op (.load M0 (Rect.unit (s := S4352x256) ![0, 0] S4352x256.size inb_S4352x256_S4352x256_0_0).toLoadRect (View.loadsAt_vmem h_S4352x256)) fun v9 =>
      .op (.load M2 (Rect.unit (s := S256x256) ![0, 0] S256x256.size inb_S256x256_S256x256_0_0).toLoadRect (View.loadsAt_vmem h_S256x256)) fun v13 =>
      .op (.load M3 (Rect.unit (s := S4352x256) ![0, 0] S4352x256.size inb_S4352x256_S4352x256_0_0).toLoadRect (View.loadsAt_vmem h_S4352x256)) fun _ =>
      .op (.store M3 (Rect.unit (s := S4352x256) ![0, 0] S4352x256.size inb_S4352x256_S4352x256_0_0) (k1_pay3 v0 v9 v13) Finset.univ (View.stores_vmem_bits_univ h_S4352x256 rfl) (.inl rfl)) fun _ => .ret ⟨⟩ := by
  rw [cc1__kmid_eq_skeleton]; rfl

theorem lane_read (X : Vec F S4352x128 .f32) : (M1.access (Rect.unit (s := S4352x128) ![0, 0] S4352x1.size inb_S4352x128_S4352x1_0_0)).read (Elt F) (h1.unread X) = firstLane X :=
  funext fun _ => congrFun (h1.read_unread X) _

/-- The body. -/
theorem kmid_spec (c : Dev nD) (X0 : Vec F S4352x256 .f32) (X1 : Vec F S4352x128 .f32) (X2 : Vec F S256x256 .f32) (f3 : Bf (F := F) c M3) (f4 : Bf (F := F) c M4) (K : PUnit → sProp 𝕄) :
    iprop(pt c M0 (h0.unread X0) ∗ pt c M1 (h1.unread X1) ∗ pt c M2 (h2.unread X2) ∗ pt c M3 f3 ∗ pt c M4 f4
      ∗ (pt c M0 (h0.unread X0) ∗ pt c M1 (h1.unread X1) ∗ pt c M2 (h2.unread X2) ∗ pt c M3 (h3.unread (k1_pay3 (firstLane X1) X0 X2)) ∗ pt c M4 (h4.unread (k1_pay2 (firstLane X1))) -∗ K ⟨⟩))
    ⊢ wp frame (wpE (defs₀ (F := F)) 𝒱₀ (c : Thread nD τ) none) Set.univ (cc1__kmid (F := F) M0 h0 M1 h1 M2 h2 M3 h3 M4 h4) K := by
  rw [kmid_ops M0 h0 M1 h1 M2 h2 M3 h3 M4 h4]
  iintro ⟨H0, H1, H2, H3, H4, Hk⟩
  iapply (load_pt c M1 _ (lane_read M1 h1 _)) $$ H1; iintro H1
  iapply (load_pt c M4 _ rfl) $$ H4; iintro H4
  iapply (store_pt c M4 _ (w := k1_pay2 (firstLane X1)) (write_2 M4 h4 _ _ inb_S4352x256_S4352x256_0_0)) $$ H4; iintro H4
  iapply (load_pt c M0 _ (whole_2 M0 h0 _ inb_S4352x256_S4352x256_0_0)) $$ H0; iintro H0
  iapply (load_pt c M2 _ (whole_2 M2 h2 _ inb_S256x256_S256x256_0_0)) $$ H2; iintro H2
  iapply (load_pt c M3 _ rfl) $$ H3; iintro H3
  iapply (store_pt c M3 _ (w := k1_pay3 (firstLane X1) X0 X2) (write_2 M3 h3 _ _ inb_S4352x256_S4352x256_0_0)) $$ H3; iintro H3
  rw [wp_ret]
  imodintro
  iapply Hk
  isplitl [H0]; · iexact H0
  isplitl [H1]; · iexact H1
  isplitl [H2]; · iexact H2
  isplitl [H3]; · iexact H3
  iexact H4

end

end Cert.KernelIdeal.Loop

end
-- ==== Proof.PI.Hold.lean ====
/- Two ways of saying that a whole buffer is held at given contents. -/
module

public import proofs.«01_k».proof.Proof.PI.Body1
public import proofs.«01_k».proof.Proof.Gen.KernelIdeal.Points
public import proofs.«01_k».proof.Proof.Gen.KernelIdeal.Launch
public import Idealize.ShloMosaic.Lib.Pipeline.Regions

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

/-- A memref's buffer held at what reads as `X` is the buffer held at the one contents that reads so. -/
theorem owns_pt (c : Dev nD) {sp : Space} {S : Shape} {e : EltTy} (M : Memref sig .tc sp S e) (h : M.IsWhole) (X Y : Vec F S e) (hXY : X = Y) :
    (owns c M fullShare X : sProp 𝕄) ⊢ pt c M (h.unread Y) := by
  subst hXY
  unfold owns
  rw [h.set_eq_univ]
  iintro ⟨%f, %hf, H⟩
  rw [← h.eq_unread hf]
  iexact H

/-- Two separate entailments at once. -/
theorem both {P P' Q Q' : sProp 𝕄} (h : P ⊢ P') (k : Q ⊢ Q') : iprop(P ∗ Q) ⊢ iprop(P' ∗ Q') := BIClass.sep_mono h k

theorem pt_owns (c : Dev nD) {sp : Space} {S : Shape} {e : EltTy} (M : Memref sig .tc sp S e) (h : M.IsWhole) (X Y : Vec F S e) (hXY : X = Y) :
    pt c M (h.unread X) ⊢ (owns c M fullShare Y : sProp 𝕄) := by
  subst hXY
  unfold owns
  rw [h.set_eq_univ]
  iintro H
  iexists _
  isplitr
  · ipureintro; exact h.read_unread X
  · iexact H

end Cert.KernelIdeal.Loop

end
-- ==== Proof.PI.Dat0.lean ====
/- The first call's proof data: what each window's staging buffer holds after each point, and the body's obligation. -/
module

public import proofs.«01_k».proof.Proof.PI.Hold
public import proofs.«01_k».proof.Proof.Gen.KernelIdeal.Points
public import proofs.«01_k».proof.Proof.Gen.KernelIdeal.Launch
public import Idealize.ShloMosaic.Lib.Pipeline.Regions

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (V : Dev nD → Valuation τ sig (Elt F)) (c : Dev nD)

/-- Window 0's block at a point. -/
noncomputable def in0_0 (t : Fin (cfg0 (F := F)).N) : Vec F S2048x128 .f32 := ((cfg0 (F := F)).win 0).blk t |>.view.read (Elt F) (V c (Pipeline.arrRef spec0 0))
/-- Window 1's block at a point. -/
noncomputable def in0_1 (t : Fin (cfg0 (F := F)).N) : Vec F S1x2048x1 .i32 := ((cfg0 (F := F)).win 1).blk t |>.view.read (Elt F) (V c (Pipeline.arrRef spec0 1))
/-- Window 2's block at a point. -/
noncomputable def in0_2 (t : Fin (cfg0 (F := F)).N) : Vec F S1x2048x1 .i32 := ((cfg0 (F := F)).win 2).blk t |>.view.read (Elt F) (V c (Pipeline.arrRef spec0 2))
/-- Window 3's block at a point. -/
noncomputable def in0_3 (t : Fin (cfg0 (F := F)).N) : Vec F S128x256 .f32 := ((cfg0 (F := F)).win 3).blk t |>.view.read (Elt F) (V c (Pipeline.arrRef spec0 3))
/-- Window 4's block at a point. -/
noncomputable def in0_4 (t : Fin (cfg0 (F := F)).N) : Vec F S128x256 .f32 := ((cfg0 (F := F)).win 4).blk t |>.view.read (Elt F) (V c (Pipeline.arrRef spec0 4))
/-- Window 5's block at a point. -/
noncomputable def in0_5 (t : Fin (cfg0 (F := F)).N) : Vec F S1x256 .f32 := ((cfg0 (F := F)).win 5).blk t |>.view.read (Elt F) (V c (Pipeline.arrRef spec0 5))
/-- Window 6's block at a point. -/
noncomputable def in0_6 (t : Fin (cfg0 (F := F)).N) : Vec F S1x256 .f32 := ((cfg0 (F := F)).win 6).blk t |>.view.read (Elt F) (V c (Pipeline.arrRef spec0 6))
/-- Window 7's block at a point. -/
noncomputable def in0_7 (t : Fin (cfg0 (F := F)).N) : Vec F S256x256 .f32 := ((cfg0 (F := F)).win 7).blk t |>.view.read (Elt F) (V c (Pipeline.arrRef spec0 7))

/-- The embeddings of the rows of the block. -/
def emb0 (t : Fin (cfg0 (F := F)).N) : Vec F S2048x256 .f32 := k0_pay8 (grid0.coords t) (in0_3 V c t) (in0_4 V c t) (in0_5 V c t) (in0_6 V c t) (in0_0 V c t) (in0_1 V c t) (in0_7 V c t)

/-- The block's segments. -/
def segs0 (t : Fin (cfg0 (F := F)).N) : IVec S2048x1 32 := k0_pay1 (F := F) (in0_2 V c t)

/-- One point's work on the accumulators. -/
def point0 (t : Fin (cfg0 (F := F)).N) (st : St1 F) : St1 F := loop1 (segs0 V c t) (emb0 V c t) 2048 0#32 (begun0 (grid0.coords t) st)

/-- The accumulators after the first `n` points. -/
def acc0 : ℕ → St1 F
  | 0 => (k0_pay6 (F := F), k0_pay7 (F := F))
  | n + 1 => if h : n < (cfg0 (F := F)).N then point0 V c ⟨n, h⟩ (acc0 n) else acc0 n

theorem acc0_succ (t : Fin (cfg0 (F := F)).N) : acc0 V c (t.val + 1) = point0 V c t (acc0 V c t.val) := by
  rw [acc0, dif_pos t.isLt]

/-- The proof data. -/
def dat0 : Dat τ (Elt F) Unit ℕ (UU nD τ) ℕ (cfg0 (F := F)) c where
  A w := V c (Pipeline.arrRef spec0 w)
  after w t := match w with
    | ⟨0, _⟩ => in0_0 V c t
    | ⟨1, _⟩ => in0_1 V c t
    | ⟨2, _⟩ => in0_2 V c t
    | ⟨3, _⟩ => in0_3 V c t
    | ⟨4, _⟩ => in0_4 V c t
    | ⟨5, _⟩ => in0_5 V c t
    | ⟨6, _⟩ => in0_6 V c t
    | ⟨7, _⟩ => in0_7 V c t
    | ⟨8, _⟩ => emb0 V c t
    | ⟨9, _⟩ => (acc0 V c (t.val + 1)).1
    | ⟨10, _⟩ => (acc0 V c (t.val + 1)).2
  Φ _ := Pipeline.scopedRest (Ix := Unit) (Name := ℕ) (U := UU nD τ) (Lvl := ℕ) (Val := Elt F) spec0 c
  q _ := fullShare
  owed _ := 0

theorem before0_0 (t : Fin (cfg0 (F := F)).N) (d) : (dat0 V c).before 0 t d = in0_0 V c t :=
  (dat0 V c).before_in_eq_fetched 0 rfl (fun _ => rfl) (fun _ _ _ => rfl) (fun _ => rfl) t d
theorem before0_1 (t : Fin (cfg0 (F := F)).N) (d) : (dat0 V c).before 1 t d = in0_1 V c t :=
  (dat0 V c).before_in_eq_fetched 1 rfl (fun _ => rfl) (fun _ _ _ => rfl) (fun _ => rfl) t d
theorem before0_2 (t : Fin (cfg0 (F := F)).N) (d) : (dat0 V c).before 2 t d = in0_2 V c t :=
  (dat0 V c).before_in_eq_fetched 2 rfl (fun _ => rfl) (fun _ _ _ => rfl) (fun _ => rfl) t d
theorem before0_3 (t : Fin (cfg0 (F := F)).N) (d) : (dat0 V c).before 3 t d = in0_3 V c t :=
  (dat0 V c).before_in_eq_fetched 3 rfl (fun _ => rfl) (fun _ _ _ => rfl) (fun _ => rfl) t d
theorem before0_4 (t : Fin (cfg0 (F := F)).N) (d) : (dat0 V c).before 4 t d = in0_4 V c t :=
  (dat0 V c).before_in_eq_fetched 4 rfl (fun _ => rfl) (fun _ _ _ => rfl) (fun _ => rfl) t d
theorem before0_5 (t : Fin (cfg0 (F := F)).N) (d) : (dat0 V c).before 5 t d = in0_5 V c t :=
  (dat0 V c).before_in_eq_fetched 5 rfl (fun _ => rfl) (fun _ _ _ => rfl) (fun _ => rfl) t d
theorem before0_6 (t : Fin (cfg0 (F := F)).N) (d) : (dat0 V c).before 6 t d = in0_6 V c t :=
  (dat0 V c).before_in_eq_fetched 6 rfl (fun _ => rfl) (fun _ _ _ => rfl) (fun _ => rfl) t d
theorem before0_7 (t : Fin (cfg0 (F := F)).N) (d) : (dat0 V c).before 7 t d = in0_7 V c t :=
  (dat0 V c).before_in_eq_fetched 7 rfl (fun _ => rfl) (fun _ _ _ => rfl) (fun _ => rfl) t d

theorem first0 (t : Fin (cfg0 (F := F)).N) (ht : t.val = 0) (st st' : St1 F) : begun0 (grid0.coords t) st = begun0 (grid0.coords t) st' := by
  have key : ∀ t : Fin grid0.N, t.val = 0 → atFirst (BitVec.ofNat 32 (grid0.coords t 0).val) = 1#1 := by decide +kernel
  rw [begun0, begun0, if_pos (key t ht), if_pos (key t ht)]

theorem kept0_9 (t : Fin (cfg0 (F := F)).N) (ht : t.val ≠ 0) (d) : (dat0 V c).before 9 t d = (acc0 V c t.val).1 := by
  have hN : t.val < 64 := lt_of_lt_of_eq t.isLt N_0
  refine ((dat0 V c).before_out_kept 9 rfl t ht ?_ (fun _ => rfl) (fun _ _ => rfl) d).trans ?_
  · rw [Bool.eq_false_iff, Ne, flush0_9]; show ¬ (t.val - 1) % 64 = 63; omega
  · show (acc0 V c (t.val - 1 + 1)).1 = _
    rw [Nat.sub_add_cancel (Nat.pos_of_ne_zero ht)]

theorem kept0_10 (t : Fin (cfg0 (F := F)).N) (ht : t.val ≠ 0) (d) : (dat0 V c).before 10 t d = (acc0 V c t.val).2 := by
  have hN : t.val < 64 := lt_of_lt_of_eq t.isLt N_0
  refine ((dat0 V c).before_out_kept 10 rfl t ht ?_ (fun _ => rfl) (fun _ _ => rfl) d).trans ?_
  · rw [Bool.eq_false_iff, Ne, flush0_10]; show ¬ (t.val - 1) % 64 = 63; omega
  · show (acc0 V c (t.val - 1 + 1)).2 = _
    rw [Nat.sub_add_cancel (Nat.pos_of_ne_zero ht)]

/-- What the point's work makes of what it finds in the accumulators. -/
theorem found0 (t : Fin (cfg0 (F := F)).N) (d9 d10) :
    point0 V c t ((dat0 V c).before 9 t d9, (dat0 V c).before 10 t d10) = acc0 V c (t.val + 1) := by
  rw [acc0_succ]
  by_cases ht : t.val = 0
  · rw [point0, point0, first0 t ht _ (acc0 V c t.val)]
  · rw [kept0_9 V c t ht, kept0_10 V c t ht]

/-- The label of the body runs it. -/
theorem row0 (t : Fin (cfg0 (F := F)).N) : defs₀ (F := F) .tc (cfg0 (F := F)).body ((cfg0 (F := F)).bodyArgs t ((cfg0 (F := F)).slots t)) = bodyAt0 t := by
  unfold defs₀; rw [Defs.onTc_tc]

attribute [local irreducible] nextRow firstSeg base

theorem hold0_0 (t : Fin (cfg0 (F := F)).N) :
    iprop(∃ d, owns (c : Thread nD τ) (((cfg0 (F := F)).win 0).stage ((cfg0 (F := F)).slots t 0)) fullShare ((dat0 V c).before 0 t d)) ⊢ (pt c (st0_0 t) ((hstage0_0 (((cfg0 (F := F)).slots t 0).cast nbuf0_0)).unread (in0_0 V c t)) : sProp 𝕄) := by
  iintro ⟨%d, H⟩
  iapply (owns_pt c (((cfg0 (F := F)).win 0).stage ((cfg0 (F := F)).slots t 0)) (hstage0_0 (((cfg0 (F := F)).slots t 0).cast nbuf0_0)) _ _ (before0_0 V c t d)) $$ H
theorem leave0_0 (t : Fin (cfg0 (F := F)).N) :
    (pt c (st0_0 t) ((hstage0_0 (((cfg0 (F := F)).slots t 0).cast nbuf0_0)).unread (in0_0 V c t)) : sProp 𝕄) ⊢ owns (c : Thread nD τ) (((cfg0 (F := F)).win 0).stage ((cfg0 (F := F)).slots t 0)) fullShare ((dat0 V c).after 0 t) :=
  pt_owns c (((cfg0 (F := F)).win 0).stage ((cfg0 (F := F)).slots t 0)) (hstage0_0 (((cfg0 (F := F)).slots t 0).cast nbuf0_0)) _ _ rfl

theorem hold0_1 (t : Fin (cfg0 (F := F)).N) :
    iprop(∃ d, owns (c : Thread nD τ) (((cfg0 (F := F)).win 1).stage ((cfg0 (F := F)).slots t 1)) fullShare ((dat0 V c).before 1 t d)) ⊢ (pt c (st0_1 t) ((hstage0_1 (((cfg0 (F := F)).slots t 1).cast nbuf0_1)).unread (in0_1 V c t)) : sProp 𝕄) := by
  iintro ⟨%d, H⟩
  iapply (owns_pt c (((cfg0 (F := F)).win 1).stage ((cfg0 (F := F)).slots t 1)) (hstage0_1 (((cfg0 (F := F)).slots t 1).cast nbuf0_1)) _ _ (before0_1 V c t d)) $$ H
theorem leave0_1 (t : Fin (cfg0 (F := F)).N) :
    (pt c (st0_1 t) ((hstage0_1 (((cfg0 (F := F)).slots t 1).cast nbuf0_1)).unread (in0_1 V c t)) : sProp 𝕄) ⊢ owns (c : Thread nD τ) (((cfg0 (F := F)).win 1).stage ((cfg0 (F := F)).slots t 1)) fullShare ((dat0 V c).after 1 t) :=
  pt_owns c (((cfg0 (F := F)).win 1).stage ((cfg0 (F := F)).slots t 1)) (hstage0_1 (((cfg0 (F := F)).slots t 1).cast nbuf0_1)) _ _ rfl

theorem hold0_2 (t : Fin (cfg0 (F := F)).N) :
    iprop(∃ d, owns (c : Thread nD τ) (((cfg0 (F := F)).win 2).stage ((cfg0 (F := F)).slots t 2)) fullShare ((dat0 V c).before 2 t d)) ⊢ (pt c (st0_2 t) ((hstage0_2 (((cfg0 (F := F)).slots t 2).cast nbuf0_2)).unread (in0_2 V c t)) : sProp 𝕄) := by
  iintro ⟨%d, H⟩
  iapply (owns_pt c (((cfg0 (F := F)).win 2).stage ((cfg0 (F := F)).slots t 2)) (hstage0_2 (((cfg0 (F := F)).slots t 2).cast nbuf0_2)) _ _ (before0_2 V c t d)) $$ H
theorem leave0_2 (t : Fin (cfg0 (F := F)).N) :
    (pt c (st0_2 t) ((hstage0_2 (((cfg0 (F := F)).slots t 2).cast nbuf0_2)).unread (in0_2 V c t)) : sProp 𝕄) ⊢ owns (c : Thread nD τ) (((cfg0 (F := F)).win 2).stage ((cfg0 (F := F)).slots t 2)) fullShare ((dat0 V c).after 2 t) :=
  pt_owns c (((cfg0 (F := F)).win 2).stage ((cfg0 (F := F)).slots t 2)) (hstage0_2 (((cfg0 (F := F)).slots t 2).cast nbuf0_2)) _ _ rfl

theorem hold0_3 (t : Fin (cfg0 (F := F)).N) :
    iprop(∃ d, owns (c : Thread nD τ) (((cfg0 (F := F)).win 3).stage ((cfg0 (F := F)).slots t 3)) fullShare ((dat0 V c).before 3 t d)) ⊢ (pt c (st0_3 t) ((hstage0_3 (((cfg0 (F := F)).slots t 3).cast nbuf0_3)).unread (in0_3 V c t)) : sProp 𝕄) := by
  iintro ⟨%d, H⟩
  iapply (owns_pt c (((cfg0 (F := F)).win 3).stage ((cfg0 (F := F)).slots t 3)) (hstage0_3 (((cfg0 (F := F)).slots t 3).cast nbuf0_3)) _ _ (before0_3 V c t d)) $$ H
theorem leave0_3 (t : Fin (cfg0 (F := F)).N) :
    (pt c (st0_3 t) ((hstage0_3 (((cfg0 (F := F)).slots t 3).cast nbuf0_3)).unread (in0_3 V c t)) : sProp 𝕄) ⊢ owns (c : Thread nD τ) (((cfg0 (F := F)).win 3).stage ((cfg0 (F := F)).slots t 3)) fullShare ((dat0 V c).after 3 t) :=
  pt_owns c (((cfg0 (F := F)).win 3).stage ((cfg0 (F := F)).slots t 3)) (hstage0_3 (((cfg0 (F := F)).slots t 3).cast nbuf0_3)) _ _ rfl

theorem hold0_4 (t : Fin (cfg0 (F := F)).N) :
    iprop(∃ d, owns (c : Thread nD τ) (((cfg0 (F := F)).win 4).stage ((cfg0 (F := F)).slots t 4)) fullShare ((dat0 V c).before 4 t d)) ⊢ (pt c (st0_4 t) ((hstage0_4 (((cfg0 (F := F)).slots t 4).cast nbuf0_4)).unread (in0_4 V c t)) : sProp 𝕄) := by
  iintro ⟨%d, H⟩
  iapply (owns_pt c (((cfg0 (F := F)).win 4).stage ((cfg0 (F := F)).slots t 4)) (hstage0_4 (((cfg0 (F := F)).slots t 4).cast nbuf0_4)) _ _ (before0_4 V c t d)) $$ H
theorem leave0_4 (t : Fin (cfg0 (F := F)).N) :
    (pt c (st0_4 t) ((hstage0_4 (((cfg0 (F := F)).slots t 4).cast nbuf0_4)).unread (in0_4 V c t)) : sProp 𝕄) ⊢ owns (c : Thread nD τ) (((cfg0 (F := F)).win 4).stage ((cfg0 (F := F)).slots t 4)) fullShare ((dat0 V c).after 4 t) :=
  pt_owns c (((cfg0 (F := F)).win 4).stage ((cfg0 (F := F)).slots t 4)) (hstage0_4 (((cfg0 (F := F)).slots t 4).cast nbuf0_4)) _ _ rfl

theorem hold0_5 (t : Fin (cfg0 (F := F)).N) :
    iprop(∃ d, owns (c : Thread nD τ) (((cfg0 (F := F)).win 5).stage ((cfg0 (F := F)).slots t 5)) fullShare ((dat0 V c).before 5 t d)) ⊢ (pt c (st0_5 t) ((hstage0_5 (((cfg0 (F := F)).slots t 5).cast nbuf0_5)).unread (in0_5 V c t)) : sProp 𝕄) := by
  iintro ⟨%d, H⟩
  iapply (owns_pt c (((cfg0 (F := F)).win 5).stage ((cfg0 (F := F)).slots t 5)) (hstage0_5 (((cfg0 (F := F)).slots t 5).cast nbuf0_5)) _ _ (before0_5 V c t d)) $$ H
theorem leave0_5 (t : Fin (cfg0 (F := F)).N) :
    (pt c (st0_5 t) ((hstage0_5 (((cfg0 (F := F)).slots t 5).cast nbuf0_5)).unread (in0_5 V c t)) : sProp 𝕄) ⊢ owns (c : Thread nD τ) (((cfg0 (F := F)).win 5).stage ((cfg0 (F := F)).slots t 5)) fullShare ((dat0 V c).after 5 t) :=
  pt_owns c (((cfg0 (F := F)).win 5).stage ((cfg0 (F := F)).slots t 5)) (hstage0_5 (((cfg0 (F := F)).slots t 5).cast nbuf0_5)) _ _ rfl

theorem hold0_6 (t : Fin (cfg0 (F := F)).N) :
    iprop(∃ d, owns (c : Thread nD τ) (((cfg0 (F := F)).win 6).stage ((cfg0 (F := F)).slots t 6)) fullShare ((dat0 V c).before 6 t d)) ⊢ (pt c (st0_6 t) ((hstage0_6 (((cfg0 (F := F)).slots t 6).cast nbuf0_6)).unread (in0_6 V c t)) : sProp 𝕄) := by
  iintro ⟨%d, H⟩
  iapply (owns_pt c (((cfg0 (F := F)).win 6).stage ((cfg0 (F := F)).slots t 6)) (hstage0_6 (((cfg0 (F := F)).slots t 6).cast nbuf0_6)) _ _ (before0_6 V c t d)) $$ H
theorem leave0_6 (t : Fin (cfg0 (F := F)).N) :
    (pt c (st0_6 t) ((hstage0_6 (((cfg0 (F := F)).slots t 6).cast nbuf0_6)).unread (in0_6 V c t)) : sProp 𝕄) ⊢ owns (c : Thread nD τ) (((cfg0 (F := F)).win 6).stage ((cfg0 (F := F)).slots t 6)) fullShare ((dat0 V c).after 6 t) :=
  pt_owns c (((cfg0 (F := F)).win 6).stage ((cfg0 (F := F)).slots t 6)) (hstage0_6 (((cfg0 (F := F)).slots t 6).cast nbuf0_6)) _ _ rfl

theorem hold0_7 (t : Fin (cfg0 (F := F)).N) :
    iprop(∃ d, owns (c : Thread nD τ) (((cfg0 (F := F)).win 7).stage ((cfg0 (F := F)).slots t 7)) fullShare ((dat0 V c).before 7 t d)) ⊢ (pt c (st0_7 t) ((hstage0_7 (((cfg0 (F := F)).slots t 7).cast nbuf0_7)).unread (in0_7 V c t)) : sProp 𝕄) := by
  iintro ⟨%d, H⟩
  iapply (owns_pt c (((cfg0 (F := F)).win 7).stage ((cfg0 (F := F)).slots t 7)) (hstage0_7 (((cfg0 (F := F)).slots t 7).cast nbuf0_7)) _ _ (before0_7 V c t d)) $$ H
theorem leave0_7 (t : Fin (cfg0 (F := F)).N) :
    (pt c (st0_7 t) ((hstage0_7 (((cfg0 (F := F)).slots t 7).cast nbuf0_7)).unread (in0_7 V c t)) : sProp 𝕄) ⊢ owns (c : Thread nD τ) (((cfg0 (F := F)).win 7).stage ((cfg0 (F := F)).slots t 7)) fullShare ((dat0 V c).after 7 t) :=
  pt_owns c (((cfg0 (F := F)).win 7).stage ((cfg0 (F := F)).slots t 7)) (hstage0_7 (((cfg0 (F := F)).slots t 7).cast nbuf0_7)) _ _ rfl

theorem hold0_8 (t : Fin (cfg0 (F := F)).N) :
    iprop(∃ d, owns (c : Thread nD τ) (((cfg0 (F := F)).win 8).stage ((cfg0 (F := F)).slots t 8)) fullShare ((dat0 V c).before 8 t d)) ⊢ (iprop(∃ d, pt c (st0_8 t) ((hstage0_8 (((cfg0 (F := F)).slots t 8).cast nbuf0_8)).unread ((dat0 V c).before 8 t d))) : sProp 𝕄) := by
  iintro ⟨%d, H⟩
  iexists d
  iapply (owns_pt c (((cfg0 (F := F)).win 8).stage ((cfg0 (F := F)).slots t 8)) (hstage0_8 (((cfg0 (F := F)).slots t 8).cast nbuf0_8)) _ _ rfl) $$ H
theorem leave0_8 (t : Fin (cfg0 (F := F)).N) :
    (pt c (st0_8 t) ((hstage0_8 (((cfg0 (F := F)).slots t 8).cast nbuf0_8)).unread (emb0 V c t)) : sProp 𝕄) ⊢ owns (c : Thread nD τ) (((cfg0 (F := F)).win 8).stage ((cfg0 (F := F)).slots t 8)) fullShare ((dat0 V c).after 8 t) :=
  pt_owns c (((cfg0 (F := F)).win 8).stage ((cfg0 (F := F)).slots t 8)) (hstage0_8 (((cfg0 (F := F)).slots t 8).cast nbuf0_8)) _ _ rfl

theorem hold0_9 (t : Fin (cfg0 (F := F)).N) :
    iprop(∃ d, owns (c : Thread nD τ) (((cfg0 (F := F)).win 9).stage ((cfg0 (F := F)).slots t 9)) fullShare ((dat0 V c).before 9 t d)) ⊢ (iprop(∃ d, pt c (st0_9 t) ((hstage0_9 (((cfg0 (F := F)).slots t 9).cast nbuf0_9)).unread ((dat0 V c).before 9 t d))) : sProp 𝕄) := by
  iintro ⟨%d, H⟩
  iexists d
  iapply (owns_pt c (((cfg0 (F := F)).win 9).stage ((cfg0 (F := F)).slots t 9)) (hstage0_9 (((cfg0 (F := F)).slots t 9).cast nbuf0_9)) _ _ rfl) $$ H
theorem leave0_9 (t : Fin (cfg0 (F := F)).N) :
    (pt c (st0_9 t) ((hstage0_9 (((cfg0 (F := F)).slots t 9).cast nbuf0_9)).unread (acc0 V c (t.val + 1)).1) : sProp 𝕄) ⊢ owns (c : Thread nD τ) (((cfg0 (F := F)).win 9).stage ((cfg0 (F := F)).slots t 9)) fullShare ((dat0 V c).after 9 t) :=
  pt_owns c (((cfg0 (F := F)).win 9).stage ((cfg0 (F := F)).slots t 9)) (hstage0_9 (((cfg0 (F := F)).slots t 9).cast nbuf0_9)) _ _ rfl

theorem hold0_10 (t : Fin (cfg0 (F := F)).N) :
    iprop(∃ d, owns (c : Thread nD τ) (((cfg0 (F := F)).win 10).stage ((cfg0 (F := F)).slots t 10)) fullShare ((dat0 V c).before 10 t d)) ⊢ (iprop(∃ d, pt c (st0_10 t) ((hstage0_10 (((cfg0 (F := F)).slots t 10).cast nbuf0_10)).unread ((dat0 V c).before 10 t d))) : sProp 𝕄) := by
  iintro ⟨%d, H⟩
  iexists d
  iapply (owns_pt c (((cfg0 (F := F)).win 10).stage ((cfg0 (F := F)).slots t 10)) (hstage0_10 (((cfg0 (F := F)).slots t 10).cast nbuf0_10)) _ _ rfl) $$ H
theorem leave0_10 (t : Fin (cfg0 (F := F)).N) :
    (pt c (st0_10 t) ((hstage0_10 (((cfg0 (F := F)).slots t 10).cast nbuf0_10)).unread (acc0 V c (t.val + 1)).2) : sProp 𝕄) ⊢ owns (c : Thread nD τ) (((cfg0 (F := F)).win 10).stage ((cfg0 (F := F)).slots t 10)) fullShare ((dat0 V c).after 10 t) :=
  pt_owns c (((cfg0 (F := F)).win 10).stage ((cfg0 (F := F)).slots t 10)) (hstage0_10 (((cfg0 (F := F)).slots t 10).cast nbuf0_10)) _ _ rfl

/-- The body at a point, its windows at their blocks and the accumulators as found. -/
theorem at0 (hs : ∀ t, SegsOk (segs0 V c t)) (t : Fin (cfg0 (F := F)).N) (P Q : sProp 𝕄) :
    iprop(P ∗ Q ∗ pt c (st0_0 t) ((hstage0_0 (((cfg0 (F := F)).slots t 0).cast nbuf0_0)).unread (in0_0 V c t)) ∗ pt c (st0_1 t) ((hstage0_1 (((cfg0 (F := F)).slots t 1).cast nbuf0_1)).unread (in0_1 V c t)) ∗ pt c (st0_2 t) ((hstage0_2 (((cfg0 (F := F)).slots t 2).cast nbuf0_2)).unread (in0_2 V c t)) ∗ pt c (st0_3 t) ((hstage0_3 (((cfg0 (F := F)).slots t 3).cast nbuf0_3)).unread (in0_3 V c t)) ∗ pt c (st0_4 t) ((hstage0_4 (((cfg0 (F := F)).slots t 4).cast nbuf0_4)).unread (in0_4 V c t)) ∗ pt c (st0_5 t) ((hstage0_5 (((cfg0 (F := F)).slots t 5).cast nbuf0_5)).unread (in0_5 V c t)) ∗ pt c (st0_6 t) ((hstage0_6 (((cfg0 (F := F)).slots t 6).cast nbuf0_6)).unread (in0_6 V c t)) ∗ pt c (st0_7 t) ((hstage0_7 (((cfg0 (F := F)).slots t 7).cast nbuf0_7)).unread (in0_7 V c t)) ∗ (∃ d, pt c (st0_8 t) ((hstage0_8 (((cfg0 (F := F)).slots t 8).cast nbuf0_8)).unread ((dat0 V c).before 8 t d))) ∗ (∃ d, pt c (st0_9 t) ((hstage0_9 (((cfg0 (F := F)).slots t 9).cast nbuf0_9)).unread ((dat0 V c).before 9 t d))) ∗ (∃ d, pt c (st0_10 t) ((hstage0_10 (((cfg0 (F := F)).slots t 10).cast nbuf0_10)).unread ((dat0 V c).before 10 t d))))
    ⊢ wp frame (wpE (defs₀ (F := F)) 𝒱₀ (c : Thread nD τ) none) Set.univ (bodyAt0 t) fun _ =>
      iprop(P ∗ Q ∗ pt c (st0_0 t) ((hstage0_0 (((cfg0 (F := F)).slots t 0).cast nbuf0_0)).unread (in0_0 V c t)) ∗ pt c (st0_1 t) ((hstage0_1 (((cfg0 (F := F)).slots t 1).cast nbuf0_1)).unread (in0_1 V c t)) ∗ pt c (st0_2 t) ((hstage0_2 (((cfg0 (F := F)).slots t 2).cast nbuf0_2)).unread (in0_2 V c t)) ∗ pt c (st0_3 t) ((hstage0_3 (((cfg0 (F := F)).slots t 3).cast nbuf0_3)).unread (in0_3 V c t)) ∗ pt c (st0_4 t) ((hstage0_4 (((cfg0 (F := F)).slots t 4).cast nbuf0_4)).unread (in0_4 V c t)) ∗ pt c (st0_5 t) ((hstage0_5 (((cfg0 (F := F)).slots t 5).cast nbuf0_5)).unread (in0_5 V c t)) ∗ pt c (st0_6 t) ((hstage0_6 (((cfg0 (F := F)).slots t 6).cast nbuf0_6)).unread (in0_6 V c t)) ∗ pt c (st0_7 t) ((hstage0_7 (((cfg0 (F := F)).slots t 7).cast nbuf0_7)).unread (in0_7 V c t)) ∗ pt c (st0_8 t) ((hstage0_8 (((cfg0 (F := F)).slots t 8).cast nbuf0_8)).unread (emb0 V c t)) ∗ pt c (st0_9 t) ((hstage0_9 (((cfg0 (F := F)).slots t 9).cast nbuf0_9)).unread (acc0 V c (t.val + 1)).1) ∗ pt c (st0_10 t) ((hstage0_10 (((cfg0 (F := F)).slots t 10).cast nbuf0_10)).unread (acc0 V c (t.val + 1)).2)) := by
  iintro ⟨HP, HQ, H0, H1, H2, H3, H4, H5, H6, H7, ⟨%d8, H8⟩, ⟨%d9, H9⟩, ⟨%d10, H10⟩⟩
  rw [← found0 V c t d9 d10]
  iapply (k1_spec (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4)) (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7)) (st0_8 t) (hstage0_8 (((cfg0 (F := F)).slots t 8).cast nbuf0_8)) (st0_9 t) (hstage0_9 (((cfg0 (F := F)).slots t 9).cast nbuf0_9)) (st0_10 t) (hstage0_10 (((cfg0 (F := F)).slots t 10).cast nbuf0_10)) c (in0_0 V c t) (in0_1 V c t) (in0_2 V c t) (in0_3 V c t) (in0_4 V c t) (in0_5 V c t) (in0_6 V c t) (in0_7 V c t) (hs t) _ ((dat0 V c).before 9 t d9, (dat0 V c).before 10 t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HP]; · iexact HP
  isplitl [HQ]; · iexact HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's obligation, the block's segments in range. -/
theorem body0 (hs : ∀ t, SegsOk (segs0 V c t)) : BodyObligation (dat0 V c) (defs₀ (F := F)) 𝒱₀ () Set.univ := fun t => by
  have hpre : (bigSep Finset.univ fun w => iprop(∃ d, owns (c : Thread nD τ) (((cfg0 (F := F)).win w).stage ((cfg0 (F := F)).slots t w)) fullShare ((dat0 V c).before w t d)) : sProp 𝕄)
      ⊢ iprop(pt c (st0_0 t) ((hstage0_0 (((cfg0 (F := F)).slots t 0).cast nbuf0_0)).unread (in0_0 V c t)) ∗ pt c (st0_1 t) ((hstage0_1 (((cfg0 (F := F)).slots t 1).cast nbuf0_1)).unread (in0_1 V c t)) ∗ pt c (st0_2 t) ((hstage0_2 (((cfg0 (F := F)).slots t 2).cast nbuf0_2)).unread (in0_2 V c t)) ∗ pt c (st0_3 t) ((hstage0_3 (((cfg0 (F := F)).slots t 3).cast nbuf0_3)).unread (in0_3 V c t)) ∗ pt c (st0_4 t) ((hstage0_4 (((cfg0 (F := F)).slots t 4).cast nbuf0_4)).unread (in0_4 V c t)) ∗ pt c (st0_5 t) ((hstage0_5 (((cfg0 (F := F)).slots t 5).cast nbuf0_5)).unread (in0_5 V c t)) ∗ pt c (st0_6 t) ((hstage0_6 (((cfg0 (F := F)).slots t 6).cast nbuf0_6)).unread (in0_6 V c t)) ∗ pt c (st0_7 t) ((hstage0_7 (((cfg0 (F := F)).slots t 7).cast nbuf0_7)).unread (in0_7 V c t)) ∗ (∃ d, pt c (st0_8 t) ((hstage0_8 (((cfg0 (F := F)).slots t 8).cast nbuf0_8)).unread ((dat0 V c).before 8 t d))) ∗ (∃ d, pt c (st0_9 t) ((hstage0_9 (((cfg0 (F := F)).slots t 9).cast nbuf0_9)).unread ((dat0 V c).before 9 t d))) ∗ (∃ d, pt c (st0_10 t) ((hstage0_10 (((cfg0 (F := F)).slots t 10).cast nbuf0_10)).unread ((dat0 V c).before 10 t d)))) := by
    rw [bigSep_W0]
    refine both (hold0_0 V c t) ?_
    refine both (hold0_1 V c t) ?_
    refine both (hold0_2 V c t) ?_
    refine both (hold0_3 V c t) ?_
    refine both (hold0_4 V c t) ?_
    refine both (hold0_5 V c t) ?_
    refine both (hold0_6 V c t) ?_
    refine both (hold0_7 V c t) ?_
    refine both (hold0_8 V c t) ?_
    refine both (hold0_9 V c t) ?_
    exact hold0_10 V c t
  have hpost : iprop(pt c (st0_0 t) ((hstage0_0 (((cfg0 (F := F)).slots t 0).cast nbuf0_0)).unread (in0_0 V c t)) ∗ pt c (st0_1 t) ((hstage0_1 (((cfg0 (F := F)).slots t 1).cast nbuf0_1)).unread (in0_1 V c t)) ∗ pt c (st0_2 t) ((hstage0_2 (((cfg0 (F := F)).slots t 2).cast nbuf0_2)).unread (in0_2 V c t)) ∗ pt c (st0_3 t) ((hstage0_3 (((cfg0 (F := F)).slots t 3).cast nbuf0_3)).unread (in0_3 V c t)) ∗ pt c (st0_4 t) ((hstage0_4 (((cfg0 (F := F)).slots t 4).cast nbuf0_4)).unread (in0_4 V c t)) ∗ pt c (st0_5 t) ((hstage0_5 (((cfg0 (F := F)).slots t 5).cast nbuf0_5)).unread (in0_5 V c t)) ∗ pt c (st0_6 t) ((hstage0_6 (((cfg0 (F := F)).slots t 6).cast nbuf0_6)).unread (in0_6 V c t)) ∗ pt c (st0_7 t) ((hstage0_7 (((cfg0 (F := F)).slots t 7).cast nbuf0_7)).unread (in0_7 V c t)) ∗ pt c (st0_8 t) ((hstage0_8 (((cfg0 (F := F)).slots t 8).cast nbuf0_8)).unread (emb0 V c t)) ∗ pt c (st0_9 t) ((hstage0_9 (((cfg0 (F := F)).slots t 9).cast nbuf0_9)).unread (acc0 V c (t.val + 1)).1) ∗ pt c (st0_10 t) ((hstage0_10 (((cfg0 (F := F)).slots t 10).cast nbuf0_10)).unread (acc0 V c (t.val + 1)).2))
      ⊢ (bigSep Finset.univ fun w => owns (c : Thread nD τ) (((cfg0 (F := F)).win w).stage ((cfg0 (F := F)).slots t w)) fullShare ((dat0 V c).after w t) : sProp 𝕄) := by
    rw [bigSep_W0]
    exact (both (leave0_0 V c t) (both (leave0_1 V c t) (both (leave0_2 V c t) (both (leave0_3 V c t) (both (leave0_4 V c t) (both (leave0_5 V c t) (both (leave0_6 V c t) (both (leave0_7 V c t) (both (leave0_8 V c t) (both (leave0_9 V c t) (leave0_10 V c t)))))))))))
  rw [row0]
  refine (both .rfl (both .rfl hpre) : _ ⊢ _).trans ((at0 V c hs t ((dat0 V c).Φ t.succ) ((dat0 V c).owesAt () t.succ)).trans
    (wp_mono _ _ _ fun _ => both .rfl (both .rfl hpost)))

end Cert.KernelIdeal.Loop

end
-- ==== Proof.PI.Dat1.lean ====
/- The second call's proof data and its body's obligation. -/
module

public import proofs.«01_k».proof.Proof.PI.Hold
public import proofs.«01_k».proof.Proof.Gen.KernelIdeal.Points
public import proofs.«01_k».proof.Proof.Gen.KernelIdeal.Launch
public import Idealize.ShloMosaic.Lib.Pipeline.Regions

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (V : Dev nD → Valuation τ sig (Elt F)) (c : Dev nD)

/-- The windows' arrays. -/
def arr1 (w : Fin (cfg1 (F := F)).W) : Buf (Elt F) (((cfg1 (F := F)).win w).arr.view.loc (c : Thread nD τ)) := V c (Pipeline.arrRef spec1 w)

/-- Window 0's block at a point. -/
noncomputable def in1_0 (t : Fin (cfg1 (F := F)).N) : Vec F S4352x256 .f32 := ((cfg1 (F := F)).win 0).blk t |>.view.read (Elt F) (arr1 V c 0)
/-- Window 1's block at a point. -/
noncomputable def in1_1 (t : Fin (cfg1 (F := F)).N) : Vec F S4352x128 .f32 := ((cfg1 (F := F)).win 1).blk t |>.view.read (Elt F) (arr1 V c 1)
/-- Window 2's block at a point. -/
noncomputable def in1_2 (t : Fin (cfg1 (F := F)).N) : Vec F S256x256 .f32 := ((cfg1 (F := F)).win 2).blk t |>.view.read (Elt F) (arr1 V c 2)

/-- The proof data. -/
def dat1 : Dat τ (Elt F) Unit ℕ (UU nD τ) ℕ (cfg1 (F := F)) c where
  A w := arr1 V c w
  after w t := match w with
    | ⟨0, _⟩ => in1_0 V c t
    | ⟨1, _⟩ => in1_1 V c t
    | ⟨2, _⟩ => in1_2 V c t
    | ⟨3, _⟩ => k1_pay3 (firstLane (in1_1 V c t)) (in1_0 V c t) (in1_2 V c t)
    | ⟨4, _⟩ => k1_pay2 (firstLane (in1_1 V c t))
  Φ _ := Pipeline.scopedRest (Ix := Unit) (Name := ℕ) (U := UU nD τ) (Lvl := ℕ) (Val := Elt F) spec1 c
  q _ := fullShare
  owed _ := 0

theorem before1_0 (t : Fin (cfg1 (F := F)).N) (d) : (dat1 V c).before 0 t d = in1_0 V c t :=
  (dat1 V c).before_in_eq_fetched 0 rfl (fun _ => rfl) (fun _ _ _ => rfl) (fun _ => rfl) t d
theorem before1_1 (t : Fin (cfg1 (F := F)).N) (d) : (dat1 V c).before 1 t d = in1_1 V c t :=
  (dat1 V c).before_in_eq_fetched 1 rfl (fun _ => rfl) (fun _ _ _ => rfl) (fun _ => rfl) t d
theorem before1_2 (t : Fin (cfg1 (F := F)).N) (d) : (dat1 V c).before 2 t d = in1_2 V c t :=
  (dat1 V c).before_in_eq_fetched 2 rfl (fun _ => rfl) (fun _ _ _ => rfl) (fun _ => rfl) t d

/-- The label of the body runs it. -/
theorem row1b (t : Fin (cfg1 (F := F)).N) : defs₀ (F := F) .tc (cfg1 (F := F)).body ((cfg1 (F := F)).bodyArgs t ((cfg1 (F := F)).slots t)) = bodyAt1 t := by
  unfold defs₀; rw [Defs.onTc_tc]

theorem hold1_0 (t : Fin (cfg1 (F := F)).N) :
    iprop(∃ d, owns (c : Thread nD τ) (((cfg1 (F := F)).win 0).stage ((cfg1 (F := F)).slots t 0)) fullShare ((dat1 V c).before 0 t d)) ⊢ (pt c (st1_0 t) ((hstage1_0 0).unread (in1_0 V c t)) : sProp 𝕄) := by
  iintro ⟨%d, H⟩
  iapply (owns_pt c (((cfg1 (F := F)).win 0).stage ((cfg1 (F := F)).slots t 0)) (hstage1_0 0) _ _ (before1_0 V c t d)) $$ H
theorem leave1_0 (t : Fin (cfg1 (F := F)).N) :
    (pt c (st1_0 t) ((hstage1_0 0).unread (in1_0 V c t)) : sProp 𝕄) ⊢ owns (c : Thread nD τ) (((cfg1 (F := F)).win 0).stage ((cfg1 (F := F)).slots t 0)) fullShare ((dat1 V c).after 0 t) :=
  pt_owns c (((cfg1 (F := F)).win 0).stage ((cfg1 (F := F)).slots t 0)) (hstage1_0 0) _ _ rfl

theorem hold1_1 (t : Fin (cfg1 (F := F)).N) :
    iprop(∃ d, owns (c : Thread nD τ) (((cfg1 (F := F)).win 1).stage ((cfg1 (F := F)).slots t 1)) fullShare ((dat1 V c).before 1 t d)) ⊢ (pt c (st1_1 t) ((hstage1_1 0).unread (in1_1 V c t)) : sProp 𝕄) := by
  iintro ⟨%d, H⟩
  iapply (owns_pt c (((cfg1 (F := F)).win 1).stage ((cfg1 (F := F)).slots t 1)) (hstage1_1 0) _ _ (before1_1 V c t d)) $$ H
theorem leave1_1 (t : Fin (cfg1 (F := F)).N) :
    (pt c (st1_1 t) ((hstage1_1 0).unread (in1_1 V c t)) : sProp 𝕄) ⊢ owns (c : Thread nD τ) (((cfg1 (F := F)).win 1).stage ((cfg1 (F := F)).slots t 1)) fullShare ((dat1 V c).after 1 t) :=
  pt_owns c (((cfg1 (F := F)).win 1).stage ((cfg1 (F := F)).slots t 1)) (hstage1_1 0) _ _ rfl

theorem hold1_2 (t : Fin (cfg1 (F := F)).N) :
    iprop(∃ d, owns (c : Thread nD τ) (((cfg1 (F := F)).win 2).stage ((cfg1 (F := F)).slots t 2)) fullShare ((dat1 V c).before 2 t d)) ⊢ (pt c (st1_2 t) ((hstage1_2 0).unread (in1_2 V c t)) : sProp 𝕄) := by
  iintro ⟨%d, H⟩
  iapply (owns_pt c (((cfg1 (F := F)).win 2).stage ((cfg1 (F := F)).slots t 2)) (hstage1_2 0) _ _ (before1_2 V c t d)) $$ H
theorem leave1_2 (t : Fin (cfg1 (F := F)).N) :
    (pt c (st1_2 t) ((hstage1_2 0).unread (in1_2 V c t)) : sProp 𝕄) ⊢ owns (c : Thread nD τ) (((cfg1 (F := F)).win 2).stage ((cfg1 (F := F)).slots t 2)) fullShare ((dat1 V c).after 2 t) :=
  pt_owns c (((cfg1 (F := F)).win 2).stage ((cfg1 (F := F)).slots t 2)) (hstage1_2 0) _ _ rfl

theorem hold1_3 (t : Fin (cfg1 (F := F)).N) :
    iprop(∃ d, owns (c : Thread nD τ) (((cfg1 (F := F)).win 3).stage ((cfg1 (F := F)).slots t 3)) fullShare ((dat1 V c).before 3 t d)) ⊢ (iprop(∃ d, pt c (st1_3 t) ((hstage1_3 0).unread ((dat1 V c).before 3 t d))) : sProp 𝕄) := by
  iintro ⟨%d, H⟩
  iexists d
  iapply (owns_pt c (((cfg1 (F := F)).win 3).stage ((cfg1 (F := F)).slots t 3)) (hstage1_3 0) _ _ rfl) $$ H
theorem leave1_3 (t : Fin (cfg1 (F := F)).N) :
    (pt c (st1_3 t) ((hstage1_3 0).unread (k1_pay3 (firstLane (in1_1 V c t)) (in1_0 V c t) (in1_2 V c t))) : sProp 𝕄) ⊢ owns (c : Thread nD τ) (((cfg1 (F := F)).win 3).stage ((cfg1 (F := F)).slots t 3)) fullShare ((dat1 V c).after 3 t) :=
  pt_owns c (((cfg1 (F := F)).win 3).stage ((cfg1 (F := F)).slots t 3)) (hstage1_3 0) _ _ rfl

theorem hold1_4 (t : Fin (cfg1 (F := F)).N) :
    iprop(∃ d, owns (c : Thread nD τ) (((cfg1 (F := F)).win 4).stage ((cfg1 (F := F)).slots t 4)) fullShare ((dat1 V c).before 4 t d)) ⊢ (iprop(∃ d, pt c (st1_4 t) ((hstage1_4 0).unread ((dat1 V c).before 4 t d))) : sProp 𝕄) := by
  iintro ⟨%d, H⟩
  iexists d
  iapply (owns_pt c (((cfg1 (F := F)).win 4).stage ((cfg1 (F := F)).slots t 4)) (hstage1_4 0) _ _ rfl) $$ H
theorem leave1_4 (t : Fin (cfg1 (F := F)).N) :
    (pt c (st1_4 t) ((hstage1_4 0).unread (k1_pay2 (firstLane (in1_1 V c t)))) : sProp 𝕄) ⊢ owns (c : Thread nD τ) (((cfg1 (F := F)).win 4).stage ((cfg1 (F := F)).slots t 4)) fullShare ((dat1 V c).after 4 t) :=
  pt_owns c (((cfg1 (F := F)).win 4).stage ((cfg1 (F := F)).slots t 4)) (hstage1_4 0) _ _ rfl

/-- The body at a point, its windows at their blocks and its outputs as found. -/
theorem at1 (t : Fin (cfg1 (F := F)).N) (P Q : sProp 𝕄) :
    iprop(P ∗ Q ∗ pt c (st1_0 t) ((hstage1_0 0).unread (in1_0 V c t)) ∗ pt c (st1_1 t) ((hstage1_1 0).unread (in1_1 V c t)) ∗ pt c (st1_2 t) ((hstage1_2 0).unread (in1_2 V c t)) ∗ (∃ d, pt c (st1_3 t) ((hstage1_3 0).unread ((dat1 V c).before 3 t d))) ∗ (∃ d, pt c (st1_4 t) ((hstage1_4 0).unread ((dat1 V c).before 4 t d))))
    ⊢ wp frame (wpE (defs₀ (F := F)) 𝒱₀ (c : Thread nD τ) none) Set.univ (bodyAt1 t) fun _ =>
      iprop(P ∗ Q ∗ pt c (st1_0 t) ((hstage1_0 0).unread (in1_0 V c t)) ∗ pt c (st1_1 t) ((hstage1_1 0).unread (in1_1 V c t)) ∗ pt c (st1_2 t) ((hstage1_2 0).unread (in1_2 V c t)) ∗ pt c (st1_3 t) ((hstage1_3 0).unread (k1_pay3 (firstLane (in1_1 V c t)) (in1_0 V c t) (in1_2 V c t))) ∗ pt c (st1_4 t) ((hstage1_4 0).unread (k1_pay2 (firstLane (in1_1 V c t))))) := by
  iintro ⟨HP, HQ, H0, H1, H2, ⟨%d3, H3⟩, ⟨%d4, H4⟩⟩
  iapply (kmid_spec (st1_0 t) (hstage1_0 0) (st1_1 t) (hstage1_1 0) (st1_2 t) (hstage1_2 0) (st1_3 t) (hstage1_3 0) (st1_4 t) (hstage1_4 0) c (in1_0 V c t) (in1_1 V c t) (in1_2 V c t) _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HP]; · iexact HP
  isplitl [HQ]; · iexact HQ
  isplitl [H0]; · iexact H0
  isplitl [H1]; · iexact H1
  isplitl [H2]; · iexact H2
  isplitl [H3]; · iexact H3
  iexact H4

/-- The body's obligation. -/
theorem body1 : BodyObligation (dat1 V c) (defs₀ (F := F)) 𝒱₀ () Set.univ := fun t => by
  have hpre : (bigSep Finset.univ fun w => iprop(∃ d, owns (c : Thread nD τ) ((cfg1 (F := F)).win w |>.stage ((cfg1 (F := F)).slots t w)) fullShare ((dat1 V c).before w t d)) : sProp 𝕄)
      ⊢ iprop(pt c (st1_0 t) ((hstage1_0 0).unread (in1_0 V c t)) ∗ pt c (st1_1 t) ((hstage1_1 0).unread (in1_1 V c t)) ∗ pt c (st1_2 t) ((hstage1_2 0).unread (in1_2 V c t)) ∗ (∃ d, pt c (st1_3 t) ((hstage1_3 0).unread ((dat1 V c).before 3 t d))) ∗ (∃ d, pt c (st1_4 t) ((hstage1_4 0).unread ((dat1 V c).before 4 t d)))) := by
    rw [bigSep_W1]
    exact (both (hold1_0 V c t) (both (hold1_1 V c t) (both (hold1_2 V c t) (both (hold1_3 V c t) (hold1_4 V c t)))))
  have hpost : iprop(pt c (st1_0 t) ((hstage1_0 0).unread (in1_0 V c t)) ∗ pt c (st1_1 t) ((hstage1_1 0).unread (in1_1 V c t)) ∗ pt c (st1_2 t) ((hstage1_2 0).unread (in1_2 V c t)) ∗ pt c (st1_3 t) ((hstage1_3 0).unread (k1_pay3 (firstLane (in1_1 V c t)) (in1_0 V c t) (in1_2 V c t))) ∗ pt c (st1_4 t) ((hstage1_4 0).unread (k1_pay2 (firstLane (in1_1 V c t)))))
      ⊢ (bigSep Finset.univ fun w => owns (c : Thread nD τ) ((cfg1 (F := F)).win w |>.stage ((cfg1 (F := F)).slots t w)) fullShare ((dat1 V c).after w t) : sProp 𝕄) := by
    rw [bigSep_W1]
    exact (both (leave1_0 V c t) (both (leave1_1 V c t) (both (leave1_2 V c t) (both (leave1_3 V c t) (leave1_4 V c t)))))
  rw [row1b]
  refine (both .rfl (both .rfl hpre) : _ ⊢ _).trans ((at1 V c t ((dat1 V c).Φ t.succ) ((dat1 V c).owesAt () t.succ)).trans
    (wp_mono _ _ _ fun _ => both .rfl (both .rfl hpost)))

end Cert.KernelIdeal.Loop

end
-- ==== Proof.PI.Loop2.lean ====
/- The third call's loop: from the segments' projections and the accumulator held whole, its run leaves the accumulator as
   the pure loop over the rows says. Each step adds to a window of 256 segments the product of the transposed one-hot rows
   taken with the embeddings weighted by their attention, which reads the same window of the projections. -/
module

public import proofs.«01_k».proof.Proof.PI.Loop1

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (choose arbitrary assume consume produce)

variable {F : FTy → Type} [FloatOps F]

local notation "𝕄" => MT nD τ sig Unit (Elt F) ℕ (UU nD τ) ℕ

/-- What a step adds to its window: the one-hot rows `p`, transposed, times the embeddings `x` weighted by the row sums
    of `w` times the logistic of `a`. -/
def weighted (w : FVec F S1x256 .f32) (x p a : FVec F S2048x256 .f32) : FVec F S256x256 .f32 :=
  matmul dot_S2048x256_S2048x256_S256x256_0_0_1_1_n_n none p
    (mulf x (broadcastTo S2048x256 (shapeCast S2048x1
      (multiReduction .add [1] S2048 (mulf (logistic a) (broadcastTo S2048x256 w broadcasts_S1x256_S2048x256)) 0x00000000#32
        reduces_S2048x256_S2048 (.inl rfl) rfl) shapeCasts_S2048_S2048x1) broadcasts_S2048x1_S2048x256))
    (constant S256x256 .f32 0x00000000#32)

/-- What a step stores is the window's contents with the update added. -/
theorem pay7_eq (w : FVec F S1x256 .f32) (x p a : FVec F S2048x256 .f32) (v : Vec F S256x256 .f32) :
    k2_pay7 w x p a v = fun j => FloatOps.addf (v j) (weighted w x p a j) := by
  funext j
  exact congrArg (fun y => FloatOps.addf (v y) (weighted w x p a j)) (Shape.reshapeEquiv_self shapeCasts_S256x256_S256x256 j)

/-- The window a step opens, of the projections `B`. -/
def nodes (s : IVec S2048x1 32) (B : Vec F S4352x256 .f32) (k : BitVec 32) : Vec F S256x256 .f32 := block rows_pos B (base s k)

/-- One step: the rows taken, weighted, added into the window. -/
def step2 (s : IVec S2048x1 32) (B : Vec F S4352x256 .f32) (a : FVec F S2048x256 .f32) (w : FVec F S1x256 .f32) (x : FVec F S2048x256 .f32)
    (k : BitVec 32) (X : Vec F S4352x256 .f32) : Vec F S4352x256 .f32 :=
  accBlock FloatOps.addf X (base s k) (weighted w x (k2_pay13 rows s lanes k) (k2_pay14 rows s lanes a k (nodes s B k)))

/-- The loop from row `k` on. -/
def loop2 (s : IVec S2048x1 32) (B : Vec F S4352x256 .f32) (a : FVec F S2048x256 .f32) (w : FVec F S1x256 .f32) (x : FVec F S2048x256 .f32) :
    ℕ → BitVec 32 → Vec F S4352x256 .f32 → Vec F S4352x256 .f32 := runWhile (nextRow s) (step2 s B a w x)

theorem write_out (M : Memref sig .tc .vmem S4352x256 .f32) (hM : M.IsWhole) (X : Vec F S4352x256 .f32) (o : ℕ) (off : Fin 2 → ℕ)
    (ho : off = ![o, 0]) (inb : ∀ a, off a + S256x256.size a ≤ S4352x256.size a) (w : FVec F S1x256 .f32) (x p a : FVec F S2048x256 .f32) :
    (M.access (Rect.unit (s := S4352x256) off S256x256.size inb)).write (Elt F) (hM.unread X) (k2_pay7 w x p a (block rows_pos X o)) Finset.univ
      = hM.unread (accBlock FloatOps.addf X o (weighted w x p a)) := by
  rw [pay7_eq]
  exact write_window (Val := Elt F) FloatOps.addf M hM rows_pos X o off ho inb (weighted w x p a)

/-- The step's store. -/
theorem store_out (c : Dev nD) {α : Type} {bd : Option 𝒱₀.V} {Q : α → sProp 𝕄} (M : Memref sig .tc .vmem S4352x256 .f32) (hM : M.IsWhole)
    (X : Vec F S4352x256 .f32) (o : ℕ) (off : Fin 2 → ℕ) (ho : off = ![o, 0]) (inb : ∀ a, off a + S256x256.size a ≤ S4352x256.size a)
    (w : FVec F S1x256 .f32) (x p a : FVec F S2048x256 .f32)
    {hx : (M.access (Rect.unit (s := S4352x256) off S256x256.size inb)).Stores Finset.univ} {hm}
    {k : PUnit → Prog (TpuEff nD τ sig (Elt F) (Λ₀ F) .tc) α} :
    pt c M (hM.unread X) ⊢ iprop((pt c M (hM.unread (accBlock FloatOps.addf X o (weighted w x p a)))
        -∗ wp frame (wpE (defs₀ (F := F)) 𝒱₀ (c : Thread nD τ) bd) Set.univ (k ⟨⟩) Q)
      -∗ wp frame (wpE (defs₀ (F := F)) 𝒱₀ (c : Thread nD τ) bd) Set.univ
        (.op (.store M (Rect.unit (s := S4352x256) off S256x256.size inb) (k2_pay7 w x p a (block rows_pos X o)) Finset.univ hx hm) k) Q) :=
  store_pt c M (Rect.unit (s := S4352x256) off S256x256.size inb) (w := k2_pay7 w x p a (block rows_pos X o)) (write_out M hM X o off ho inb w x p a)

section
variable (i : grid2.Coords) (s : IVec S2048x1 32) (a : FVec F S2048x256 .f32) (w : FVec F S1x256 .f32) (x : FVec F S2048x256 .f32)
  (N : Memref sig .tc .vmem S4352x256 .f32) (hN : N.IsWhole) (M : Memref sig .tc .vmem S4352x256 .f32) (hM : M.IsWhole)

/-- The body at a row past the end returns. -/
theorem body2_done (k : BitVec 32) (hk : ¬ Scalar.cmpi .slt k 2048#32 = 1#1) :
    cc2_while1 i rows s lanes N hN a w x M hM k = .ret k := by
  rw [cc2_while1_eq_skeleton]
  unfold cc2_while1_skel
  rw [if_neg hk]; rfl

/-- The body at a row before the end, operation by operation. -/
theorem body2_go (k : BitVec 32) (hk : Scalar.cmpi .slt k 2048#32 = 1#1) :
    cc2_while1 i rows s lanes N hN a w x M hM k
      = .op (.assume (k2_chk1 (firstSeg s k)) (k2_chk1.dec (firstSeg s k))) fun h =>
        .op (.load N (Rect.unit (s := S4352x256) (k2_off1 (firstSeg s k)) S256x256.size (k2_off1_inb (firstSeg s k) h.down)).toLoadRect
          (View.loadsAt_vmem h_S256x256)) fun v62 =>
        .op (.load M (Rect.unit (s := S4352x256) (k2_off1 (firstSeg s k)) S256x256.size (k2_off1_inb (firstSeg s k) h.down)).toLoadRect
          (View.loadsAt_vmem h_S256x256)) fun v75 =>
        .op (.load M (Rect.unit (s := S4352x256) (k2_off1 (firstSeg s k)) S256x256.size (k2_off1_inb (firstSeg s k) h.down)).toLoadRect
          (View.loadsAt_vmem h_S256x256)) fun _ =>
        .op (.store M (Rect.unit (s := S4352x256) (k2_off1 (firstSeg s k)) S256x256.size (k2_off1_inb (firstSeg s k) h.down))
          (k2_pay7 w x (k2_pay13 rows s lanes k) (k2_pay14 rows s lanes a k v62) v75) Finset.univ
          (View.stores_vmem_bits_univ h_S256x256 rfl) (.inl rfl)) fun _ =>
        .op (.call (4 : (Λ₀ F).Label) ⟨i, rows, s, lanes, N, hN, a, w, x, M, hM, nextRow s k⟩) fun r => .ret r := by
  rw [cc2_while1_eq_skeleton]
  unfold cc2_while1_skel
  rw [if_pos hk, k2_part1_eq_skeleton]
  rfl

/-- The loop's label runs its body. -/
theorem row2 (k : BitVec 32) :
    defs₀ (F := F) (.tc) (4 : (Λ₀ F).Label) ⟨i, rows, s, lanes, N, hN, a, w, x, M, hM, k⟩
      = cc2_while1 i rows s lanes N hN a w x M hM k := by
  unfold defs₀
  rw [Defs.onTc_tc]

variable (B : Vec F S4352x256 .f32)

/-- A call of the loop: it takes the projections and the accumulator, and hands them back, the projections as they were. -/
def call2 (c : Dev nD) (n : ℕ) (k : BitVec 32) (X : Vec F S4352x256 .f32) : sWPT 𝕄 (BitVec 32) := do
  consume (pt c N (hN.unread B))
  consume (pt c M (hM.unread X))
  let r ← arbitrary
  produce iprop(pt c N (hN.unread B) ∗ pt c M (hM.unread (loop2 s B a w x n k X)))
  pure r

theorem call2_apply (c : Dev nD) (n : ℕ) (k : BitVec 32) (X : Vec F S4352x256 .f32) (K : BitVec 32 → sProp 𝕄) :
    call2 s a w x N hN M hM B c n k X K
      = iprop(pt c N (hN.unread B) ∗ pt c M (hM.unread X)
        ∗ ∀ r, (pt c N (hN.unread B) ∗ pt c M (hM.unread (loop2 s B a w x n k X))) -∗ K r) := rfl

/-- The body meets its specification at row `k` for `n` steps. -/
def Meets2 (c : Dev nD) (n : ℕ) (k : BitVec 32) : Prop := ∀ (X : Vec F S4352x256 .f32) (K : BitVec 32 → sProp 𝕄),
  call2 s a w x N hN M hM B c n k X K
    ⊢ wp frame (wpE (defs₀ (F := F)) 𝒱₀ (c : Thread nD τ) (some n)) Set.univ (cc2_while1 i rows s lanes N hN a w x M hM k) K

/-- No rows left: the body returns at once. -/
theorem meets2_done (c : Dev nD) (n : ℕ) (k : BitVec 32) (hk : k.toNat ≤ 2048) (hk' : ¬ k.toNat < 2048) :
    Meets2 i s a w x N hN M hM B c n k := by
  intro X K
  rw [body2_done i s a w x N hN M hM k (fun h => hk' ((go_iff k hk).1 h)), call2_apply, loop2, runWhile_done _ _ _ _ _ hk', wp_ret]
  iintro ⟨H1, H2, Hk⟩
  imodintro
  iapply Hk
  isplitl [H1] <;> iassumption

attribute [local irreducible] nextRow firstSeg base

/-- Rows left: the body takes a step, and calls itself at the next row. -/
theorem meets2_go (c : Dev nD) (n : ℕ) (k : BitVec 32) (hs : SegsOk s) (hk' : k.toNat < 2048)
    (ih : Meets2 i s a w x N hN M hM B c n (nextRow s k)) : Meets2 i s a w x N hN M hM B c (n + 1) k := by
  intro X K
  have hc := chk2 s hs k hk'
  have ho : k2_off1 (firstSeg s k) = ![base s k, 0] := off1_eq s hs k hk'
  have hr1 := read_sums N hN B (base s k) _ ho (k2_off1_inb (firstSeg s k) hc)
  have hr2 := read_sums M hM X (base s k) _ ho (k2_off1_inb (firstSeg s k) hc)
  have hS : ∀ K : BitVec 32 → sProp 𝕄, call2 s a w x N hN M hM B c n (nextRow s k) (step2 s B a w x k X) K
      ⊢ wp frame (wpE (defs₀ (F := F)) 𝒱₀ (c : Thread nD τ) (some n)) Set.univ
        (defs₀ (F := F) (.tc) (4 : (Λ₀ F).Label) ⟨i, rows, s, lanes, N, hN, a, w, x, M, hM, nextRow s k⟩) K := by
    intro K
    rw [row2]
    exact ih _ K
  rw [body2_go i s a w x N hN M hM k ((go_iff k hk'.le).2 hk'), call2_apply, loop2, runWhile_go _ _ _ _ _ hk']
  iintro ⟨H1, H2, Hk⟩
  iapply (wp_assume 𝒱₀ (c : Thread nD τ) _ Set.univ hc)
  iapply (load_pt c N _ hr1) $$ H1; iintro H1
  iapply (load_pt c M _ hr2) $$ H2; iintro H2
  iapply (load_pt c M _ hr2) $$ H2; iintro H2
  iapply (store_out c M hM X (base s k) _ ho (k2_off1_inb (firstSeg s k) hc) w x (k2_pay13 rows s lanes k)
    (k2_pay14 rows s lanes a k (nodes s B k))) $$ H2; iintro H2
  iapply (wp_call_spec (ℓ := (4 : (Λ₀ F).Label)) (a := ⟨i, rows, s, lanes, N, hN, a, w, x, M, hM, nextRow s k⟩)
    𝒱₀ (c : Thread nD τ) _ Set.univ (call2 s a w x N hN M hM B c n (nextRow s k) (step2 s B a w x k X)) n
    (fun u hu => by cases hu; exact Nat.lt_succ_self n) hS)
  rw [call2_apply]
  isplitl [H1]; · iexact H1
  isplitl [H2]; · iexact H2
  iintro %r H
  rw [wp_ret]
  imodintro
  iapply Hk
  iexact H

/-- The body meets its specification, by induction on the rows left. -/
theorem loop2_spec (hs : SegsOk s) (c : Dev nD) (n : ℕ) : ∀ k : BitVec 32, k.toNat ≤ 2048 → 2048 - k.toNat ≤ n →
    Meets2 i s a w x N hN M hM B c n k := by
  induction n with
  | zero => intro k hk hn; exact meets2_done i s a w x N hN M hM B c 0 k hk (by omega)
  | succ n ih =>
    intro k hk hn
    by_cases hk' : k.toNat < 2048
    · have hnx := nextRow_le s hs k hk' n hn
      exact meets2_go i s a w x N hN M hM B c n k hs hk' (ih _ hnx.1 hnx.2)
    · exact meets2_done i s a w x N hN M hM B c _ k hk hk'

end

end Cert.KernelIdeal.Loop

end
-- ==== Proof.PI.Body2.lean ====
/- The third call at one point of its grid: from its windows held whole it leaves the accumulator as the loop over the
   block's rows says, begun from zeroes at the first point and scaled by the reciprocals of the counts after the last. -/
module

public import proofs.«01_k».proof.Proof.PI.Body1
public import proofs.«01_k».proof.Proof.PI.Loop2

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open sWPT (choose arbitrary assume consume produce)

variable {F : FTy → Type} [FloatOps F]

local notation "𝕄" => MT nD τ sig Unit (Elt F) ℕ (UU nD τ) ℕ

/-- Whether this is the last point of the grid. -/
abbrev atLast (b : BitVec 32) : BitVec 1 := Scalar.cmpi .ne (Scalar.extui (Scalar.cmpi .eq b 63#32)) 0#32

/-- The point's work on the accumulator, before what follows it. -/
def work2 (i : grid2.Coords) (M1 : Memref sig .tc .vmem S2048x256 .f32) (h1 : M1.IsWhole) (M2 : Memref sig .tc .vmem S1x2048x1 .i32) (h2 : M2.IsWhole) (M3 : Memref sig .tc .vmem S4352x256 .f32) (h3 : M3.IsWhole) (M4 : Memref sig .tc .vmem S4352x256 .f32) (h4 : M4.IsWhole) (M5 : Memref sig .tc .vmem S256x256 .f32) (h5 : M5.IsWhole) (M6 : Memref sig .tc .vmem S1x256 .f32) (h6 : M6.IsWhole) (M7 : Memref sig .tc .vmem S1x256 .f32) (h7 : M7.IsWhole) (M8 : Memref sig .tc .vmem S4352x256 .f32) (h8 : M8.IsWhole) (k : Prog (TpuEff nD τ sig (Elt F) (Λ₀ F) .tc) PUnit) :
    Prog (TpuEff nD τ sig (Elt F) (Λ₀ F) .tc) PUnit :=
  .op (.load M1 (Rect.unit (s := S2048x256) ![0, 0] S2048x256.size inb_S2048x256_S2048x256_0_0).toLoadRect (View.loadsAt_vmem h_S2048x256)) fun v3 =>
  .op (.load M5 (Rect.unit (s := S256x256) ![0, 0] S256x256.size inb_S256x256_S256x256_0_0).toLoadRect (View.loadsAt_vmem h_S256x256)) fun v5 =>
  .op (.load M6 (Rect.unit (s := S1x256) ![0, 0] S1x256.size inb_S1x256_S1x256_0_0).toLoadRect (View.loadsAt_vmem h_S1x256)) fun v7 =>
  .op (.load M7 (Rect.unit (s := S1x256) ![0, 0] S1x256.size inb_S1x256_S1x256_0_0).toLoadRect (View.loadsAt_vmem h_S1x256)) fun v11 =>
  .op (.load M2 (Rect.unit (s := S1x2048x1) ![0, 0, 0] S1x2048x1.size inb_S1x2048x1_S1x2048x1_0_0_0).toLoadRect (View.loadsAt_vmem h_S1x2048x1)) fun v13 =>
  .op (.call (4 : (Λ₀ F).Label) ⟨i, rows, k2_pay5 v13, lanes, M3, h3, k2_pay3 v3 v5 v7, k2_pay4 v11, k2_pay2 v3, M8, h8, 0#32⟩) fun _ => k

/-- The accumulator scaled. -/
def scale2 (M4 : Memref sig .tc .vmem S4352x256 .f32) (h4 : M4.IsWhole) (M8 : Memref sig .tc .vmem S4352x256 .f32) (h8 : M8.IsWhole) : Prog (TpuEff nD τ sig (Elt F) (Λ₀ F) .tc) PUnit :=
  .op (.load M8 (Rect.unit (s := S4352x256) ![0, 0] S4352x256.size inb_S4352x256_S4352x256_0_0).toLoadRect (View.loadsAt_vmem h_S4352x256)) fun v21 =>
  .op (.load M4 (Rect.unit (s := S4352x256) ![0, 0] S4352x256.size inb_S4352x256_S4352x256_0_0).toLoadRect (View.loadsAt_vmem h_S4352x256)) fun v23 =>
  .op (.load M8 (Rect.unit (s := S4352x256) ![0, 0] S4352x256.size inb_S4352x256_S4352x256_0_0).toLoadRect (View.loadsAt_vmem h_S4352x256)) fun _ =>
  .op (.store M8 (Rect.unit (s := S4352x256) ![0, 0] S4352x256.size inb_S4352x256_S4352x256_0_0) (k2_pay6 v21 v23) Finset.univ (View.stores_vmem_bits_univ h_S4352x256 rfl) (.inl rfl)) fun _ => .ret ⟨⟩

section
variable (i : grid2.Coords) (M1 : Memref sig .tc .vmem S2048x256 .f32) (h1 : M1.IsWhole) (M2 : Memref sig .tc .vmem S1x2048x1 .i32) (h2 : M2.IsWhole) (M3 : Memref sig .tc .vmem S4352x256 .f32) (h3 : M3.IsWhole) (M4 : Memref sig .tc .vmem S4352x256 .f32) (h4 : M4.IsWhole) (M5 : Memref sig .tc .vmem S256x256 .f32) (h5 : M5.IsWhole) (M6 : Memref sig .tc .vmem S1x256 .f32) (h6 : M6.IsWhole) (M7 : Memref sig .tc .vmem S1x256 .f32) (h7 : M7.IsWhole) (M8 : Memref sig .tc .vmem S4352x256 .f32) (h8 : M8.IsWhole)

/-- The accumulator zeroed. -/
def zero2 (k : Prog (TpuEff nD τ sig (Elt F) (Λ₀ F) .tc) PUnit) : Prog (TpuEff nD τ sig (Elt F) (Λ₀ F) .tc) PUnit :=
  .op (.load M8 (Rect.unit (s := S4352x256) ![0, 0] S4352x256.size inb_S4352x256_S4352x256_0_0).toLoadRect (View.loadsAt_vmem h_S4352x256)) fun _ =>
  .op (.store M8 (Rect.unit (s := S4352x256) ![0, 0] S4352x256.size inb_S4352x256_S4352x256_0_0) (k2_pay1 (F := F)) Finset.univ (View.stores_vmem_bits_univ h_S4352x256 rfl) (.inl rfl)) fun _ => k

/-- The body, at the first point, in between and at the last. -/
theorem k2_first (h : atFirst (BitVec.ofNat 32 (i 0).val) = 1#1) (h' : ¬ atLast (BitVec.ofNat 32 (i 0).val) = 1#1) :
    cc2__k2 (F := F) i M1 h1 M2 h2 M3 h3 M4 h4 M5 h5 M6 h6 M7 h7 M8 h8 = zero2 M8 (work2 i M1 h1 M2 h2 M3 h3 M4 h4 M5 h5 M6 h6 M7 h7 M8 h8 (.ret ⟨⟩)) := by
  rw [cc2__k2_eq_skeleton]
  unfold cc2__k2_skel
  rw [dif_pos h, dif_neg h']; rfl

theorem k2_between (h : ¬ atFirst (BitVec.ofNat 32 (i 0).val) = 1#1) (h' : ¬ atLast (BitVec.ofNat 32 (i 0).val) = 1#1) :
    cc2__k2 (F := F) i M1 h1 M2 h2 M3 h3 M4 h4 M5 h5 M6 h6 M7 h7 M8 h8 = work2 i M1 h1 M2 h2 M3 h3 M4 h4 M5 h5 M6 h6 M7 h7 M8 h8 (.ret ⟨⟩) := by
  rw [cc2__k2_eq_skeleton]
  unfold cc2__k2_skel
  rw [dif_neg h, dif_neg h']; rfl

theorem k2_last (h : ¬ atFirst (BitVec.ofNat 32 (i 0).val) = 1#1) (h' : atLast (BitVec.ofNat 32 (i 0).val) = 1#1) :
    cc2__k2 (F := F) i M1 h1 M2 h2 M3 h3 M4 h4 M5 h5 M6 h6 M7 h7 M8 h8 = work2 i M1 h1 M2 h2 M3 h3 M4 h4 M5 h5 M6 h6 M7 h7 M8 h8 (scale2 M4 h4 M8 h8) := by
  rw [cc2__k2_eq_skeleton]
  unfold cc2__k2_skel
  rw [dif_neg h, dif_pos h']; rfl

variable (c : Dev nD) (X1 : Vec F S2048x256 .f32) (X2 : Vec F S1x2048x1 .i32) (X3 : Vec F S4352x256 .f32) (X4 : Vec F S4352x256 .f32) (X5 : Vec F S256x256 .f32) (X6 : Vec F S1x256 .f32) (X7 : Vec F S1x256 .f32)

attribute [local irreducible] nextRow firstSeg base

/-- The loop run over the accumulator. -/
theorem work2_spec (hs : SegsOk (k2_pay5 X2)) (k : Prog (TpuEff nD τ sig (Elt F) (Λ₀ F) .tc) PUnit) (X : Vec F S4352x256 .f32) (K : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X)
      ∗ (pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread (loop2 (k2_pay5 X2) X3 (k2_pay3 X1 X5 X6) (k2_pay4 X7) (k2_pay2 X1) 2048 0#32 X)) -∗ wp frame (wpE (defs₀ (F := F)) 𝒱₀ (c : Thread nD τ) none) Set.univ k K))
    ⊢ wp frame (wpE (defs₀ (F := F)) 𝒱₀ (c : Thread nD τ) none) Set.univ (work2 i M1 h1 M2 h2 M3 h3 M4 h4 M5 h5 M6 h6 M7 h7 M8 h8 k) K := by
  have hS : ∀ K : BitVec 32 → sProp 𝕄, call2 (k2_pay5 X2) (k2_pay3 X1 X5 X6) (k2_pay4 X7) (k2_pay2 X1) M3 h3 M8 h8 X3 c 2048 0#32 X K
      ⊢ wp frame (wpE (defs₀ (F := F)) 𝒱₀ (c : Thread nD τ) (some 2048)) Set.univ
        (defs₀ (F := F) (.tc) (4 : (Λ₀ F).Label) ⟨i, rows, k2_pay5 X2, lanes, M3, h3, k2_pay3 X1 X5 X6, k2_pay4 X7, k2_pay2 X1, M8, h8, 0#32⟩) K := by
    intro K
    rw [row2]
    exact loop2_spec i _ _ _ _ M3 h3 M8 h8 X3 hs c 2048 0#32 (by decide) (by decide) X K
  unfold work2
  iintro ⟨H1, H2, H3, H4, H5, H6, H7, H8, Hk⟩
  iapply (load_pt c M1 _ (whole_2 M1 h1 _ inb_S2048x256_S2048x256_0_0)) $$ H1; iintro H1
  iapply (load_pt c M5 _ (whole_2 M5 h5 _ inb_S256x256_S256x256_0_0)) $$ H5; iintro H5
  iapply (load_pt c M6 _ (whole_2 M6 h6 _ inb_S1x256_S1x256_0_0)) $$ H6; iintro H6
  iapply (load_pt c M7 _ (whole_2 M7 h7 _ inb_S1x256_S1x256_0_0)) $$ H7; iintro H7
  iapply (load_pt c M2 _ (whole_3 M2 h2 _ inb_S1x2048x1_S1x2048x1_0_0_0)) $$ H2; iintro H2
  iapply (wp_call_spec (ℓ := (4 : (Λ₀ F).Label)) (a := ⟨i, rows, k2_pay5 X2, lanes, M3, h3, k2_pay3 X1 X5 X6, k2_pay4 X7, k2_pay2 X1, M8, h8, 0#32⟩)
    𝒱₀ (c : Thread nD τ) _ Set.univ (call2 (k2_pay5 X2) (k2_pay3 X1 X5 X6) (k2_pay4 X7) (k2_pay2 X1) M3 h3 M8 h8 X3 c 2048 0#32 X) 2048
    (fun u hu => by cases hu) hS)
  rw [call2_apply]
  isplitl [H3]; · iexact H3
  isplitl [H8]; · iexact H8
  iintro %r H
  icases H with ⟨H3, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The accumulator as the loop meets it, and as the point leaves it. -/
def begun2 (i : grid2.Coords) (X : Vec F S4352x256 .f32) : Vec F S4352x256 .f32 := if atFirst (BitVec.ofNat 32 (i 0).val) = 1#1 then k2_pay1 (F := F) else X
def ended2 (i : grid2.Coords) (inv X : Vec F S4352x256 .f32) : Vec F S4352x256 .f32 := if atLast (BitVec.ofNat 32 (i 0).val) = 1#1 then k2_pay6 X inv else X

theorem apart (i : grid2.Coords) (h : atFirst (BitVec.ofNat 32 (i 0).val) = 1#1) : ¬ atLast (BitVec.ofNat 32 (i 0).val) = 1#1 := by
  have key : ∀ n : Fin 64, atFirst (BitVec.ofNat 32 n.val) = 1#1 → ¬ atLast (BitVec.ofNat 32 n.val) = 1#1 := by decide +kernel
  exact key (i 0) h

/-- The body at one point. -/
theorem k2_spec (hs : SegsOk (k2_pay5 X2)) (X : Vec F S4352x256 .f32) (K : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X)
      ∗ (pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread (ended2 i X4 (loop2 (k2_pay5 X2) X3 (k2_pay3 X1 X5 X6) (k2_pay4 X7) (k2_pay2 X1) 2048 0#32 (begun2 i X)))) -∗ K ⟨⟩))
    ⊢ wp frame (wpE (defs₀ (F := F)) 𝒱₀ (c : Thread nD τ) none) Set.univ (cc2__k2 (F := F) i M1 h1 M2 h2 M3 h3 M4 h4 M5 h5 M6 h6 M7 h7 M8 h8) K := by
  by_cases h : atFirst (BitVec.ofNat 32 (i 0).val) = 1#1
  · rw [k2_first i M1 h1 M2 h2 M3 h3 M4 h4 M5 h5 M6 h6 M7 h7 M8 h8 h (apart i h), begun2, if_pos h, ended2, if_neg (apart i h)]
    unfold zero2
    iintro ⟨H1, H2, H3, H4, H5, H6, H7, H8, Hk⟩
    iapply (load_pt c M8 _ rfl) $$ H8; iintro H8
    iapply (store_pt c M8 _ (w := k2_pay1 (F := F)) (write_2 M8 h8 _ _ inb_S4352x256_S4352x256_0_0)) $$ H8; iintro H8
    iapply (work2_spec i M1 h1 M2 h2 M3 h3 M4 h4 M5 h5 M6 h6 M7 h7 M8 h8 c X1 X2 X3 X4 X5 X6 X7 hs _ (k2_pay1 (F := F)) K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [wp_ret]
    iintro H
    imodintro
    iapply Hk
    iexact H
  · by_cases h' : atLast (BitVec.ofNat 32 (i 0).val) = 1#1
    · rw [k2_last i M1 h1 M2 h2 M3 h3 M4 h4 M5 h5 M6 h6 M7 h7 M8 h8 h h', begun2, if_neg h, ended2, if_pos h']
      iintro ⟨H1, H2, H3, H4, H5, H6, H7, H8, Hk⟩
      iapply (work2_spec i M1 h1 M2 h2 M3 h3 M4 h4 M5 h5 M6 h6 M7 h7 M8 h8 c X1 X2 X3 X4 X5 X6 X7 hs _ X K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H1, H2, H3, H4, H5, H6, H7, H8⟩
      unfold scale2
      iapply (load_pt c M8 _ (whole_2 M8 h8 _ inb_S4352x256_S4352x256_0_0)) $$ H8; iintro H8
      iapply (load_pt c M4 _ (whole_2 M4 h4 _ inb_S4352x256_S4352x256_0_0)) $$ H4; iintro H4
      iapply (load_pt c M8 _ (whole_2 M8 h8 _ inb_S4352x256_S4352x256_0_0)) $$ H8; iintro H8
      iapply (store_pt c M8 _ (w := k2_pay6 (loop2 (k2_pay5 X2) X3 (k2_pay3 X1 X5 X6) (k2_pay4 X7) (k2_pay2 X1) 2048 0#32 X) X4) (write_2 M8 h8 _ _ inb_S4352x256_S4352x256_0_0)) $$ H8; iintro H8
      rw [wp_ret]
      imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [k2_between i M1 h1 M2 h2 M3 h3 M4 h4 M5 h5 M6 h6 M7 h7 M8 h8 h h', begun2, if_neg h, ended2, if_neg h']
      iintro ⟨H1, H2, H3, H4, H5, H6, H7, H8, Hk⟩
      iapply (work2_spec i M1 h1 M2 h2 M3 h3 M4 h4 M5 h5 M6 h6 M7 h7 M8 h8 c X1 X2 X3 X4 X5 X6 X7 hs _ X K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      rw [wp_ret]
      iintro H
      imodintro
      iapply Hk
      iexact H

end

end Cert.KernelIdeal.Loop

end
-- ==== Proof.PI.Dat2.lean ====
/- The third call's proof data and its body's obligation. -/
module

public import proofs.«01_k».proof.Proof.PI.Hold
public import proofs.«01_k».proof.Proof.PI.Body2
public import proofs.«01_k».proof.Proof.Gen.KernelIdeal.Points
public import proofs.«01_k».proof.Proof.Gen.KernelIdeal.Launch
public import Idealize.ShloMosaic.Lib.Pipeline.Regions

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (V : Dev nD → Valuation τ sig (Elt F)) (c : Dev nD)

/-- The windows' arrays. -/
def arr2 (w : Fin (cfg2 (F := F)).W) : Buf (Elt F) (((cfg2 (F := F)).win w).arr.view.loc (c : Thread nD τ)) := V c (Pipeline.arrRef spec2 w)

/-- Window 0's block at a point. -/
noncomputable def in2_0 (t : Fin (cfg2 (F := F)).N) : Vec F S2048x256 .f32 := ((cfg2 (F := F)).win 0).blk t |>.view.read (Elt F) (arr2 V c 0)
/-- Window 1's block at a point. -/
noncomputable def in2_1 (t : Fin (cfg2 (F := F)).N) : Vec F S1x2048x1 .i32 := ((cfg2 (F := F)).win 1).blk t |>.view.read (Elt F) (arr2 V c 1)
/-- Window 2's block at a point. -/
noncomputable def in2_2 (t : Fin (cfg2 (F := F)).N) : Vec F S4352x256 .f32 := ((cfg2 (F := F)).win 2).blk t |>.view.read (Elt F) (arr2 V c 2)
/-- Window 3's block at a point. -/
noncomputable def in2_3 (t : Fin (cfg2 (F := F)).N) : Vec F S4352x256 .f32 := ((cfg2 (F := F)).win 3).blk t |>.view.read (Elt F) (arr2 V c 3)
/-- Window 4's block at a point. -/
noncomputable def in2_4 (t : Fin (cfg2 (F := F)).N) : Vec F S256x256 .f32 := ((cfg2 (F := F)).win 4).blk t |>.view.read (Elt F) (arr2 V c 4)
/-- Window 5's block at a point. -/
noncomputable def in2_5 (t : Fin (cfg2 (F := F)).N) : Vec F S1x256 .f32 := ((cfg2 (F := F)).win 5).blk t |>.view.read (Elt F) (arr2 V c 5)
/-- Window 6's block at a point. -/
noncomputable def in2_6 (t : Fin (cfg2 (F := F)).N) : Vec F S1x256 .f32 := ((cfg2 (F := F)).win 6).blk t |>.view.read (Elt F) (arr2 V c 6)

/-- The block's segments. -/
def segs2 (t : Fin (cfg2 (F := F)).N) : IVec S2048x1 32 := k2_pay5 (F := F) (in2_1 V c t)

/-- One point's work on the accumulator. -/
def point2 (t : Fin (cfg2 (F := F)).N) (X : Vec F S4352x256 .f32) : Vec F S4352x256 .f32 :=
  ended2 (grid2.coords t) (in2_3 V c t)
    (loop2 (segs2 V c t) (in2_2 V c t) (k2_pay3 (in2_0 V c t) (in2_4 V c t) (in2_5 V c t)) (k2_pay4 (in2_6 V c t)) (k2_pay2 (in2_0 V c t)) 2048 0#32
      (begun2 (grid2.coords t) X))

/-- The accumulator after the first `n` points. -/
def acc2 : ℕ → Vec F S4352x256 .f32
  | 0 => k2_pay1 (F := F)
  | n + 1 => if h : n < (cfg2 (F := F)).N then point2 V c ⟨n, h⟩ (acc2 n) else acc2 n

theorem acc2_succ (t : Fin (cfg2 (F := F)).N) : acc2 V c (t.val + 1) = point2 V c t (acc2 V c t.val) := by
  rw [acc2, dif_pos t.isLt]

/-- The proof data. -/
def dat2 : Dat τ (Elt F) Unit ℕ (UU nD τ) ℕ (cfg2 (F := F)) c where
  A w := arr2 V c w
  after w t := match w with
    | ⟨0, _⟩ => in2_0 V c t
    | ⟨1, _⟩ => in2_1 V c t
    | ⟨2, _⟩ => in2_2 V c t
    | ⟨3, _⟩ => in2_3 V c t
    | ⟨4, _⟩ => in2_4 V c t
    | ⟨5, _⟩ => in2_5 V c t
    | ⟨6, _⟩ => in2_6 V c t
    | ⟨7, _⟩ => acc2 V c (t.val + 1)
  Φ _ := Pipeline.scopedRest (Ix := Unit) (Name := ℕ) (U := UU nD τ) (Lvl := ℕ) (Val := Elt F) spec2 c
  q _ := fullShare
  owed _ := 0

theorem before2_0 (t : Fin (cfg2 (F := F)).N) (d) : (dat2 V c).before 0 t d = in2_0 V c t :=
  (dat2 V c).before_in_eq_fetched 0 rfl (fun _ => rfl) (fun _ _ _ => rfl) (fun _ => rfl) t d
theorem before2_1 (t : Fin (cfg2 (F := F)).N) (d) : (dat2 V c).before 1 t d = in2_1 V c t :=
  (dat2 V c).before_in_eq_fetched 1 rfl (fun _ => rfl) (fun _ _ _ => rfl) (fun _ => rfl) t d
theorem before2_2 (t : Fin (cfg2 (F := F)).N) (d) : (dat2 V c).before 2 t d = in2_2 V c t :=
  (dat2 V c).before_in_eq_fetched 2 rfl (fun _ => rfl) (fun _ _ _ => rfl) (fun _ => rfl) t d
theorem before2_3 (t : Fin (cfg2 (F := F)).N) (d) : (dat2 V c).before 3 t d = in2_3 V c t :=
  (dat2 V c).before_in_eq_fetched 3 rfl (fun _ => rfl) (fun _ _ _ => rfl) (fun _ => rfl) t d
theorem before2_4 (t : Fin (cfg2 (F := F)).N) (d) : (dat2 V c).before 4 t d = in2_4 V c t :=
  (dat2 V c).before_in_eq_fetched 4 rfl (fun _ => rfl) (fun _ _ _ => rfl) (fun _ => rfl) t d
theorem before2_5 (t : Fin (cfg2 (F := F)).N) (d) : (dat2 V c).before 5 t d = in2_5 V c t :=
  (dat2 V c).before_in_eq_fetched 5 rfl (fun _ => rfl) (fun _ _ _ => rfl) (fun _ => rfl) t d
theorem before2_6 (t : Fin (cfg2 (F := F)).N) (d) : (dat2 V c).before 6 t d = in2_6 V c t :=
  (dat2 V c).before_in_eq_fetched 6 rfl (fun _ => rfl) (fun _ _ _ => rfl) (fun _ => rfl) t d

theorem first2 (t : Fin (cfg2 (F := F)).N) (ht : t.val = 0) (X X' : Vec F S4352x256 .f32) : begun2 (grid2.coords t) X = begun2 (grid2.coords t) X' := by
  have key : ∀ t : Fin grid2.N, t.val = 0 → atFirst (BitVec.ofNat 32 (grid2.coords t 0).val) = 1#1 := by decide +kernel
  rw [begun2, begun2, if_pos (key t ht), if_pos (key t ht)]

theorem kept2_7 (t : Fin (cfg2 (F := F)).N) (ht : t.val ≠ 0) (d) : (dat2 V c).before 7 t d = acc2 V c t.val := by
  have hN : t.val < 64 := lt_of_lt_of_eq t.isLt N_2
  refine ((dat2 V c).before_out_kept 7 rfl t ht ?_ (fun _ => rfl) (fun _ _ => rfl) d).trans ?_
  · rw [Bool.eq_false_iff, Ne, flush2_7]; show ¬ (t.val - 1) % 64 = 63; omega
  · show acc2 V c (t.val - 1 + 1) = _
    rw [Nat.sub_add_cancel (Nat.pos_of_ne_zero ht)]

/-- Two contents a point begins alike on it leaves alike. -/
theorem start2 (t : Fin (cfg2 (F := F)).N) (X X' : Vec F S4352x256 .f32) (h : begun2 (grid2.coords t) X = begun2 (grid2.coords t) X') :
    point2 V c t X = point2 V c t X' := by
  show ended2 _ _ (loop2 _ _ _ _ _ _ _ (begun2 _ X)) = ended2 _ _ (loop2 _ _ _ _ _ _ _ (begun2 _ X'))
  rw [h]

/-- What the point's work makes of what it finds in the accumulator. -/
theorem found2 (t : Fin (cfg2 (F := F)).N) (d) : point2 V c t ((dat2 V c).before 7 t d) = acc2 V c (t.val + 1) := by
  rw [acc2_succ]
  by_cases ht : t.val = 0
  · exact start2 V c t _ _ (first2 t ht _ _)
  · rw [kept2_7 V c t ht]

/-- The label of the body runs it. -/
theorem row2b (t : Fin (cfg2 (F := F)).N) : defs₀ (F := F) .tc (cfg2 (F := F)).body ((cfg2 (F := F)).bodyArgs t ((cfg2 (F := F)).slots t)) = bodyAt2 t := by
  unfold defs₀; rw [Defs.onTc_tc]

theorem hold2_0 (t : Fin (cfg2 (F := F)).N) :
    iprop(∃ d, owns (c : Thread nD τ) (((cfg2 (F := F)).win 0).stage ((cfg2 (F := F)).slots t 0)) fullShare ((dat2 V c).before 0 t d)) ⊢ (pt c (st2_0 t) ((hstage2_0 (((cfg2 (F := F)).slots t 0).cast nbuf2_0)).unread (in2_0 V c t)) : sProp 𝕄) := by
  iintro ⟨%d, H⟩
  iapply (owns_pt c (((cfg2 (F := F)).win 0).stage ((cfg2 (F := F)).slots t 0)) (hstage2_0 (((cfg2 (F := F)).slots t 0).cast nbuf2_0)) _ _ (before2_0 V c t d)) $$ H
theorem leave2_0 (t : Fin (cfg2 (F := F)).N) :
    (pt c (st2_0 t) ((hstage2_0 (((cfg2 (F := F)).slots t 0).cast nbuf2_0)).unread (in2_0 V c t)) : sProp 𝕄) ⊢ owns (c : Thread nD τ) (((cfg2 (F := F)).win 0).stage ((cfg2 (F := F)).slots t 0)) fullShare ((dat2 V c).after 0 t) :=
  pt_owns c (((cfg2 (F := F)).win 0).stage ((cfg2 (F := F)).slots t 0)) (hstage2_0 (((cfg2 (F := F)).slots t 0).cast nbuf2_0)) _ _ rfl

theorem hold2_1 (t : Fin (cfg2 (F := F)).N) :
    iprop(∃ d, owns (c : Thread nD τ) (((cfg2 (F := F)).win 1).stage ((cfg2 (F := F)).slots t 1)) fullShare ((dat2 V c).before 1 t d)) ⊢ (pt c (st2_1 t) ((hstage2_1 (((cfg2 (F := F)).slots t 1).cast nbuf2_1)).unread (in2_1 V c t)) : sProp 𝕄) := by
  iintro ⟨%d, H⟩
  iapply (owns_pt c (((cfg2 (F := F)).win 1).stage ((cfg2 (F := F)).slots t 1)) (hstage2_1 (((cfg2 (F := F)).slots t 1).cast nbuf2_1)) _ _ (before2_1 V c t d)) $$ H
theorem leave2_1 (t : Fin (cfg2 (F := F)).N) :
    (pt c (st2_1 t) ((hstage2_1 (((cfg2 (F := F)).slots t 1).cast nbuf2_1)).unread (in2_1 V c t)) : sProp 𝕄) ⊢ owns (c : Thread nD τ) (((cfg2 (F := F)).win 1).stage ((cfg2 (F := F)).slots t 1)) fullShare ((dat2 V c).after 1 t) :=
  pt_owns c (((cfg2 (F := F)).win 1).stage ((cfg2 (F := F)).slots t 1)) (hstage2_1 (((cfg2 (F := F)).slots t 1).cast nbuf2_1)) _ _ rfl

theorem hold2_2 (t : Fin (cfg2 (F := F)).N) :
    iprop(∃ d, owns (c : Thread nD τ) (((cfg2 (F := F)).win 2).stage ((cfg2 (F := F)).slots t 2)) fullShare ((dat2 V c).before 2 t d)) ⊢ (pt c (st2_2 t) ((hstage2_2 (((cfg2 (F := F)).slots t 2).cast nbuf2_2)).unread (in2_2 V c t)) : sProp 𝕄) := by
  iintro ⟨%d, H⟩
  iapply (owns_pt c (((cfg2 (F := F)).win 2).stage ((cfg2 (F := F)).slots t 2)) (hstage2_2 (((cfg2 (F := F)).slots t 2).cast nbuf2_2)) _ _ (before2_2 V c t d)) $$ H
theorem leave2_2 (t : Fin (cfg2 (F := F)).N) :
    (pt c (st2_2 t) ((hstage2_2 (((cfg2 (F := F)).slots t 2).cast nbuf2_2)).unread (in2_2 V c t)) : sProp 𝕄) ⊢ owns (c : Thread nD τ) (((cfg2 (F := F)).win 2).stage ((cfg2 (F := F)).slots t 2)) fullShare ((dat2 V c).after 2 t) :=
  pt_owns c (((cfg2 (F := F)).win 2).stage ((cfg2 (F := F)).slots t 2)) (hstage2_2 (((cfg2 (F := F)).slots t 2).cast nbuf2_2)) _ _ rfl

theorem hold2_3 (t : Fin (cfg2 (F := F)).N) :
    iprop(∃ d, owns (c : Thread nD τ) (((cfg2 (F := F)).win 3).stage ((cfg2 (F := F)).slots t 3)) fullShare ((dat2 V c).before 3 t d)) ⊢ (pt c (st2_3 t) ((hstage2_3 (((cfg2 (F := F)).slots t 3).cast nbuf2_3)).unread (in2_3 V c t)) : sProp 𝕄) := by
  iintro ⟨%d, H⟩
  iapply (owns_pt c (((cfg2 (F := F)).win 3).stage ((cfg2 (F := F)).slots t 3)) (hstage2_3 (((cfg2 (F := F)).slots t 3).cast nbuf2_3)) _ _ (before2_3 V c t d)) $$ H
theorem leave2_3 (t : Fin (cfg2 (F := F)).N) :
    (pt c (st2_3 t) ((hstage2_3 (((cfg2 (F := F)).slots t 3).cast nbuf2_3)).unread (in2_3 V c t)) : sProp 𝕄) ⊢ owns (c : Thread nD τ) (((cfg2 (F := F)).win 3).stage ((cfg2 (F := F)).slots t 3)) fullShare ((dat2 V c).after 3 t) :=
  pt_owns c (((cfg2 (F := F)).win 3).stage ((cfg2 (F := F)).slots t 3)) (hstage2_3 (((cfg2 (F := F)).slots t 3).cast nbuf2_3)) _ _ rfl

theorem hold2_4 (t : Fin (cfg2 (F := F)).N) :
    iprop(∃ d, owns (c : Thread nD τ) (((cfg2 (F := F)).win 4).stage ((cfg2 (F := F)).slots t 4)) fullShare ((dat2 V c).before 4 t d)) ⊢ (pt c (st2_4 t) ((hstage2_4 (((cfg2 (F := F)).slots t 4).cast nbuf2_4)).unread (in2_4 V c t)) : sProp 𝕄) := by
  iintro ⟨%d, H⟩
  iapply (owns_pt c (((cfg2 (F := F)).win 4).stage ((cfg2 (F := F)).slots t 4)) (hstage2_4 (((cfg2 (F := F)).slots t 4).cast nbuf2_4)) _ _ (before2_4 V c t d)) $$ H
theorem leave2_4 (t : Fin (cfg2 (F := F)).N) :
    (pt c (st2_4 t) ((hstage2_4 (((cfg2 (F := F)).slots t 4).cast nbuf2_4)).unread (in2_4 V c t)) : sProp 𝕄) ⊢ owns (c : Thread nD τ) (((cfg2 (F := F)).win 4).stage ((cfg2 (F := F)).slots t 4)) fullShare ((dat2 V c).after 4 t) :=
  pt_owns c (((cfg2 (F := F)).win 4).stage ((cfg2 (F := F)).slots t 4)) (hstage2_4 (((cfg2 (F := F)).slots t 4).cast nbuf2_4)) _ _ rfl

theorem hold2_5 (t : Fin (cfg2 (F := F)).N) :
    iprop(∃ d, owns (c : Thread nD τ) (((cfg2 (F := F)).win 5).stage ((cfg2 (F := F)).slots t 5)) fullShare ((dat2 V c).before 5 t d)) ⊢ (pt c (st2_5 t) ((hstage2_5 (((cfg2 (F := F)).slots t 5).cast nbuf2_5)).unread (in2_5 V c t)) : sProp 𝕄) := by
  iintro ⟨%d, H⟩
  iapply (owns_pt c (((cfg2 (F := F)).win 5).stage ((cfg2 (F := F)).slots t 5)) (hstage2_5 (((cfg2 (F := F)).slots t 5).cast nbuf2_5)) _ _ (before2_5 V c t d)) $$ H
theorem leave2_5 (t : Fin (cfg2 (F := F)).N) :
    (pt c (st2_5 t) ((hstage2_5 (((cfg2 (F := F)).slots t 5).cast nbuf2_5)).unread (in2_5 V c t)) : sProp 𝕄) ⊢ owns (c : Thread nD τ) (((cfg2 (F := F)).win 5).stage ((cfg2 (F := F)).slots t 5)) fullShare ((dat2 V c).after 5 t) :=
  pt_owns c (((cfg2 (F := F)).win 5).stage ((cfg2 (F := F)).slots t 5)) (hstage2_5 (((cfg2 (F := F)).slots t 5).cast nbuf2_5)) _ _ rfl

theorem hold2_6 (t : Fin (cfg2 (F := F)).N) :
    iprop(∃ d, owns (c : Thread nD τ) (((cfg2 (F := F)).win 6).stage ((cfg2 (F := F)).slots t 6)) fullShare ((dat2 V c).before 6 t d)) ⊢ (pt c (st2_6 t) ((hstage2_6 (((cfg2 (F := F)).slots t 6).cast nbuf2_6)).unread (in2_6 V c t)) : sProp 𝕄) := by
  iintro ⟨%d, H⟩
  iapply (owns_pt c (((cfg2 (F := F)).win 6).stage ((cfg2 (F := F)).slots t 6)) (hstage2_6 (((cfg2 (F := F)).slots t 6).cast nbuf2_6)) _ _ (before2_6 V c t d)) $$ H
theorem leave2_6 (t : Fin (cfg2 (F := F)).N) :
    (pt c (st2_6 t) ((hstage2_6 (((cfg2 (F := F)).slots t 6).cast nbuf2_6)).unread (in2_6 V c t)) : sProp 𝕄) ⊢ owns (c : Thread nD τ) (((cfg2 (F := F)).win 6).stage ((cfg2 (F := F)).slots t 6)) fullShare ((dat2 V c).after 6 t) :=
  pt_owns c (((cfg2 (F := F)).win 6).stage ((cfg2 (F := F)).slots t 6)) (hstage2_6 (((cfg2 (F := F)).slots t 6).cast nbuf2_6)) _ _ rfl

theorem hold2_7 (t : Fin (cfg2 (F := F)).N) :
    iprop(∃ d, owns (c : Thread nD τ) (((cfg2 (F := F)).win 7).stage ((cfg2 (F := F)).slots t 7)) fullShare ((dat2 V c).before 7 t d)) ⊢ (iprop(∃ d, pt c (st2_7 t) ((hstage2_7 (((cfg2 (F := F)).slots t 7).cast nbuf2_7)).unread ((dat2 V c).before 7 t d))) : sProp 𝕄) := by
  iintro ⟨%d, H⟩
  iexists d
  iapply (owns_pt c (((cfg2 (F := F)).win 7).stage ((cfg2 (F := F)).slots t 7)) (hstage2_7 (((cfg2 (F := F)).slots t 7).cast nbuf2_7)) _ _ rfl) $$ H
theorem leave2_7 (t : Fin (cfg2 (F := F)).N) :
    (pt c (st2_7 t) ((hstage2_7 (((cfg2 (F := F)).slots t 7).cast nbuf2_7)).unread (acc2 V c (t.val + 1))) : sProp 𝕄) ⊢ owns (c : Thread nD τ) (((cfg2 (F := F)).win 7).stage ((cfg2 (F := F)).slots t 7)) fullShare ((dat2 V c).after 7 t) :=
  pt_owns c (((cfg2 (F := F)).win 7).stage ((cfg2 (F := F)).slots t 7)) (hstage2_7 (((cfg2 (F := F)).slots t 7).cast nbuf2_7)) _ _ rfl

/-- The body at a point, its windows at their blocks and its outputs as found. -/
theorem at2 (hs : ∀ t, SegsOk (segs2 V c t)) (t : Fin (cfg2 (F := F)).N) (P Q : sProp 𝕄) :
    iprop(P ∗ Q ∗ pt c (st2_0 t) ((hstage2_0 (((cfg2 (F := F)).slots t 0).cast nbuf2_0)).unread (in2_0 V c t)) ∗ pt c (st2_1 t) ((hstage2_1 (((cfg2 (F := F)).slots t 1).cast nbuf2_1)).unread (in2_1 V c t)) ∗ pt c (st2_2 t) ((hstage2_2 (((cfg2 (F := F)).slots t 2).cast nbuf2_2)).unread (in2_2 V c t)) ∗ pt c (st2_3 t) ((hstage2_3 (((cfg2 (F := F)).slots t 3).cast nbuf2_3)).unread (in2_3 V c t)) ∗ pt c (st2_4 t) ((hstage2_4 (((cfg2 (F := F)).slots t 4).cast nbuf2_4)).unread (in2_4 V c t)) ∗ pt c (st2_5 t) ((hstage2_5 (((cfg2 (F := F)).slots t 5).cast nbuf2_5)).unread (in2_5 V c t)) ∗ pt c (st2_6 t) ((hstage2_6 (((cfg2 (F := F)).slots t 6).cast nbuf2_6)).unread (in2_6 V c t)) ∗ (∃ d, pt c (st2_7 t) ((hstage2_7 (((cfg2 (F := F)).slots t 7).cast nbuf2_7)).unread ((dat2 V c).before 7 t d))))
    ⊢ wp frame (wpE (defs₀ (F := F)) 𝒱₀ (c : Thread nD τ) none) Set.univ (bodyAt2 t) fun _ =>
      iprop(P ∗ Q ∗ pt c (st2_0 t) ((hstage2_0 (((cfg2 (F := F)).slots t 0).cast nbuf2_0)).unread (in2_0 V c t)) ∗ pt c (st2_1 t) ((hstage2_1 (((cfg2 (F := F)).slots t 1).cast nbuf2_1)).unread (in2_1 V c t)) ∗ pt c (st2_2 t) ((hstage2_2 (((cfg2 (F := F)).slots t 2).cast nbuf2_2)).unread (in2_2 V c t)) ∗ pt c (st2_3 t) ((hstage2_3 (((cfg2 (F := F)).slots t 3).cast nbuf2_3)).unread (in2_3 V c t)) ∗ pt c (st2_4 t) ((hstage2_4 (((cfg2 (F := F)).slots t 4).cast nbuf2_4)).unread (in2_4 V c t)) ∗ pt c (st2_5 t) ((hstage2_5 (((cfg2 (F := F)).slots t 5).cast nbuf2_5)).unread (in2_5 V c t)) ∗ pt c (st2_6 t) ((hstage2_6 (((cfg2 (F := F)).slots t 6).cast nbuf2_6)).unread (in2_6 V c t)) ∗ pt c (st2_7 t) ((hstage2_7 (((cfg2 (F := F)).slots t 7).cast nbuf2_7)).unread (acc2 V c (t.val + 1)))) := by
  iintro ⟨HP, HQ, H0, H1, H2, H3, H4, H5, H6, ⟨%d7, H7⟩⟩
  rw [← found2 V c t d7]
  iapply (k2_spec (grid2.coords t) (st2_0 t) (hstage2_0 (((cfg2 (F := F)).slots t 0).cast nbuf2_0)) (st2_1 t) (hstage2_1 (((cfg2 (F := F)).slots t 1).cast nbuf2_1)) (st2_2 t) (hstage2_2 (((cfg2 (F := F)).slots t 2).cast nbuf2_2)) (st2_3 t) (hstage2_3 (((cfg2 (F := F)).slots t 3).cast nbuf2_3)) (st2_4 t) (hstage2_4 (((cfg2 (F := F)).slots t 4).cast nbuf2_4)) (st2_5 t) (hstage2_5 (((cfg2 (F := F)).slots t 5).cast nbuf2_5)) (st2_6 t) (hstage2_6 (((cfg2 (F := F)).slots t 6).cast nbuf2_6)) (st2_7 t) (hstage2_7 (((cfg2 (F := F)).slots t 7).cast nbuf2_7)) c (in2_0 V c t) (in2_1 V c t) (in2_2 V c t) (in2_3 V c t) (in2_4 V c t) (in2_5 V c t) (in2_6 V c t) (hs t) ((dat2 V c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HP]; · iexact HP
  isplitl [HQ]; · iexact HQ
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's obligation. -/
theorem body2 (hs : ∀ t, SegsOk (segs2 V c t)) : BodyObligation (dat2 V c) (defs₀ (F := F)) 𝒱₀ () Set.univ := fun t => by
  have hpre : (bigSep Finset.univ fun w => iprop(∃ d, owns (c : Thread nD τ) ((cfg2 (F := F)).win w |>.stage ((cfg2 (F := F)).slots t w)) fullShare ((dat2 V c).before w t d)) : sProp 𝕄)
      ⊢ iprop(pt c (st2_0 t) ((hstage2_0 (((cfg2 (F := F)).slots t 0).cast nbuf2_0)).unread (in2_0 V c t)) ∗ pt c (st2_1 t) ((hstage2_1 (((cfg2 (F := F)).slots t 1).cast nbuf2_1)).unread (in2_1 V c t)) ∗ pt c (st2_2 t) ((hstage2_2 (((cfg2 (F := F)).slots t 2).cast nbuf2_2)).unread (in2_2 V c t)) ∗ pt c (st2_3 t) ((hstage2_3 (((cfg2 (F := F)).slots t 3).cast nbuf2_3)).unread (in2_3 V c t)) ∗ pt c (st2_4 t) ((hstage2_4 (((cfg2 (F := F)).slots t 4).cast nbuf2_4)).unread (in2_4 V c t)) ∗ pt c (st2_5 t) ((hstage2_5 (((cfg2 (F := F)).slots t 5).cast nbuf2_5)).unread (in2_5 V c t)) ∗ pt c (st2_6 t) ((hstage2_6 (((cfg2 (F := F)).slots t 6).cast nbuf2_6)).unread (in2_6 V c t)) ∗ (∃ d, pt c (st2_7 t) ((hstage2_7 (((cfg2 (F := F)).slots t 7).cast nbuf2_7)).unread ((dat2 V c).before 7 t d)))) := by
    rw [bigSep_W2]
    exact (both (hold2_0 V c t) (both (hold2_1 V c t) (both (hold2_2 V c t) (both (hold2_3 V c t) (both (hold2_4 V c t) (both (hold2_5 V c t) (both (hold2_6 V c t) (hold2_7 V c t))))))))
  have hpost : iprop(pt c (st2_0 t) ((hstage2_0 (((cfg2 (F := F)).slots t 0).cast nbuf2_0)).unread (in2_0 V c t)) ∗ pt c (st2_1 t) ((hstage2_1 (((cfg2 (F := F)).slots t 1).cast nbuf2_1)).unread (in2_1 V c t)) ∗ pt c (st2_2 t) ((hstage2_2 (((cfg2 (F := F)).slots t 2).cast nbuf2_2)).unread (in2_2 V c t)) ∗ pt c (st2_3 t) ((hstage2_3 (((cfg2 (F := F)).slots t 3).cast nbuf2_3)).unread (in2_3 V c t)) ∗ pt c (st2_4 t) ((hstage2_4 (((cfg2 (F := F)).slots t 4).cast nbuf2_4)).unread (in2_4 V c t)) ∗ pt c (st2_5 t) ((hstage2_5 (((cfg2 (F := F)).slots t 5).cast nbuf2_5)).unread (in2_5 V c t)) ∗ pt c (st2_6 t) ((hstage2_6 (((cfg2 (F := F)).slots t 6).cast nbuf2_6)).unread (in2_6 V c t)) ∗ pt c (st2_7 t) ((hstage2_7 (((cfg2 (F := F)).slots t 7).cast nbuf2_7)).unread (acc2 V c (t.val + 1))))
      ⊢ (bigSep Finset.univ fun w => owns (c : Thread nD τ) ((cfg2 (F := F)).win w |>.stage ((cfg2 (F := F)).slots t w)) fullShare ((dat2 V c).after w t) : sProp 𝕄) := by
    rw [bigSep_W2]
    exact (both (leave2_0 V c t) (both (leave2_1 V c t) (both (leave2_2 V c t) (both (leave2_3 V c t) (both (leave2_4 V c t) (both (leave2_5 V c t) (both (leave2_6 V c t) (leave2_7 V c t))))))))
  rw [row2b]
  refine (both .rfl (both .rfl hpre) : _ ⊢ _).trans ((at2 V c hs t ((dat2 V c).Φ t.succ) ((dat2 V c).owesAt () t.succ)).trans
    (wp_mono _ _ _ fun _ => both .rfl (both .rfl hpost)))

end Cert.KernelIdeal.Loop

end
-- ==== Proof.PI.Blocks.lean ====
/- What each window's block reads of its array. -/
module

public import proofs.«01_k».proof.Proof.PI.Dat0
public import proofs.«01_k».proof.Proof.PI.Dat1
public import proofs.«01_k».proof.Proof.PI.Dat2
public import proofs.«01_k».proof.Proof.Gen.KernelIdeal.Regions
public import Idealize.ShloMosaic.Lib.Pipeline.Value
public import Idealize.ShloMosaic.Lib.Pipeline.Regions
public import Idealize.ShloMosaic.Lib.Pipeline.RegionArraysS

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation RegionSeg afterRegion)

variable {F : FTy → Type} [FloatOps F]

local notation "𝕄" => MT nD τ sig Unit (Elt F) ℕ (UU nD τ) ℕ

variable (V : Dev nD → Valuation τ sig (Elt F)) (c : Dev nD)

theorem at0_0 : ∀ t : Fin grid0.N, (win0 0).index t = ![t.val, 0] := by decide +kernel
/-- Window 0 of call 0 reads its own rows. -/
theorem in0_0_row (t : Fin (cfg0 (F := F)).N) (r : Fin 2048) (d : Fin 128) (R : Fin 131072) (hR : R.val = t.val * 2048 + r.val) :
    in0_0 V c t (ix2 r d) = V c main_v0 (ix2 R d) := by
  show V c main_v0 (((win0 0).rect t).emb (ix2 r d)) = _
  congr 1
  funext a
  apply Fin.ext
  refine ((win0 0).rect_emb_val t (ix2 r d) a).trans ?_
  rw [at0_0 t]
  match a with
  | ⟨0, _⟩ => exact hR.symm
  | ⟨1, _⟩ => show 0 * 128 + d.val = d.val; omega

theorem at0_1 : ∀ t : Fin grid0.N, (win0 1).index t = ![t.val, 0, 0] := by decide +kernel
/-- Window 1 of call 0 reads its own rows. -/
theorem in0_1_row (t : Fin (cfg0 (F := F)).N) (r : Fin 2048) (T : Fin 64) (hT : T.val = t.val) :
    in0_1 V c t (ix3 (0 : Fin 1) r (0 : Fin 1)) = V c main_v2 (ix3 T r (0 : Fin 1)) := by
  show V c main_v2 (((win0 1).rect t).emb (ix3 (0 : Fin 1) r (0 : Fin 1))) = _
  congr 1
  funext a
  apply Fin.ext
  refine ((win0 1).rect_emb_val t (ix3 (0 : Fin 1) r (0 : Fin 1)) a).trans ?_
  rw [at0_1 t]
  match a with
  | ⟨0, _⟩ => show t.val * 1 + 0 = T.val; omega
  | ⟨1, _⟩ => show 0 * 2048 + r.val = r.val; omega
  | ⟨2, _⟩ => show 0 * 1 + 0 = 0; omega

theorem at0_2 : ∀ t : Fin grid0.N, (win0 2).index t = ![t.val, 0, 0] := by decide +kernel
/-- Window 2 of call 0 reads its own rows. -/
theorem in0_2_row (t : Fin (cfg0 (F := F)).N) (r : Fin 2048) (T : Fin 64) (hT : T.val = t.val) :
    in0_2 V c t (ix3 (0 : Fin 1) r (0 : Fin 1)) = V c main_v4 (ix3 T r (0 : Fin 1)) := by
  show V c main_v4 (((win0 2).rect t).emb (ix3 (0 : Fin 1) r (0 : Fin 1))) = _
  congr 1
  funext a
  apply Fin.ext
  refine ((win0 2).rect_emb_val t (ix3 (0 : Fin 1) r (0 : Fin 1)) a).trans ?_
  rw [at0_2 t]
  match a with
  | ⟨0, _⟩ => show t.val * 1 + 0 = T.val; omega
  | ⟨1, _⟩ => show 0 * 2048 + r.val = r.val; omega
  | ⟨2, _⟩ => show 0 * 1 + 0 = 0; omega

theorem at0_3 : ∀ t : Fin grid0.N, (win0 3).index t = ![0, 0] := by decide +kernel
/-- Window 3 of call 0 reads its whole array. -/
theorem in0_3_whole (t : Fin (cfg0 (F := F)).N) : in0_3 V c t = V c main_v5 := by
  funext y
  show V c main_v5 (((win0 3).rect t).emb y) = _
  congr 1
  funext a
  apply Fin.ext
  refine (win0 3).rect_emb_val_of_index_zero t a ?_ y
  rw [at0_3 t]
  match a with
  | ⟨0, _⟩ => rfl
  | ⟨1, _⟩ => rfl

theorem at0_4 : ∀ t : Fin grid0.N, (win0 4).index t = ![0, 0] := by decide +kernel
/-- Window 4 of call 0 reads its whole array. -/
theorem in0_4_whole (t : Fin (cfg0 (F := F)).N) : in0_4 V c t = V c main_v6 := by
  funext y
  show V c main_v6 (((win0 4).rect t).emb y) = _
  congr 1
  funext a
  apply Fin.ext
  refine (win0 4).rect_emb_val_of_index_zero t a ?_ y
  rw [at0_4 t]
  match a with
  | ⟨0, _⟩ => rfl
  | ⟨1, _⟩ => rfl

theorem at0_5 : ∀ t : Fin grid0.N, (win0 5).index t = ![0, 0] := by decide +kernel
/-- Window 5 of call 0 reads its whole array. -/
theorem in0_5_whole (t : Fin (cfg0 (F := F)).N) : in0_5 V c t = V c main_v8 := by
  funext y
  show V c main_v8 (((win0 5).rect t).emb y) = _
  congr 1
  funext a
  apply Fin.ext
  refine (win0 5).rect_emb_val_of_index_zero t a ?_ y
  rw [at0_5 t]
  match a with
  | ⟨0, _⟩ => rfl
  | ⟨1, _⟩ => rfl

theorem at0_6 : ∀ t : Fin grid0.N, (win0 6).index t = ![0, 0] := by decide +kernel
/-- Window 6 of call 0 reads its whole array. -/
theorem in0_6_whole (t : Fin (cfg0 (F := F)).N) : in0_6 V c t = V c main_v10 := by
  funext y
  show V c main_v10 (((win0 6).rect t).emb y) = _
  congr 1
  funext a
  apply Fin.ext
  refine (win0 6).rect_emb_val_of_index_zero t a ?_ y
  rw [at0_6 t]
  match a with
  | ⟨0, _⟩ => rfl
  | ⟨1, _⟩ => rfl

theorem at0_7 : ∀ t : Fin grid0.N, (win0 7).index t = ![0, 0] := by decide +kernel
/-- Window 7 of call 0 reads its whole array. -/
theorem in0_7_whole (t : Fin (cfg0 (F := F)).N) : in0_7 V c t = V c main_v11 := by
  funext y
  show V c main_v11 (((win0 7).rect t).emb y) = _
  congr 1
  funext a
  apply Fin.ext
  refine (win0 7).rect_emb_val_of_index_zero t a ?_ y
  rw [at0_7 t]
  match a with
  | ⟨0, _⟩ => rfl
  | ⟨1, _⟩ => rfl

theorem at1_0 : ∀ t : Fin grid1.N, (win1 0).index t = ![0, 0] := by decide +kernel
/-- Window 0 of call 1 reads its whole array. -/
theorem in1_0_whole (t : Fin (cfg1 (F := F)).N) : in1_0 V c t = V c main_v14_1 := by
  funext y
  show V c main_v14_1 (((win1 0).rect t).emb y) = _
  congr 1
  funext a
  apply Fin.ext
  refine (win1 0).rect_emb_val_of_index_zero t a ?_ y
  rw [at1_0 t]
  match a with
  | ⟨0, _⟩ => rfl
  | ⟨1, _⟩ => rfl

theorem at1_1 : ∀ t : Fin grid1.N, (win1 1).index t = ![0, 0] := by decide +kernel
/-- Window 1 of call 1 reads its whole array. -/
theorem in1_1_whole (t : Fin (cfg1 (F := F)).N) : in1_1 V c t = V c main_v14_2 := by
  funext y
  show V c main_v14_2 (((win1 1).rect t).emb y) = _
  congr 1
  funext a
  apply Fin.ext
  refine (win1 1).rect_emb_val_of_index_zero t a ?_ y
  rw [at1_1 t]
  match a with
  | ⟨0, _⟩ => rfl
  | ⟨1, _⟩ => rfl

theorem at1_2 : ∀ t : Fin grid1.N, (win1 2).index t = ![0, 0] := by decide +kernel
/-- Window 2 of call 1 reads its whole array. -/
theorem in1_2_whole (t : Fin (cfg1 (F := F)).N) : in1_2 V c t = V c main_arg14 := by
  funext y
  show V c main_arg14 (((win1 2).rect t).emb y) = _
  congr 1
  funext a
  apply Fin.ext
  refine (win1 2).rect_emb_val_of_index_zero t a ?_ y
  rw [at1_2 t]
  match a with
  | ⟨0, _⟩ => rfl
  | ⟨1, _⟩ => rfl

theorem at2_0 : ∀ t : Fin grid2.N, (win2 0).index t = ![t.val, 0] := by decide +kernel
/-- Window 0 of call 2 reads its own rows. -/
theorem in2_0_row (t : Fin (cfg2 (F := F)).N) (r : Fin 2048) (d : Fin 256) (R : Fin 131072) (hR : R.val = t.val * 2048 + r.val) :
    in2_0 V c t (ix2 r d) = V c main_v14_0 (ix2 R d) := by
  show V c main_v14_0 (((win2 0).rect t).emb (ix2 r d)) = _
  congr 1
  funext a
  apply Fin.ext
  refine ((win2 0).rect_emb_val t (ix2 r d) a).trans ?_
  rw [at2_0 t]
  match a with
  | ⟨0, _⟩ => exact hR.symm
  | ⟨1, _⟩ => show 0 * 256 + d.val = d.val; omega

theorem at2_1 : ∀ t : Fin grid2.N, (win2 1).index t = ![t.val, 0, 0] := by decide +kernel
/-- Window 1 of call 2 reads its own rows. -/
theorem in2_1_row (t : Fin (cfg2 (F := F)).N) (r : Fin 2048) (T : Fin 64) (hT : T.val = t.val) :
    in2_1 V c t (ix3 (0 : Fin 1) r (0 : Fin 1)) = V c main_v4 (ix3 T r (0 : Fin 1)) := by
  show V c main_v4 (((win2 1).rect t).emb (ix3 (0 : Fin 1) r (0 : Fin 1))) = _
  congr 1
  funext a
  apply Fin.ext
  refine ((win2 1).rect_emb_val t (ix3 (0 : Fin 1) r (0 : Fin 1)) a).trans ?_
  rw [at2_1 t]
  match a with
  | ⟨0, _⟩ => show t.val * 1 + 0 = T.val; omega
  | ⟨1, _⟩ => show 0 * 2048 + r.val = r.val; omega
  | ⟨2, _⟩ => show 0 * 1 + 0 = 0; omega

theorem at2_2 : ∀ t : Fin grid2.N, (win2 2).index t = ![0, 0] := by decide +kernel
/-- Window 2 of call 2 reads its whole array. -/
theorem in2_2_whole (t : Fin (cfg2 (F := F)).N) : in2_2 V c t = V c main_v15_0 := by
  funext y
  show V c main_v15_0 (((win2 2).rect t).emb y) = _
  congr 1
  funext a
  apply Fin.ext
  refine (win2 2).rect_emb_val_of_index_zero t a ?_ y
  rw [at2_2 t]
  match a with
  | ⟨0, _⟩ => rfl
  | ⟨1, _⟩ => rfl

theorem at2_3 : ∀ t : Fin grid2.N, (win2 3).index t = ![0, 0] := by decide +kernel
/-- Window 3 of call 2 reads its whole array. -/
theorem in2_3_whole (t : Fin (cfg2 (F := F)).N) : in2_3 V c t = V c main_v15_1 := by
  funext y
  show V c main_v15_1 (((win2 3).rect t).emb y) = _
  congr 1
  funext a
  apply Fin.ext
  refine (win2 3).rect_emb_val_of_index_zero t a ?_ y
  rw [at2_3 t]
  match a with
  | ⟨0, _⟩ => rfl
  | ⟨1, _⟩ => rfl

theorem at2_4 : ∀ t : Fin grid2.N, (win2 4).index t = ![0, 0] := by decide +kernel
/-- Window 4 of call 2 reads its whole array. -/
theorem in2_4_whole (t : Fin (cfg2 (F := F)).N) : in2_4 V c t = V c main_arg12 := by
  funext y
  show V c main_arg12 (((win2 4).rect t).emb y) = _
  congr 1
  funext a
  apply Fin.ext
  refine (win2 4).rect_emb_val_of_index_zero t a ?_ y
  rw [at2_4 t]
  match a with
  | ⟨0, _⟩ => rfl
  | ⟨1, _⟩ => rfl

theorem at2_5 : ∀ t : Fin grid2.N, (win2 5).index t = ![0, 0] := by decide +kernel
/-- Window 5 of call 2 reads its whole array. -/
theorem in2_5_whole (t : Fin (cfg2 (F := F)).N) : in2_5 V c t = V c main_v13 := by
  funext y
  show V c main_v13 (((win2 5).rect t).emb y) = _
  congr 1
  funext a
  apply Fin.ext
  refine (win2 5).rect_emb_val_of_index_zero t a ?_ y
  rw [at2_5 t]
  match a with
  | ⟨0, _⟩ => rfl
  | ⟨1, _⟩ => rfl

theorem at2_6 : ∀ t : Fin grid2.N, (win2 6).index t = ![0, 0] := by decide +kernel
/-- Window 6 of call 2 reads its whole array. -/
theorem in2_6_whole (t : Fin (cfg2 (F := F)).N) : in2_6 V c t = V c main_v12 := by
  funext y
  show V c main_v12 (((win2 6).rect t).emb y) = _
  congr 1
  funext a
  apply Fin.ext
  refine (win2 6).rect_emb_val_of_index_zero t a ?_ y
  rw [at2_6 t]
  match a with
  | ⟨0, _⟩ => rfl
  | ⟨1, _⟩ => rfl

/-- The block's segments, read off the column. -/
theorem segs0_row (t : Fin (cfg0 (F := F)).N) (r : Fin 2048) (T : Fin 64) (hT : T.val = t.val) :
    segs0 V c t (ix2 r (0 : Fin 1)) = V c main_v4 (ix3 T r (0 : Fin 1)) := by
  rw [← in0_2_row V c t r T hT]
  unfold segs0 k0_pay1
  refine shapeCast_apply (s := S1x2048x1) (t := S2048x1) (in0_2 V c t) shapeCasts_S1x2048x1_S2048x1 (ix2 r (0 : Fin 1)) (ix3 (0 : Fin 1) r (0 : Fin 1)) ?_
  rw [Shape.rowMajor_val_three, Shape.rowMajor_val_two]
  show (0 * 2048 + r.val) * 1 + 0 = r.val * 1 + 0
  omega

/-- The block's segments, read off the column. -/
theorem segs2_row (t : Fin (cfg2 (F := F)).N) (r : Fin 2048) (T : Fin 64) (hT : T.val = t.val) :
    segs2 V c t (ix2 r (0 : Fin 1)) = V c main_v4 (ix3 T r (0 : Fin 1)) := by
  rw [← in2_1_row V c t r T hT]
  unfold segs2 k2_pay5
  refine shapeCast_apply (s := S1x2048x1) (t := S2048x1) (in2_1 V c t) shapeCasts_S1x2048x1_S2048x1 (ix2 r (0 : Fin 1)) (ix3 (0 : Fin 1) r (0 : Fin 1)) ?_
  rw [Shape.rowMajor_val_three, Shape.rowMajor_val_two]
  show (0 * 2048 + r.val) * 1 + 0 = r.val * 1 + 0
  omega

end Cert.KernelIdeal.Loop
-- ==== Proof.PI.Run.lean ====
/- The program run: each region's record, the buffers after each item, and every buffer at the end. -/
module

public import proofs.«01_k».proof.Proof.PI.Dat0
public import proofs.«01_k».proof.Proof.PI.Dat1
public import proofs.«01_k».proof.Proof.PI.Dat2
public import proofs.«01_k».proof.Proof.Gen.KernelIdeal.Regions
public import Idealize.ShloMosaic.Lib.Pipeline.Regions
public import Idealize.ShloMosaic.Lib.Pipeline.RegionArraysS

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg afterRegion)

variable {F : FTy → Type} [FloatOps F]

local notation "𝕄" => MT nD τ sig Unit (Elt F) ℕ (UU nD τ) ℕ

/-- A buffer that is no output window's array is left by a region as it was. -/
theorem kept {cfg : Pipeline.Cfg sig (Λ₀ F)} {c : Dev nD} (dat : Dat τ (Elt F) Unit ℕ (UU nD τ) ℕ cfg c) (V : Valuation τ sig (Elt F))
    (hinj : Function.Injective (Pipeline.arrRef cfg.spec)) (hA : ∀ w, dat.A w = V (Proc.devRef .tc (Pipeline.arrRef cfg.spec w)))
    (l : List (Ref sig .tc)) (hl : ∀ w, (cfg.win w).isOut = true → Pipeline.arrRef cfg.spec w ∈ l)
    (b : DevRef τ sig) (hb : ∀ r ∈ l, b ≠ Proc.devRef .tc r) : afterRegion dat V b = V b := by
  by_cases hw : ∃ w, b = Proc.devRef .tc (Pipeline.arrRef cfg.spec w)
  · obtain ⟨w, rfl⟩ := hw
    refine (Pipeline.afterRegion_arr dat V hinj w).trans ((dat.arrAt_in w ?_ _).trans (hA w))
    by_contra h
    exact hb _ (hl w (by simpa using h)) rfl
  · unfold afterRegion; rw [dif_neg hw]

variable (m : (ℓ : Loc nD τ sig) → Buf (Elt F) ℓ)

/-- What the first region leaves. -/
def out12 (r : Ref sig .tc) (c : Dev nD) : Buf (Elt F) ((c : Thread nD τ).loc r) := afterRegion (dat0 (V11 m) c) (V11 m c) (Proc.devRef .tc r)
/-- The regions' leavings, the first known. -/
def outsA : Outs (F := F) := fun _ => out12 m
/-- What the second region leaves. -/
def out13 (r : Ref sig .tc) (c : Dev nD) : Buf (Elt F) ((c : Thread nD τ).loc r) := afterRegion (dat1 (V12 m (outsA m)) c) (V12 m (outsA m) c) (Proc.devRef .tc r)
/-- The regions' leavings, the first two known. -/
def outsB : Outs (F := F) := fun J => if J = 12 then out12 m else out13 m
/-- What the third region leaves. -/
def out14 (r : Ref sig .tc) (c : Dev nD) : Buf (Elt F) ((c : Thread nD τ).loc r) := afterRegion (dat2 (V13 m (outsB m)) c) (V13 m (outsB m) c) (Proc.devRef .tc r)
/-- The regions' leavings. -/
def outs : Outs (F := F) := fun J => if J = 12 then out12 m else if J = 13 then out13 m else out14 m

theorem outs_12 : outs m 12 = out12 m := if_pos rfl
theorem outs_13 : outs m 13 = out13 m := (if_neg (by decide)).trans (if_pos rfl)
theorem outs_14 : outs m 14 = out14 m := (if_neg (by decide)).trans (if_neg (by decide))
theorem V12_A : V12 m (outsA m) = V12 m (outs m) := by
  funext c; unfold V12; rw [outs_12]; rfl
theorem V13_B : V13 m (outsB m) = V13 m (outs m) := by
  funext c; unfold V13 V12; rw [outs_12, outs_13]
  rw [show outsB m 12 = out12 m from if_pos rfl, show outsB m 13 = out13 m from if_neg (by decide)]

theorem out13_eq (r : Ref sig .tc) (c : Dev nD) : outs m 13 r c = afterRegion (dat1 (V12 m (outs m)) c) (V12 m (outs m) c) (Proc.devRef .tc r) := by
  rw [outs_13]; unfold out13; rw [V12_A]
theorem out14_eq (r : Ref sig .tc) (c : Dev nD) : outs m 14 r c = afterRegion (dat2 (V13 m (outs m)) c) (V13 m (outs m) c) (Proc.devRef .tc r) := by
  rw [outs_14]; unfold out14; rw [V13_B]

/-- The proof data of the three regions. -/
def pdats : (p : Fin 3) → (c : Dev nD) → Dat τ (Elt F) Unit ℕ (UU nD τ) ℕ ((cfgs (F := F)) p) c
  | ⟨0, _⟩, c => dat0 (V11 m) c
  | ⟨1, _⟩, c => dat1 (V12 m (outs m)) c
  | ⟨2, _⟩, c => dat2 (V13 m (outs m)) c

theorem outs0 : ∀ w : Fin 11, (win0 w).isOut = true → Pipeline.arrRef spec0 w ∈ ([main_v14_0, main_v14_1, main_v14_2] : List (Ref sig .tc)) := by decide

theorem left0 (c : Dev nD) : afterRegion (dat0 (V11 m) c) (V11 m c) = V12 m (outs m) c := by
  funext b
  unfold V12
  by_cases h2 : b = Proc.devRef .tc main_v14_2
  · subst h2; rw [Function.update_self, outs_12]; rfl
  rw [Function.update_of_ne h2]
  by_cases h1 : b = Proc.devRef .tc main_v14_1
  · subst h1; rw [Function.update_self, outs_12]; rfl
  rw [Function.update_of_ne h1]
  by_cases h0 : b = Proc.devRef .tc main_v14_0
  · subst h0; rw [Function.update_self, outs_12]; rfl
  rw [Function.update_of_ne h0]
  refine kept (dat0 (V11 m) c) (V11 m c) winFacts0.arr_inj (fun _ => rfl) [main_v14_0, main_v14_1, main_v14_2] outs0 b ?_
  simp only [List.forall_mem_cons]
  exact ⟨h0, h1, h2, by simp⟩

theorem outs1 : ∀ w : Fin 5, (win1 w).isOut = true → Pipeline.arrRef spec1 w ∈ ([main_v15_0, main_v15_1] : List (Ref sig .tc)) := by decide

theorem left1 (c : Dev nD) : afterRegion (dat1 (V12 m (outs m)) c) (V12 m (outs m) c) = V13 m (outs m) c := by
  funext b
  unfold V13
  by_cases h1 : b = Proc.devRef .tc main_v15_1
  · subst h1; rw [Function.update_self, out13_eq]
  rw [Function.update_of_ne h1]
  by_cases h0 : b = Proc.devRef .tc main_v15_0
  · subst h0; rw [Function.update_self, out13_eq]
  rw [Function.update_of_ne h0]
  refine kept (dat1 (V12 m (outs m)) c) (V12 m (outs m) c) winFacts1.arr_inj (fun _ => rfl) [main_v15_0, main_v15_1] outs1 b ?_
  simp only [List.forall_mem_cons]
  exact ⟨h0, h1, by simp⟩

theorem outs2 : ∀ w : Fin 8, (win2 w).isOut = true → Pipeline.arrRef spec2 w ∈ ([main_v16] : List (Ref sig .tc)) := by decide

theorem left2 (c : Dev nD) : afterRegion (dat2 (V13 m (outs m)) c) (V13 m (outs m) c) = V14 m (outs m) c := by
  funext b
  unfold V14
  by_cases h0 : b = Proc.devRef .tc main_v16
  · subst h0; rw [Function.update_self, out14_eq]
  rw [Function.update_of_ne h0]
  refine kept (dat2 (V13 m (outs m)) c) (V13 m (outs m) c) winFacts2.arr_inj (fun _ => rfl) [main_v16] outs2 b ?_
  simp only [List.forall_mem_cons]
  exact ⟨h0, by simp⟩

/-- The counters the TensorCores' signals may name. -/
def LL : GSem nD τ sig → Finset Unit := fun g => if g.1.2 = .tc then {()} else ∅
/-- Their level. -/
def lv : GSem nD τ sig → Unit → ℕ := fun _ _ => 0

theorem LL_off (g : GSem nD τ sig) (h : g.1.2 ≠ .tc) : LL g = ∅ := if_neg h

theorem cut (p : Fin 3) : Pipeline.LevelCut (pcfgs (F := F)) adm () LL lv p (fun _ => 0) (fun _ => 0) where
  hι c w s := by rw [LL, if_pos rfl]; exact Finset.mem_singleton_self _
  hιb _ _ _ := le_refl _
  hD _ _ _ h := absurd h (lt_irrefl _)

/-- What a core carries between the items. -/
def owing (c : Dev nD) : sProp 𝕄 := iprop(∃ W, owes (c : Thread nD τ) (0 : CellTallies nD τ sig Unit) W)

theorem enter (X : Dev nD → sProp 𝕄) (c : Dev nD) : iprop(X c ∗ emp) ⊢ X c := by
  iintro ⟨H, -⟩; iexact H
theorem leave (X : Dev nD → sProp 𝕄) (c : Dev nD) : X c ⊢ iprop(X c ∗ emp) := by
  iintro H; isplitl [H]
  · iexact H
  · iempintro

/-- The scoped buffers region 0's windows do not stage. -/
abbrev rest0 (c : Dev nD) : sProp 𝕄 := Pipeline.scopedRest (Ix := Unit) (Name := ℕ) (U := UU nD τ) (Lvl := ℕ) (Val := Elt F) spec0 c
theorem enter0 (c : Dev nD) : iprop(rest0 (F := F) c ∗ emp) ⊢ rest0 (F := F) c := enter _ c
theorem leave0 (c : Dev nD) : rest0 (F := F) c ⊢ iprop(rest0 (F := F) c ∗ emp) := leave _ c

/-- The scoped buffers region 1's windows do not stage. -/
abbrev rest1 (c : Dev nD) : sProp 𝕄 := Pipeline.scopedRest (Ix := Unit) (Name := ℕ) (U := UU nD τ) (Lvl := ℕ) (Val := Elt F) spec1 c
theorem enter1 (c : Dev nD) : iprop(rest1 (F := F) c ∗ emp) ⊢ rest1 (F := F) c := enter _ c
theorem leave1 (c : Dev nD) : rest1 (F := F) c ⊢ iprop(rest1 (F := F) c ∗ emp) := leave _ c

/-- The scoped buffers region 2's windows do not stage. -/
abbrev rest2 (c : Dev nD) : sProp 𝕄 := Pipeline.scopedRest (Ix := Unit) (Name := ℕ) (U := UU nD τ) (Lvl := ℕ) (Val := Elt F) spec2 c
theorem enter2 (c : Dev nD) : iprop(rest2 (F := F) c ∗ emp) ⊢ rest2 (F := F) c := enter _ c
theorem leave2 (c : Dev nD) : rest2 (F := F) c ⊢ iprop(rest2 (F := F) c ∗ emp) := leave _ c

/-- The first region's record. -/
def reg0 (h : ∀ c t, SegsOk (segs0 (V11 m) c t)) : RegionSeg (pcfgs (F := F)) adm (pdats m) () defs₀ 𝒱₀ LL lv 0 :=
  RegionSeg.ofHeldIn (pcfgs (F := F)) adm (pdats m) () defs₀ 𝒱₀ LL lv 0 (fun _ => 0) (Pipeline.ucRefs τ sig) (fun _ => iprop(emp)) (fun _ => iprop(emp))
    launch0.toP rfl (fun c => (body0 (V11 m) c (h c)).loose) (fun _ _ => rfl) (fun _ => rfl) (fun c => (dat0 (V11 m) c).share_full fun _ => rfl)
    (fun c => enter0 c) (fun c => leave0 c) (fun _ => 0) (cut 0) (fun _ => iprop(emp)) (V11 m) (fun _ _ => rfl)

/-- The second region's record. -/
def reg1 : RegionSeg (pcfgs (F := F)) adm (pdats m) () defs₀ 𝒱₀ LL lv 1 :=
  RegionSeg.ofHeldIn (pcfgs (F := F)) adm (pdats m) () defs₀ 𝒱₀ LL lv 1 (fun _ => 0) (Pipeline.ucRefs τ sig) (fun _ => iprop(emp)) (fun _ => iprop(emp))
    launch1.toP rfl (fun c => (body1 (V12 m (outs m)) c).loose) (fun _ _ => rfl) (fun _ => rfl) (fun c => (dat1 (V12 m (outs m)) c).share_full fun _ => rfl)
    (fun c => enter1 c) (fun c => leave1 c) (fun _ => 0) (cut 1) (fun _ => iprop(emp)) (V12 m (outs m)) (fun _ _ => rfl)

/-- The third region's record. -/
def reg2 (h : ∀ c t, SegsOk (segs2 (V13 m (outs m)) c t)) : RegionSeg (pcfgs (F := F)) adm (pdats m) () defs₀ 𝒱₀ LL lv 2 :=
  RegionSeg.ofHeldIn (pcfgs (F := F)) adm (pdats m) () defs₀ 𝒱₀ LL lv 2 (fun _ => 0) (Pipeline.ucRefs τ sig) (fun _ => iprop(emp)) (fun _ => iprop(emp))
    launch2.toP rfl (fun c => (body2 (V13 m (outs m)) c (h c)).loose) (fun _ _ => rfl) (fun _ => rfl) (fun c => (dat2 (V13 m (outs m)) c).share_full fun _ => rfl)
    (fun c => enter2 c) (fun c => leave2 c) (fun _ => 0) (cut 2) (fun _ => iprop(emp)) (V13 m (outs m)) (fun _ _ => rfl)

end Cert.KernelIdeal.Loop
-- ==== Proof.PI.Host.lean ====
/- What the host operations before the calls leave in the joined arrays. -/
module

public import proofs.«01_k».proof.Proof.PI.Blocks
public import proofs.«01_k».proof.Proof.PI.Run
public import proofs.«01_k».proof.Proof.Gen.KernelIdeal.Regions
public import Idealize.ShloMosaic.Lib.Pipeline.Value
public import Idealize.ShloMosaic.Lib.Pipeline.Regions
public import Idealize.ShloMosaic.Lib.Pipeline.RegionArraysS

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation RegionSeg afterRegion)

variable {F : FTy → Type} [FloatOps F]

local notation "𝕄" => MT nD τ sig Unit (Elt F) ℕ (UU nD τ) ℕ

/-- Two halves end to end, read at a row. -/
def joined {α : Type} (a b : S65536.Idx → α) (n : Fin 131072) : α :=
  if h : n.val < 65536 then a (ix1 (⟨n.val, h⟩ : Fin 65536)) else b (ix1 (⟨n.val - 65536, by omega⟩ : Fin 65536))

theorem joined_apply {α : Type} (a b : S65536.Idx → α) (n : Fin 131072) :
    concatenate S131072 0 [⟨S65536, a⟩, ⟨S65536, b⟩] concatenates_S65536_S65536_S131072_d0 (ix1 n) = joined a b n := by
  unfold joined
  split
  · next h =>
    refine concatenate_pair_apply_left (s₁ := S65536) (s₂ := S65536) (t := S131072) 0 a b _ (ix1 n) rfl (ix1 (⟨n.val, h⟩ : Fin 65536)) ?_
    intro b; match b with | ⟨0, _⟩ => rfl
  · next h =>
    refine concatenate_pair_apply_right (s₁ := S65536) (s₂ := S65536) (t := S131072) 0 a b _ (ix1 n) rfl rfl (ix1 (⟨n.val - 65536, by omega⟩ : Fin 65536)) ?_ ?_
    · intro b hb; match b with | ⟨0, _⟩ => exact absurd rfl hb
    · show n.val - 65536 + 65536 = n.val; omega

/-- The joined column cut in blocks, read at a row of a block. -/
theorem blocked_apply {α : Type} (a b : S65536.Idx → α) (T : Fin 64) (r : Fin 2048) (n : Fin 131072) (hn : n.val = T.val * 2048 + r.val) :
    shapeCast S64x2048x1 (concatenate S131072 0 [⟨S65536, a⟩, ⟨S65536, b⟩] concatenates_S65536_S65536_S131072_d0) shapeCasts_S131072_S64x2048x1 (ix3 T r (0 : Fin 1))
      = joined a b n := by
  rw [← joined_apply]
  refine shapeCast_apply _ _ _ _ ?_
  rw [Shape.rowMajor_val_three, Shape.rowMajor_val_one]
  show n.val = (T.val * 2048 + r.val) * 1 + 0
  omega

/-- Two halves of rows end to end, read at a row. -/
def joinedRows {α : Type} (a b : S65536x128.Idx → α) (n : Fin 131072) (d : Fin 128) : α :=
  if h : n.val < 65536 then a (ix2 (⟨n.val, h⟩ : Fin 65536) d) else b (ix2 (⟨n.val - 65536, by omega⟩ : Fin 65536) d)

theorem joinedRows_apply {α : Type} (a b : S65536x128.Idx → α) (n : Fin 131072) (d : Fin 128) :
    concatenate S131072x128 0 [⟨S65536x128, a⟩, ⟨S65536x128, b⟩] concatenates_S65536x128_S65536x128_S131072x128_d0 (ix2 n d) = joinedRows a b n d := by
  unfold joinedRows
  split
  · next h =>
    refine concatenate_pair_apply_left (s₁ := S65536x128) (s₂ := S65536x128) (t := S131072x128) 0 a b _ (ix2 n d) rfl (ix2 (⟨n.val, h⟩ : Fin 65536) d) ?_
    intro b; match b with | ⟨0, _⟩ => rfl | ⟨1, _⟩ => rfl
  · next h =>
    refine concatenate_pair_apply_right (s₁ := S65536x128) (s₂ := S65536x128) (t := S131072x128) 0 a b _ (ix2 n d) rfl rfl (ix2 (⟨n.val - 65536, by omega⟩ : Fin 65536) d) ?_ ?_
    · intro b hb; match b with | ⟨0, _⟩ => exact absurd rfl hb | ⟨1, _⟩ => rfl
    · show n.val - 65536 + 65536 = n.val; omega

variable (m : (ℓ : Loc nD τ sig) → Buf (Elt F) ℓ) (c : Dev nD)

/-- A row's segment. -/
theorem v4_row (T : Fin 64) (r : Fin 2048) (n : Fin 131072) (hn : n.val = T.val * 2048 + r.val) :
    V11 m c main_v4 (ix3 T r (0 : Fin 1)) = joined (V0 m c main_arg6) (V0 m c main_arg5) n := by
  rw [show V11 m c main_v4 = V1 m c main_v4 from (V11_of m c main_v4 (by decide)).trans <| (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| (V2_of m c main_v4 (by decide))]
  have e : V1 m c main_v4 = shapeCast S64x2048x1 (concatenate S131072 0 [⟨S65536, V0 m c main_arg6⟩, ⟨S65536, V0 m c main_arg5⟩] concatenates_S65536_S65536_S131072_d0) shapeCasts_S131072_S64x2048x1 := by
    unfold V1 hostOps0
    after_results
    rfl
  rw [e]
  exact blocked_apply _ _ T r n hn

/-- A row's position. -/
theorem v2_row (T : Fin 64) (r : Fin 2048) (n : Fin 131072) (hn : n.val = T.val * 2048 + r.val) :
    V11 m c main_v2 (ix3 T r (0 : Fin 1)) = joined (V0 m c main_arg3) (V0 m c main_arg2) n := by
  rw [show V11 m c main_v2 = V1 m c main_v2 from (V11_of m c main_v2 (by decide)).trans <| (V10_of m c main_v2 (by decide)).trans <| (V9_of m c main_v2 (by decide)).trans <| (V8_of m c main_v2 (by decide)).trans <| (V7_of m c main_v2 (by decide)).trans <| (V6_of m c main_v2 (by decide)).trans <| (V5_of m c main_v2 (by decide)).trans <| (V4_of m c main_v2 (by decide)).trans <| (V3_of m c main_v2 (by decide)).trans <| (V2_of m c main_v2 (by decide))]
  have e : V1 m c main_v2 = shapeCast S64x2048x1 (concatenate S131072 0 [⟨S65536, V0 m c main_arg3⟩, ⟨S65536, V0 m c main_arg2⟩] concatenates_S65536_S65536_S131072_d0) shapeCasts_S131072_S64x2048x1 := by
    unfold V1 hostOps0
    after_results
    rfl
  rw [e]
  exact blocked_apply _ _ T r n hn

/-- A row's features. -/
theorem v0_row (n : Fin 131072) (d : Fin 128) :
    V11 m c main_v0 (ix2 n d) = joinedRows (V0 m c main_arg1) (V0 m c main_arg0) n d := by
  rw [show V11 m c main_v0 = V1 m c main_v0 from (V11_of m c main_v0 (by decide)).trans <| (V10_of m c main_v0 (by decide)).trans <| (V9_of m c main_v0 (by decide)).trans <| (V8_of m c main_v0 (by decide)).trans <| (V7_of m c main_v0 (by decide)).trans <| (V6_of m c main_v0 (by decide)).trans <| (V5_of m c main_v0 (by decide)).trans <| (V4_of m c main_v0 (by decide)).trans <| (V3_of m c main_v0 (by decide)).trans <| (V2_of m c main_v0 (by decide))]
  have e : V1 m c main_v0 = concatenate S131072x128 0 [⟨S65536x128, V0 m c main_arg1⟩, ⟨S65536x128, V0 m c main_arg0⟩] concatenates_S65536x128_S65536x128_S131072x128_d0 := by
    unfold V1 hostOps0
    after_results
  rw [e]
  exact joinedRows_apply _ _ n d

/-- Small segment numbers stay small joined. -/
theorem joined_lt (a b : S65536.Idx → BitVec 32) (ha : ∀ i, (a i).toNat < 4096) (hb : ∀ i, (b i).toNat < 4096) (n : Fin 131072) : (joined a b n).toNat < 4096 := by
  unfold joined; split
  · exact ha _
  · exact hb _

/-- The rows' numbering. -/
def rowNo (t : ℕ) (ht : t < 64) (r : Fin 2048) : Fin 131072 := ⟨t * 2048 + r.val, by omega⟩

/-- The first call's segments are small. -/
theorem ok0 (h5 : ∀ i, (V0 m c main_arg5 i).toNat < 4096) (h6 : ∀ i, (V0 m c main_arg6 i).toNat < 4096) (t : Fin (cfg0 (F := F)).N) : SegsOk (segs0 (V11 m) c t) := by
  intro r
  have ht : t.val < 64 := lt_of_lt_of_eq t.isLt N_0
  rw [segs0_row (V11 m) c t r ⟨t.val, ht⟩ rfl, v4_row m c ⟨t.val, ht⟩ r (rowNo t.val ht r) rfl]
  exact joined_lt _ _ h6 h5 _

/-- The segments at the third call are those at the first. -/
theorem v4_kept : V13 m (outs m) c main_v4 = V11 m c main_v4 :=
  (V13_of m (outs m) c main_v4 (by decide)).trans (V12_of m (outs m) c main_v4 (by decide))

/-- The third call's segments are small. -/
theorem ok2 (h5 : ∀ i, (V0 m c main_arg5 i).toNat < 4096) (h6 : ∀ i, (V0 m c main_arg6 i).toNat < 4096) (t : Fin (cfg2 (F := F)).N) : SegsOk (segs2 (V13 m (outs m)) c t) := by
  intro r
  have ht : t.val < 64 := lt_of_lt_of_eq t.isLt N_2
  rw [segs2_row (V13 m (outs m)) c t r ⟨t.val, ht⟩ rfl, v4_kept, v4_row m c ⟨t.val, ht⟩ r (rowNo t.val ht r) rfl]
  exact joined_lt _ _ h6 h5 _

end Cert.KernelIdeal.Loop
-- ==== Proof.PI.Final.lean ====
/- The program's run from any memory whose segment numbers are small: every buffer at the end. -/
module

public import proofs.«01_k».proof.Proof.PI.Run
public import proofs.«01_k».proof.Proof.Gen.KernelIdeal.Regions
public import Idealize.ShloMosaic.Lib.Pipeline.Regions
public import Idealize.ShloMosaic.Lib.Pipeline.RegionArraysS

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg afterRegion)

variable {F : FTy → Type} [FloatOps F]

local notation "𝕄" => MT nD τ sig Unit (Elt F) ℕ (UU nD τ) ℕ

variable (m : (ℓ : Loc nD τ sig) → Buf (Elt F) ℓ)

theorem pre0 (h) (c : Dev nD) : iprop(StableHlo.held (c : Thread nD τ) (Pipeline.ucRefs τ sig) (V11 m c) ∗ owing c) ⊢ (reg0 m h).pre c := by
  refine BIBase.Entails.trans ?_ (RegionSeg.ofHeldIn_pre (Pipeline.arrRefs_sub_ucRefs _ launch0.win.arr_unscoped) c)
  unfold owing
  iintro ⟨H, HO⟩
  isplitl [H]; · iexact H
  isplitl [HO]; · iexact HO
  isplitl <;> iempintro
theorem post0 (h) (c : Dev nD) : (reg0 m h).post c ⊢ iprop(StableHlo.held (c : Thread nD τ) (Pipeline.ucRefs τ sig) (V12 m (outs m) c) ∗ owing c) := by
  refine BIBase.Entails.trans (RegionSeg.ofHeldIn_post (Pipeline.arrRefs_sub_ucRefs _ launch0.win.arr_unscoped) c) ?_
  rw [show pdats m 0 c = dat0 (V11 m) c from rfl, left0]
  unfold owing
  iintro ⟨H, HO, -, -⟩
  isplitl [H]; · iexact H
  iexact HO
theorem pre1 (c : Dev nD) : iprop(StableHlo.held (c : Thread nD τ) (Pipeline.ucRefs τ sig) (V12 m (outs m) c) ∗ owing c) ⊢ (reg1 m).pre c := by
  refine BIBase.Entails.trans ?_ (RegionSeg.ofHeldIn_pre (Pipeline.arrRefs_sub_ucRefs _ launch1.win.arr_unscoped) c)
  unfold owing
  iintro ⟨H, HO⟩
  isplitl [H]; · iexact H
  isplitl [HO]; · iexact HO
  isplitl <;> iempintro
theorem post1 (c : Dev nD) : (reg1 m).post c ⊢ iprop(StableHlo.held (c : Thread nD τ) (Pipeline.ucRefs τ sig) (V13 m (outs m) c) ∗ owing c) := by
  refine BIBase.Entails.trans (RegionSeg.ofHeldIn_post (Pipeline.arrRefs_sub_ucRefs _ launch1.win.arr_unscoped) c) ?_
  rw [show pdats m 1 c = dat1 (V12 m (outs m)) c from rfl, left1]
  unfold owing
  iintro ⟨H, HO, -, -⟩
  isplitl [H]; · iexact H
  iexact HO
theorem pre2 (h) (c : Dev nD) : iprop(StableHlo.held (c : Thread nD τ) (Pipeline.ucRefs τ sig) (V13 m (outs m) c) ∗ owing c) ⊢ (reg2 m h).pre c := by
  refine BIBase.Entails.trans ?_ (RegionSeg.ofHeldIn_pre (Pipeline.arrRefs_sub_ucRefs _ launch2.win.arr_unscoped) c)
  unfold owing
  iintro ⟨H, HO⟩
  isplitl [H]; · iexact H
  isplitl [HO]; · iexact HO
  isplitl <;> iempintro
theorem post2 (h) (c : Dev nD) : (reg2 m h).post c ⊢ iprop(StableHlo.held (c : Thread nD τ) (Pipeline.ucRefs τ sig) (V14 m (outs m) c) ∗ owing c) := by
  refine BIBase.Entails.trans (RegionSeg.ofHeldIn_post (Pipeline.arrRefs_sub_ucRefs _ launch2.win.arr_unscoped) c) ?_
  rw [show pdats m 2 c = dat2 (V13 m (outs m)) c from rfl, left2]
  unfold owing
  iintro ⟨H, HO, -, -⟩
  isplitl [H]; · iexact H
  iexact HO

/-- The calls' own rounds in the carrier. -/
abbrev EP : Emb (UU nD τ) 𝕄 := emb₁

-- the launch theorem's implicit arguments are found by unifying its conclusion with this one
set_option backward.isDefEq.respectTransparency.types false in
/-- Every buffer at the end. -/
theorem run_end (ρ : Dev nD → PrngReg) (h0 : ∀ c t, SegsOk (segs0 (V11 m) c t)) (h2 : ∀ c t, SegsOk (segs2 (V13 m (outs m)) c t)) :
    θ_run defs (onTc (τ := τ) (main (F := F))) ⟨m, fun _ => 0, ρ⟩ (fun r =>
      (∀ (c : Dev nD) (b : Ref sig .tc), (Proc.devRef .tc b : DevRef τ sig) ∈ Pipeline.ucRefs τ sig → r.2.mem ((c.tc : Thread nD τ).loc b) = V15 m (outs m) c b)
      ∧ r.2.sem = fun _ => 0) := by
  refine Pipeline.θ_run_regions_kit_dev_sems (pcfgs (F := F)) adm (pdats m) () cellOf_inj EP defs₀ 𝒱₀ LL lv m ρ main
    (segs m (outs m) 𝒱₀ LL lv (fun _ => owing) () (pdats m) (reg0 m h0) (reg1 m) (reg2 m h2))
    (fun c Q => by
      rewrite [main_chain c, Seg.run_eq_chain,
        show (segs m (outs m) 𝒱₀ LL lv (fun _ => owing) () (pdats m) (reg0 m h0) (reg1 m) (reg2 m h2) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()), Prog.lift (.customCall (Pipeline.entry 1) ()),
          Prog.lift (.customCall (Pipeline.entry 2) ()), StableHlo.seq hostOps3 ] from rfl]
      dsimp (config := { failIfUnchanged := false }) only
      exact .rfl)
    (fun c => by simp only [segs, Seg.pipes_host, Seg.pipes_region, Seg.pipes_nil]; decide) (fun _ => 0) LL_off (fun _ => iprop(emp))
    (initOf (Pipeline.cells (cfgs (F := F)) cellOf_inj) (Pipeline.launchToks (cfgs (F := F)) cellOf_inj)) ?_
    (T₀ := fun c => iprop(StableHlo.held (c : Thread nD τ) (Pipeline.ucRefs τ sig) (V0 m c) ∗ owing c))
    (Tₙ := fun c => StableHlo.held (c : Thread nD τ) (Pipeline.ucRefs τ sig) (V15 m (outs m) c))
    (hch := fun c => ⟨.rfl, .rfl, .rfl, .rfl, .rfl, .rfl, .rfl, .rfl, .rfl, .rfl, .rfl, pre0 m h0 c, (post0 m h0 c).trans (pre1 m c), (post1 m c).trans (pre2 m h2 c), post2 m h2 c, .rfl⟩)
    (hinit := ?_) (QY := fun c s => ∀ b : Ref sig .tc, (Proc.devRef .tc b : DevRef τ sig) ∈ Pipeline.ucRefs τ sig → s.mem ((c.tc : Thread nD τ).loc b) = V15 m (outs m) c b)
    (hfin := fun c s' => ?_) (hQ := fun _ h hz => ⟨h, funext fun g => hz g (.inr (regions_no_unscoped g.2))⟩)
  · change (BI.own (EP (F := F) (initOf (Pipeline.cells (Pipeline.pin (pcfgs (F := F)) adm) cellOf_inj) (Pipeline.launchToks (Pipeline.pin (pcfgs (F := F)) adm) cellOf_inj))) : sProp 𝕄) ⊢ _
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach LL lv fun c => ?_
    rw [show unscopedBufs c (fun b => m ((c : Thread nD τ).loc b)) = StableHlo.held (c : Thread nD τ) (Pipeline.ucRefs τ sig) (V0 m c) from Pipeline.unscopedBufs_held c (V0 m c)]
    unfold owing
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro
      exact fun b hb => h _ hb
    iexact HSI

end Cert.KernelIdeal.Loop
-- ==== Proof.PI.Frame.lean ====
/- The whole program run: its arguments and its semaphores at the end. -/
module

public import proofs.«01_k».proof.Proof.PI.Blocks
public import proofs.«01_k».proof.Proof.PI.Run
public import proofs.«01_k».proof.Proof.PI.Host
public import proofs.«01_k».proof.Proof.PI.Final
public import proofs.«01_k».proof.Proof.Gen.KernelIdeal.Regions
public import Idealize.ShloMosaic.Lib.Pipeline.Value
public import Idealize.ShloMosaic.Lib.Pipeline.Regions
public import Idealize.ShloMosaic.Lib.Pipeline.RegionArraysS

@[expose] public section

set_option maxRecDepth 16384

noncomputable section

namespace Cert.KernelIdeal.Loop

open Cert.KernelIdeal Cert.KernelIdeal.Gen Cert.Window Cert.KernelIdeal.Facts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation RegionSeg afterRegion)

variable {F : FTy → Type} [FloatOps F]
variable (m : (ℓ : Loc nD τ sig) → Buf (Elt F) ℓ) (ρ : Dev nD → PrngReg)

/-- The run ends with the result as the last valuation has it, every argument as it was, and no semaphore raised. -/
theorem run_args (h5 : ∀ c i, (V0 m c main_arg5 i).toNat < 4096) (h6 : ∀ c i, (V0 m c main_arg6 i).toNat < 4096) :
    θ_run defs (onTc (τ := τ) (main (F := F))) ⟨m, fun _ => 0, ρ⟩ (fun r =>
      (∀ c : Dev nD, r.2.mem ((c.tc : Thread nD τ).loc main_v17) = V15 m (outs m) c main_v17
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15))
      ∧ r.2.sem = fun _ => 0) := by
  have hrun := run_end m ρ (fun c t => ok0 m c (h5 c) (h6 c) t) (fun c t => ok2 m c (h5 c) (h6 c) t)
  refine (θ_run defs _ _).mono (fun r h => ⟨fun c => ⟨h.1 c main_v17 (Finset.mem_filter.mpr ⟨StableHlo.devRef_mem_tcRefs main_v17, by decide⟩),
    (h.1 c main_arg0 (Finset.mem_filter.mpr ⟨StableHlo.devRef_mem_tcRefs main_arg0, by decide⟩)).trans (V15_main_arg0 m (outs m) c),
    (h.1 c main_arg1 (Finset.mem_filter.mpr ⟨StableHlo.devRef_mem_tcRefs main_arg1, by decide⟩)).trans (V15_main_arg1 m (outs m) c),
    (h.1 c main_arg2 (Finset.mem_filter.mpr ⟨StableHlo.devRef_mem_tcRefs main_arg2, by decide⟩)).trans (V15_main_arg2 m (outs m) c),
    (h.1 c main_arg3 (Finset.mem_filter.mpr ⟨StableHlo.devRef_mem_tcRefs main_arg3, by decide⟩)).trans (V15_main_arg3 m (outs m) c),
    (h.1 c main_arg4 (Finset.mem_filter.mpr ⟨StableHlo.devRef_mem_tcRefs main_arg4, by decide⟩)).trans (V15_main_arg4 m (outs m) c),
    (h.1 c main_arg5 (Finset.mem_filter.mpr ⟨StableHlo.devRef_mem_tcRefs main_arg5, by decide⟩)).trans (V15_main_arg5 m (outs m) c),
    (h.1 c main_arg6 (Finset.mem_filter.mpr ⟨StableHlo.devRef_mem_tcRefs main_arg6, by decide⟩)).trans (V15_main_arg6 m (outs m) c),
    (h.1 c main_arg7 (Finset.mem_filter.mpr ⟨StableHlo.devRef_mem_tcRefs main_arg7, by decide⟩)).trans (V15_main_arg7 m (outs m) c),
    (h.1 c main_arg8 (Finset.mem_filter.mpr ⟨StableHlo.devRef_mem_tcRefs main_arg8, by decide⟩)).trans (V15_main_arg8 m (outs m) c),
    (h.1 c main_arg9 (Finset.mem_filter.mpr ⟨StableHlo.devRef_mem_tcRefs main_arg9, by decide⟩)).trans (V15_main_arg9 m (outs m) c),
    (h.1 c main_arg10 (Finset.mem_filter.mpr ⟨StableHlo.devRef_mem_tcRefs main_arg10, by decide⟩)).trans (V15_main_arg10 m (outs m) c),
    (h.1 c main_arg11 (Finset.mem_filter.mpr ⟨StableHlo.devRef_mem_tcRefs main_arg11, by decide⟩)).trans (V15_main_arg11 m (outs m) c),
    (h.1 c main_arg12 (Finset.mem_filter.mpr ⟨StableHlo.devRef_mem_tcRefs main_arg12, by decide⟩)).trans (V15_main_arg12 m (outs m) c),
    (h.1 c main_arg13 (Finset.mem_filter.mpr ⟨StableHlo.devRef_mem_tcRefs main_arg13, by decide⟩)).trans (V15_main_arg13 m (outs m) c),
    (h.1 c main_arg14 (Finset.mem_filter.mpr ⟨StableHlo.devRef_mem_tcRefs main_arg14, by decide⟩)).trans (V15_main_arg14 m (outs m) c),
    (h.1 c main_arg15 (Finset.mem_filter.mpr ⟨StableHlo.devRef_mem_tcRefs main_arg15, by decide⟩)).trans (V15_main_arg15 m (outs m) c)⟩, h.2⟩) hrun

end Cert.KernelIdeal.Loop

end
-- ==== Proof.Pre.lean ====
/- The precondition on the segment numbers, read element by element. -/
module

public import proofs.«01_k».proof.Proof.Gen.Pre_segments_in_range
public import Idealize.ShloMosaic.Lib.ReduceAll
public import Mathlib.Tactic.FinCases
public import Idealize.ShloMosaic.Lib.ValueIdx

@[expose] public section

set_option maxRecDepth 16384

noncomputable section

namespace Cert.Pre

open Idealize.ShloMosaic

variable {F : FTy → Type} [FloatOps F]

/-- A conjunction of two bits is one only when both are. -/
theorem and_one {a b : BitVec 1} (h : IntOp.andi a b = 1#1) : a = 1#1 ∧ b = 1#1 := by
  revert a b; decide

/-- A truth value as a bit is one only when it is true. -/
theorem bit_one {b : Bool} (h : BitVec.ofBool b = 1#1) : b = true := by
  revert b; decide

/-- The signed comparison `x ≥ y` as a bit. -/
theorem sge_one {x y : BitVec 32} (h : IntOp.cmpi .sge x y = 1#1) : y.toInt ≤ x.toInt := by
  have := bit_one h
  simpa [BitVec.sle] using this

/-- The signed comparison `x < y` as a bit. -/
theorem slt_one {x y : BitVec 32} (h : IntOp.cmpi .slt x y = 1#1) : x.toInt < y.toInt := by
  have := bit_one h
  simpa [BitVec.slt] using this

/-- The equality `x = y` as a bit. -/
theorem eq_one {x y : BitVec 32} (h : IntOp.cmpi .eq x y = 1#1) : x = y := by
  have := bit_one h
  simpa using this

/-- A word at least 0 and below a small bound, signed, is below it unsigned. -/
theorem lt_of_signed {x : BitVec 32} {n : ℕ} (hn : n < 2147483648) (h0 : (0#32).toInt ≤ x.toInt)
    (h1 : x.toInt < (BitVec.ofNat 32 n).toInt) : x.toNat < n := by
  rw [show (0#32).toInt = 0 from rfl, BitVec.toInt_eq_toNat_cond] at h0
  rw [BitVec.toInt_eq_toNat_cond, BitVec.toInt_eq_toNat_of_lt (by rw [BitVec.toNat_ofNat]; omega), BitVec.toNat_ofNat,
    Nat.mod_eq_of_lt (by omega)] at h1
  have hx := x.isLt
  split at h0 <;> split at h1 <;> omega

instance : Subsingleton (Cert.Pre_segments_in_range.S_).Idx := ⟨fun a b => funext fun i => i.elim0⟩

/-- Both segment arrays keep to `[0, 4096)`. -/
theorem segments (a0 a1 a2 a3 a4 a5 a6 a7 a8 a9 a10 a11 a12 a13 a14 a15)
    (h : Cert.Pre_segments_in_range.fn (F := F) a0 a1 a2 a3 a4 a5 a6 a7 a8 a9 a10 a11 a12 a13 a14 a15 = fun _ => 1#1)
    (i : Cert.Pre_segments_in_range.S65536.Idx) : (a5 i).toNat < 4096 ∧ (a6 i).toNat < 4096 := by
  have e := Host.reduce_andi_all _ _ _ _ _ (congrFun h (fun i => i.elim0)) i
  obtain ⟨e, e4⟩ := and_one e
  obtain ⟨e, e3⟩ := and_one e
  obtain ⟨e1, e2⟩ := and_one e
  exact ⟨lt_of_signed (n := 4096) (by decide) (sge_one e1) (slt_one e2), lt_of_signed (n := 4096) (by decide) (sge_one e3) (slt_one e4)⟩

end Cert.Pre

end
-- ==== Proof.Drawn.lean ====
/- What the precondition of the value claim says of the integer arguments. -/
module

public import proofs.«01_k».proof.Proof.Pre
public import proofs.«01_k».proof.Pre_inputs_as_drawn
public import Idealize.ShloMosaic.Lib.ReduceAll
public import Mathlib.Tactic.FinCases
public import Idealize.ShloMosaic.Lib.ValueIdx

@[expose] public section

set_option maxRecDepth 16384

noncomputable section

namespace Cert.Pre

open Idealize.ShloMosaic

/-- The precondition's shape relations. -/
instance drawnFacts : Cert.Pre_inputs_as_drawn.Facts where
  bcast_S_S65536 := by decide
  slices_S65536_S65535_1 := by decide
  slices_S65536_S65535_0 := by decide
  reducesTo_S65536_S_d0 := by decide
  h_S_ := by decide
  reducesTo_S65535_S_d0 := by decide

variable {F : FTy → Type} [FloatOps F]

/-- What the arguments drawn by the problem satisfy. -/
structure Drawn (a2 a3 a4 a5 a6 : Cert.Pre_inputs_as_drawn.S65536.Idx → BitVec 32) : Prop where
  q : ∀ i, (a2 i).toNat < 200
  p : ∀ i, (a3 i).toNat < 200
  one : ∀ i, a4 i = 1#32
  s5 : ∀ i, (a5 i).toNat < 4096
  s6 : ∀ i, (a6 i).toNat < 4096
  up5 : ∀ (k : ℕ) (hk : k + 1 < 65536), (a5 (ValueIdx.ix1 (⟨k, by omega⟩ : Fin 65536))).toNat ≤ (a5 (ValueIdx.ix1 (⟨k + 1, hk⟩ : Fin 65536))).toNat
  up6 : ∀ (k : ℕ) (hk : k + 1 < 65536), (a6 (ValueIdx.ix1 (⟨k, by omega⟩ : Fin 65536))).toNat ≤ (a6 (ValueIdx.ix1 (⟨k + 1, hk⟩ : Fin 65536))).toNat

/-- Signed order of small words is the order of their values. -/
theorem le_of_signed {x y : BitVec 32} (hx : x.toNat < 4096) (hy : y.toNat < 4096) (h : x.toInt ≤ y.toInt) : x.toNat ≤ y.toNat := by
  rw [BitVec.toInt_eq_toNat_of_lt (by omega), BitVec.toInt_eq_toNat_of_lt (by omega)] at h
  omega

theorem drawn (a0 a1 a2 a3 a4 a5 a6 a7 a8 a9 a10 a11 a12 a13 a14 a15)
    (h : Cert.Pre_inputs_as_drawn.fn (F := F) a0 a1 a2 a3 a4 a5 a6 a7 a8 a9 a10 a11 a12 a13 a14 a15 = fun _ => 1#1) :
    Drawn a2 a3 a4 a5 a6 := by
  have h' := congrFun h (fun i => i.elim0)
  obtain ⟨hA, hB⟩ := and_one h'
  have hall : ∀ i, ((a5 i).toNat < 4096 ∧ (a6 i).toNat < 4096) ∧ ((a2 i).toNat < 200 ∧ (a3 i).toNat < 200) ∧ a4 i = 1#32 := by
    intro i
    have e := Host.reduce_andi_all _ _ _ _ _ hA i
    obtain ⟨e, e9⟩ := and_one e
    obtain ⟨e, e8⟩ := and_one e
    obtain ⟨e, e7⟩ := and_one e
    obtain ⟨e, e6⟩ := and_one e
    obtain ⟨e, e5⟩ := and_one e
    obtain ⟨e, e4⟩ := and_one e
    obtain ⟨e, e3⟩ := and_one e
    obtain ⟨e1, e2⟩ := and_one e
    exact ⟨⟨lt_of_signed (n := 4096) (by decide) (sge_one e1) (slt_one e2), lt_of_signed (n := 4096) (by decide) (sge_one e3) (slt_one e4)⟩,
      ⟨lt_of_signed (n := 200) (by decide) (sge_one e5) (slt_one e6), lt_of_signed (n := 200) (by decide) (sge_one e7) (slt_one e8)⟩, eq_one e9⟩
  have hup : ∀ (k : ℕ) (hk : k + 1 < 65536),
      (a5 (ValueIdx.ix1 (⟨k, by omega⟩ : Fin 65536))).toInt ≤ (a5 (ValueIdx.ix1 (⟨k + 1, hk⟩ : Fin 65536))).toInt
      ∧ (a6 (ValueIdx.ix1 (⟨k, by omega⟩ : Fin 65536))).toInt ≤ (a6 (ValueIdx.ix1 (⟨k + 1, hk⟩ : Fin 65536))).toInt := by
    intro k hk
    have e := Host.reduce_andi_all _ _ _ _ _ hB (ValueIdx.ix1 (⟨k, by omega⟩ : Fin 65535))
    obtain ⟨e1, e2⟩ := and_one e
    have g1 := sge_one e1
    have g2 := sge_one e2
    have i0 : ∀ (a : Cert.Pre_inputs_as_drawn.S65536.Idx → BitVec 32) hs, extractStridedSlice Cert.Pre_inputs_as_drawn.S65535 ![0] a hs (ValueIdx.ix1 (⟨k, by omega⟩ : Fin 65535)) = a (ValueIdx.ix1 (⟨k, by omega⟩ : Fin 65536)) := by
      intro a hs
      refine congrArg a (funext fun d => ?_)
      fin_cases d; exact Fin.ext (Nat.zero_add k)
    have i1 : ∀ (a : Cert.Pre_inputs_as_drawn.S65536.Idx → BitVec 32) hs, extractStridedSlice Cert.Pre_inputs_as_drawn.S65535 ![1] a hs (ValueIdx.ix1 (⟨k, by omega⟩ : Fin 65535)) = a (ValueIdx.ix1 (⟨k + 1, hk⟩ : Fin 65536)) := by
      intro a hs
      refine congrArg a (funext fun d => ?_)
      fin_cases d; exact Fin.ext (Nat.add_comm 1 k)
    beta_reduce at g1 g2
    rw [i0, i1] at g1 g2
    exact ⟨g1, g2⟩
  exact ⟨fun i => (hall i).2.1.1, fun i => (hall i).2.1.2, fun i => (hall i).2.2, fun i => (hall i).1.1, fun i => (hall i).1.2,
    fun k hk => le_of_signed (hall _).1.1 (hall _).1.1 (hup k hk).1, fun k hk => le_of_signed (hall _).1.2 (hall _).1.2 (hup k hk).2⟩

end Cert.Pre

end
-- ==== Proof.Val.Step.lean ====
/- One step of the loops at the extended reals. The mask a step multiplies by is one where a taken row's segment is the
   window's row, and zero elsewhere, so what a step adds to an element of the array is the sum, over the rows taken whose
   segment is the element's, of what those rows give. -/
module

public import proofs.«01_k».proof.Proof.PI.Loop1
public import proofs.«01_k».proof.Proof.PI.Loop2
public import Idealize.ShloMosaic.Lib.MatmulPlain
public import Idealize.ShloMosaic.Lib.Pointwise.Contract
public import Idealize.ShloMosaic.Lib.IdealHost
public import Idealize.ShloMosaic.Lib.KernelVsHost

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.ValueIdx

/-- A bit counted as a number. -/
theorem bit_value (b : BitVec 1) : (((b.setWidth 32).toInt : ℝ) : EReal) = if b = 1#1 then 1 else 0 := by
  rcases BitVec.eq_zero_or_eq_one b with rfl | rfl <;> simp

/-- A column broadcast over the lanes. -/
theorem bcol {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

/-- A block's segments of row `i`. -/
abbrev segAt (s : IVec S2048x1 32) (i : Fin 2048) : ℕ := (s (ix2 i (0 : Fin 1))).toNat

/-- The mask's element. -/
theorem pay13_apply (s : IVec S2048x1 32) (hs : SegsOk s) (k : BitVec 32) (hk : k.toNat < 2048) (i : Fin 2048) (c : Fin 256) :
    k0_pay13 (F := Ideal) rows s lanes k (ix2 i c) = if i ∈ taken s k ∧ segAt s i = base s k + c.val then 1 else 0 := by
  have e : k0_pay13 (F := Ideal) rows s lanes k (ix2 i c)
      = if k0_pay12 rows s k (Shape.reshapeEquiv shapeCasts_S2048x1_S2048x1 (ix2 i (0 : Fin 1))) = 1#1 then
          ((((IntOp.cmpi .eq (k0_pay11 rows s k (ix2 i (0 : Fin 1))) (lanes (ix2 i c))).setWidth 32).toInt : ℝ) : EReal)
        else Ideal.ofBits .f32 0x00000000#32 := by
    have h1 := bcol (shapeCast S2048x1 (k0_pay12 rows s k) shapeCasts_S2048x1_S2048x1) broadcasts_S2048x1_S2048x256 i c
    have h2 := bcol (k0_pay11 rows s k) broadcasts_S2048x1_S2048x256 i c
    have e1 : k0_pay13 (F := Ideal) rows s lanes k (ix2 i c)
        = Scalar.select (broadcastTo S2048x256 (shapeCast S2048x1 (k0_pay12 rows s k) shapeCasts_S2048x1_S2048x1) broadcasts_S2048x1_S2048x256 (ix2 i c))
          ((((IntOp.cmpi .eq (broadcastTo S2048x256 (k0_pay11 rows s k) broadcasts_S2048x1_S2048x256 (ix2 i c)) (lanes (ix2 i c))).setWidth 32).toInt : ℝ) : EReal)
          (Ideal.ofBits .f32 0x00000000#32) := rfl
    rw [e1, h1, h2]
    rfl
  rw [e, Shape.reshapeEquiv_self, bit_value, Ideal.ofBits_zero_f32]
  by_cases ht : i ∈ taken s k
  · have hm := (Finset.mem_filter.1 ht).2
    have hp := place_toNat s hs k hk i hm.1
    have hb := base_le_seg s hs k hk i hm.1
    rw [if_pos ((taken_iff s hs k hk i).2 ht)]
    have hl : (lanes (ix2 i c)).toNat = c.val := by
      show (BitVec.ofNat 32 _).toNat = _
      rw [BitVec.toNat_ofNat]
      have := c.isLt
      show (0 * 256 + c.val) % _ = _
      omega
    have hc : IntOp.cmpi .eq (k0_pay11 rows s k (ix2 i (0 : Fin 1))) (lanes (ix2 i c)) = 1#1 ↔ segAt s i = base s k + c.val := by
      rw [IntOp.cmpi_eq, ← BitVec.toNat_inj, hp, hl]
      simp only [segAt]
      omega
    simp only [hc, ht, true_and]
  · rw [if_neg (fun h => ht ((taken_iff s hs k hk i).1 h)), if_neg (fun h => ht h.1)]

/-- The transposed product over a block's rows. -/
theorem tdot256 (p : FVec Ideal S2048x256 .f32) (y : FVec Ideal S2048x256 .f32) (w c : Fin 256) :
    matmul dot_S2048x256_S2048x256_S256x256_0_0_1_1_n_n none p y (constant S256x256 .f32 0x00000000#32) (ix2 w c)
      = ∑ i : Fin 2048, p (ix2 i w) * y (ix2 i c) := by
  refine (Ideal.matmul_apply₁_of dot_S2048x256_S2048x256_S256x256_0_0_1_1_n_n (a := 0) rfl (K := 2048) rfl p y _ _
    (fun i => ix2 i w) (fun i => ix2 i c) ?_ ?_).trans ?_
  · intro i; funext a; match a with
    | ⟨0, _⟩ => rfl
    | ⟨1, _⟩ => rfl
  · intro i; funext a; match a with
    | ⟨0, _⟩ => rfl
    | ⟨1, _⟩ => rfl
  · show Ideal.ofBits .f32 0x00000000#32 + _ = _
    rw [Ideal.ofBits_zero_f32, zero_add]

theorem tdot128 (p : FVec Ideal S2048x256 .f32) (y : FVec Ideal S2048x128 .f32) (w : Fin 256) (c : Fin 128) :
    matmul dot_S2048x256_S2048x128_S256x128_0_0_1_1_n_n none p y (constant S256x128 .f32 0x00000000#32) (ix2 w c)
      = ∑ i : Fin 2048, p (ix2 i w) * y (ix2 i c) := by
  refine (Ideal.matmul_apply₁_of dot_S2048x256_S2048x128_S256x128_0_0_1_1_n_n (a := 0) rfl (K := 2048) rfl p y _ _
    (fun i => ix2 i w) (fun i => ix2 i c) ?_ ?_).trans ?_
  · intro i; funext a; match a with
    | ⟨0, _⟩ => rfl
    | ⟨1, _⟩ => rfl
  · intro i; funext a; match a with
    | ⟨0, _⟩ => rfl
    | ⟨1, _⟩ => rfl
  · show Ideal.ofBits .f32 0x00000000#32 + _ = _
    rw [Ideal.ofBits_zero_f32, zero_add]

/-- What a step adds to an element: the sum over the rows taken whose segment is the element's row. -/
theorem window_sum {m : ℕ} (s : IVec S2048x1 32) (hs : SegsOk s) (k : BitVec 32) (hk : k.toNat < 2048)
    (X : (⟨2, ![4352, m]⟩ : Shape).Idx → EReal) (B : (⟨2, ![256, m]⟩ : Shape).Idx → EReal) (y : Fin 2048 → Fin m → EReal)
    (hB : ∀ w c, B (ix2 w c) = ∑ i : Fin 2048, k0_pay13 (F := Ideal) rows s lanes k (ix2 i w) * y i c) (r : Fin 4352) (c : Fin m) :
    accBlock (fun a b : EReal => a + b) X (base s k) B (ix2 r c)
      = X (ix2 r c) + ∑ i ∈ taken s k, if segAt s i = r.val then y i c else 0 := by
  have hw : ∀ i ∈ taken s k, base s k ≤ segAt s i ∧ segAt s i < base s k + 256 := fun i hi =>
    ⟨base_le_seg s hs k hk i (Finset.mem_filter.1 hi).2.1, (Finset.mem_filter.1 hi).2.2⟩
  unfold accBlock
  by_cases h : base s k ≤ r.val ∧ r.val < base s k + 256
  · rw [dif_pos (show base s k ≤ ((ix2 r c : (⟨2, ![4352, m]⟩ : Shape).Idx) 0).val ∧ ((ix2 r c : (⟨2, ![4352, m]⟩ : Shape).Idx) 0).val < base s k + 256 from h)]
    refine congrArg (X (ix2 r c) + ·) ?_
    refine (hB (⟨r.val - base s k, by omega⟩ : Fin 256) c).trans ?_
    rw [← Finset.sum_filter_add_sum_filter_not Finset.univ (fun i => i ∈ taken s k)]
    have e2 : ∑ i ∈ Finset.univ.filter (fun i => ¬ i ∈ taken s k),
        k0_pay13 (F := Ideal) rows s lanes k (ix2 i (⟨r.val - base s k, by omega⟩ : Fin 256)) * y i c = 0 := by
      refine Finset.sum_eq_zero fun i hi => ?_
      rw [pay13_apply s hs k hk, if_neg (fun h => (Finset.mem_filter.1 hi).2 h.1), zero_mul]
    rw [e2, add_zero, Finset.filter_mem_eq_inter, Finset.univ_inter]
    refine Finset.sum_congr rfl fun i hi => ?_
    rw [pay13_apply s hs k hk]
    by_cases hr : segAt s i = r.val
    · rw [if_pos ⟨hi, by show _ = _ + (r.val - _); omega⟩, if_pos hr, one_mul]
    · rw [if_neg (fun h' => hr (h'.2.trans (by show _ + (r.val - _) = _; omega))), if_neg hr, zero_mul]
  · rw [dif_neg (show ¬ (base s k ≤ ((ix2 r c : (⟨2, ![4352, m]⟩ : Shape).Idx) 0).val ∧ ((ix2 r c : (⟨2, ![4352, m]⟩ : Shape).Idx) 0).val < base s k + 256) from h)]
    have e0 : (∑ i ∈ taken s k, if segAt s i = r.val then y i c else 0) = 0 :=
      Finset.sum_eq_zero fun i hi => if_neg fun e => h (by have := hw i hi; rw [e] at this; exact this)
    rw [e0, add_zero]

end Cert.KernelIdeal.Loop

end
-- ==== Proof.Val.Sums.lean ====
/- The loops' sums. Of a block whose segments rise with the rows a step takes the rows from its own up to the next step's,
   so the steps take every row once, and what the loop adds to an element is the sum over the block's rows whose segment
   is the element's. -/
module

public import proofs.«01_k».proof.Proof.Val.Step

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.ValueIdx

/-- A block's segments rise with the rows. -/
def Rising (s : IVec S2048x1 32) : Prop := ∀ i j : Fin 2048, i ≤ j → segAt s i ≤ segAt s j

/-- The rows taken are those up to the next step's. -/
theorem taken_rows (s : IVec S2048x1 32) (hs : SegsOk s) (hr : Rising s) (k : BitVec 32) (hk : k.toNat < 2048) (i : Fin 2048) :
    i ∈ taken s k ↔ k.toNat ≤ i.val ∧ i.val < (nextRow s k).toNat := by
  have hn := nextRow_toNat s hs k hk
  have hm : ∀ j : Fin 2048, j ∈ taken s k ↔ k.toNat ≤ j.val ∧ segAt s j < base s k + 256 := fun j => by
    simp only [taken, Finset.mem_filter, Finset.mem_univ, true_and]
  constructor
  · intro h
    obtain ⟨h1, h2⟩ := (hm i).1 h
    refine ⟨h1, ?_⟩
    have hsub : Finset.Icc (⟨k.toNat, hk⟩ : Fin 2048) i ⊆ taken s k := fun j hj => by
      obtain ⟨a, b⟩ := Finset.mem_Icc.1 hj
      exact (hm j).2 ⟨a, lt_of_le_of_lt (hr j i b) h2⟩
    have hc := Finset.card_le_card hsub
    rw [Fin.card_Icc] at hc
    show i.val < _
    simp only [] at hc
    omega
  · rintro ⟨h1, h2⟩
    by_contra hi
    have hsub : taken s k ⊆ Finset.Ico (⟨k.toNat, hk⟩ : Fin 2048) i := fun j hj => by
      obtain ⟨a, b⟩ := (hm j).1 hj
      refine Finset.mem_Ico.2 ⟨a, ?_⟩
      by_contra hji
      exact hi ((hm i).2 ⟨h1, lt_of_le_of_lt (hr i j (not_lt.1 hji)) b⟩)
    have hc := Finset.card_le_card hsub
    rw [Fin.card_Ico] at hc
    simp only [] at hc
    omega

/-- What a loop adds up, of any reading of its state to which a step adds the sum over the rows it takes. -/
theorem runWhile_sum {α : Type} (s : IVec S2048x1 32) (hs : SegsOk s) (hr : Rising s) (step : BitVec 32 → α → α) (obs : α → EReal)
    (g : Fin 2048 → EReal) (hstep : ∀ k st, k.toNat < 2048 → obs (step k st) = obs st + ∑ i ∈ taken s k, g i) (n : ℕ) :
    ∀ (k : BitVec 32) (st : α), k.toNat ≤ 2048 → 2048 - k.toNat ≤ n →
      obs (runWhile (nextRow s) step n k st) = obs st + ∑ i ∈ Finset.univ.filter (fun i : Fin 2048 => k.toNat ≤ i.val), g i := by
  induction n with
  | zero =>
    intro k st h1 h2
    rw [Finset.filter_false_of_mem (fun i _ => by have := i.isLt; omega), Finset.sum_empty, add_zero]
    rfl
  | succ n ih =>
    intro k st h1 h2
    by_cases hk : k.toNat < 2048
    · obtain ⟨h3, h4⟩ := nextRow_le s hs k hk n h2
      rw [runWhile_go _ _ _ _ _ hk, ih _ _ h3 h4, hstep k st hk, add_assoc]
      congr 1
      have e : Finset.univ.filter (fun i : Fin 2048 => k.toNat ≤ i.val)
          = taken s k ∪ Finset.univ.filter (fun i : Fin 2048 => (nextRow s k).toNat ≤ i.val) := by
        ext i
        have hn := nextRow_toNat s hs k hk
        rw [Finset.mem_union, taken_rows s hs hr k hk, Finset.mem_filter, Finset.mem_filter]
        simp only [Finset.mem_univ, true_and]
        omega
      rw [e, Finset.sum_union]
      refine Finset.disjoint_left.2 fun i h5 h6 => ?_
      have a := (taken_rows s hs hr k hk i).1 h5
      have b := (Finset.mem_filter.1 h6).2
      omega
    · rw [runWhile_done _ _ _ _ _ hk, Finset.filter_false_of_mem (fun i _ => by have := i.isLt; omega), Finset.sum_empty, add_zero]

/-- From the first row on: the whole block's sum. -/
theorem runWhile_all {α : Type} (s : IVec S2048x1 32) (hs : SegsOk s) (hr : Rising s) (step : BitVec 32 → α → α) (obs : α → EReal)
    (g : Fin 2048 → EReal) (hstep : ∀ k st, k.toNat < 2048 → obs (step k st) = obs st + ∑ i ∈ taken s k, g i) (st : α) :
    obs (runWhile (nextRow s) step 2048 0#32 st) = obs st + ∑ i, g i := by
  rw [runWhile_sum s hs hr step obs g hstep 2048 0#32 st (by decide) (by decide),
    Finset.filter_true_of_mem (p := fun i : Fin 2048 => (0#32).toNat ≤ i.val) (fun i _ => Nat.zero_le _)]

/-- The first call's loop at an element of the sums. -/
theorem loop1_sums (s : IVec S2048x1 32) (hs : SegsOk s) (hr : Rising s) (e : FVec Ideal S2048x256 .f32) (st : St1 Ideal) (r : Fin 4352) (c : Fin 256) :
    (loop1 s e 2048 0#32 st).1 (ix2 r c) = (st.1 (ix2 r c) : EReal) + ∑ i : Fin 2048, if segAt s i = r.val then (e (ix2 i c) : EReal) else 0 :=
  runWhile_all s hs hr (step1 s e) (fun st => (st.1 (ix2 r c) : EReal)) (fun i => if segAt s i = r.val then (e (ix2 i c) : EReal) else 0)
    (fun k st hk => window_sum s hs k hk st.1 (k0_pay14 rows s lanes e k) (fun i c => e (ix2 i c)) (fun w c => tdot256 _ _ w c) r c) st

/-- The first call's loop at an element of the counts. -/
theorem loop1_counts (s : IVec S2048x1 32) (hs : SegsOk s) (hr : Rising s) (e : FVec Ideal S2048x256 .f32) (st : St1 Ideal) (r : Fin 4352) (c : Fin 128) :
    (loop1 s e 2048 0#32 st).2 (ix2 r c) = (st.2 (ix2 r c) : EReal) + ∑ i : Fin 2048, if segAt s i = r.val then (1 : EReal) else 0 :=
  runWhile_all s hs hr (step1 s e) (fun st => (st.2 (ix2 r c) : EReal)) (fun i => if segAt s i = r.val then (1 : EReal) else 0)
    (fun k st hk => window_sum s hs k hk st.2 (k0_pay15 rows s lanes (k0_pay2 (F := Ideal)) k) (fun _ _ => 1)
      (fun w c => (tdot128 _ _ w c).trans (Finset.sum_congr rfl fun i _ => congrArg (_ * ·) Ideal.ofBits_one_f32)) r c) st

end Cert.KernelIdeal.Loop

end
-- ==== Proof.Val.Weigh.lean ====
/- The last call's loop. A row taken reads, of the window of the projections, its own segment's row, so its weight does
   not depend on the step that takes it; what the loop adds to an element of the sums is the sum over the block's rows
   whose segment is the element's of the rows' embeddings times their weights. -/
module

public import proofs.«01_k».proof.Proof.Val.Sums

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.ValueIdx

theorem k2_pay13_eq (s : IVec S2048x1 32) (k : BitVec 32) : k2_pay13 (F := Ideal) rows s lanes k = k0_pay13 (F := Ideal) rows s lanes k := rfl

/-- The plain product over 256 lanes. -/
theorem dot256 (x : FVec Ideal S2048x256 .f32) (y : FVec Ideal S256x256 .f32) (i : Fin 2048) (c : Fin 256) :
    matmul dot_S2048x256_S256x256_S2048x256_1_0_0_1_n_n none x y (constant S2048x256 .f32 0x00000000#32) (ix2 i c)
      = ∑ j : Fin 256, x (ix2 i j) * y (ix2 j c) := by
  have h := Ideal.matmul_plain_apply (M := 2048) (K := 256) (N := 256) none x y (constant S2048x256 .f32 0x00000000#32) i c
  refine h.trans ?_
  show Ideal.ofBits .f32 0x00000000#32 + _ = _
  rw [Ideal.ofBits_zero_f32, zero_add]

/-- What a taken row reads of the projections: its own segment's row. -/
theorem node_apply (s : IVec S2048x1 32) (hs : SegsOk s) (k : BitVec 32) (hk : k.toNat < 2048) (a : FVec Ideal S2048x256 .f32)
    (B : Vec Ideal S4352x256 .f32) (i : Fin 2048) (hi : i ∈ taken s k) (l : Fin 256) :
    k2_pay14 rows s lanes a k (nodes s B k) (ix2 i l)
      = (a (ix2 i l) : EReal) + B (ix2 (⟨segAt s i, lt_trans (hs i) (by decide)⟩ : Fin 4352) l) := by
  have hm := (Finset.mem_filter.1 hi).2
  have hb := base_le_seg s hs k hk i hm.1
  have e : k2_pay14 rows s lanes a k (nodes s B k) (ix2 i l)
      = (a (ix2 i l) : EReal) + matmul dot_S2048x256_S256x256_S2048x256_1_0_0_1_n_n none (k0_pay13 (F := Ideal) rows s lanes k)
          (shapeCast S256x256 (nodes s B k) shapeCasts_S256x256_S256x256) (constant S2048x256 .f32 0x00000000#32) (ix2 i l) := rfl
  rw [e, shapeCast_self, dot256]
  congr 1
  have hlt : segAt s i - base s k < 256 := by have := hm.2; simp only [segAt]; omega
  rw [Finset.sum_eq_single (⟨segAt s i - base s k, hlt⟩ : Fin 256)]
  · rw [pay13_apply s hs k hk, if_pos ⟨hi, by show _ = _ + (segAt s i - _); simp only [segAt]; omega⟩, one_mul]
    refine congrArg B ?_
    have h4 := hs i
    funext ax
    match ax with
    | ⟨0, _⟩ => exact Fin.ext (by show min (base s k + (segAt s i - base s k)) (4352 - 1) = segAt s i; simp only [segAt]; omega)
    | ⟨1, _⟩ => rfl
  · intro j _ hj
    rw [pay13_apply s hs k hk, if_neg, zero_mul]
    rintro ⟨-, h⟩
    exact hj (Fin.ext (by show j.val = segAt s i - _; simp only [segAt] at h ⊢; omega))
  · intro h; exact absurd (Finset.mem_univ _) h

/-- A row's weight. -/
def attn (w : FVec Ideal S1x256 .f32) (z : Fin 256 → EReal) : EReal := ∑ l : Fin 256, Ideal.logistic (z l) * w (ix2 (0 : Fin 1) l)

/-- The weights' column, at a row. -/
theorem attn_apply (w : FVec Ideal S1x256 .f32) (x a : FVec Ideal S2048x256 .f32) (i : Fin 2048) (c : Fin 256) :
    mulf x (broadcastTo S2048x256 (shapeCast S2048x1
      (multiReduction .add [1] S2048 (mulf (logistic a) (broadcastTo S2048x256 w broadcasts_S1x256_S2048x256)) 0x00000000#32
        reduces_S2048x256_S2048 (.inl rfl) rfl) shapeCasts_S2048_S2048x1) broadcasts_S2048x1_S2048x256) (ix2 i c)
      = (x (ix2 i c) : EReal) * attn w (fun l => a (ix2 i l)) := by
  refine (mulf_apply _ _ _).trans ?_
  congr 1
  rw [bcol]
  refine (shapeCast_apply _ _ _ (ix1 i) (by
    rw [Shape.rowMajor_val_one, Shape.rowMajor_val_two]
    show i.val = i.val * 1 + 0
    omega)).trans ?_
  refine (Ideal.multiReduction_add_single _ _ reduces_S2048x256_S2048 _ _ (ix1 i)).trans ?_
  refine Finset.sum_congr rfl fun l _ => ?_
  have hl : reduces_S2048x256_S2048.lift (ix1 i) l = ix2 i l := by
    funext ax
    match ax with
    | ⟨0, _⟩ => rfl
    | ⟨1, _⟩ => rfl
  rw [hl]
  refine (mulf_apply _ _ _).trans ?_
  congr 1
  refine broadcastTo_apply w broadcasts_S1x256_S2048x256 (ix2 i l) (ix2 (0 : Fin 1) l) fun ax => ?_
  match ax with
  | ⟨0, _⟩ => rfl
  | ⟨1, _⟩ => rfl

/-- The loop at an element. -/
theorem loop2_sums (s : IVec S2048x1 32) (hs : SegsOk s) (hr : Rising s) (B : Vec Ideal S4352x256 .f32) (a : FVec Ideal S2048x256 .f32)
    (w : FVec Ideal S1x256 .f32) (x : FVec Ideal S2048x256 .f32) (X : Vec Ideal S4352x256 .f32) (r : Fin 4352) (c : Fin 256) :
    loop2 s B a w x 2048 0#32 X (ix2 r c) = (X (ix2 r c) : EReal) + ∑ i : Fin 2048, if segAt s i = r.val then
      (x (ix2 i c) : EReal) * attn w (fun l => (a (ix2 i l) : EReal) + B (ix2 r l)) else 0 := by
  refine runWhile_all s hs hr (step2 s B a w x) (fun X => (X (ix2 r c) : EReal)) _ (fun k X hk => ?_) X
  refine (window_sum s hs k hk X (weighted w x (k2_pay13 rows s lanes k) (k2_pay14 rows s lanes a k (nodes s B k)))
    (fun i c => (x (ix2 i c) : EReal) * attn w (fun l => k2_pay14 rows s lanes a k (nodes s B k) (ix2 i l))) (fun v c => ?_) r c).trans ?_
  · refine (tdot256 _ _ v c).trans (Finset.sum_congr rfl fun i _ => ?_)
    rw [k2_pay13_eq, attn_apply]
  · congr 1
    refine Finset.sum_congr rfl fun i hi => ?_
    by_cases h : segAt s i = r.val
    · rw [if_pos h, if_pos h]
      refine congrArg (fun z => (x (ix2 i c) : EReal) * attn w z) (funext fun l => ?_)
      rw [node_apply s hs k hk a B i hi l]
      have hr' : (⟨segAt s i, lt_trans (hs i) (by decide)⟩ : Fin 4352) = r := Fin.ext h
      rw [hr']
    · rw [if_neg h, if_neg h]

end Cert.KernelIdeal.Loop

end
-- ==== Proof.Val.Acc.lean ====
/- The accumulators over the grid points: before the last call's final scaling each is the sum, over the points gone
   by, of what the points' loops add. -/
module

public import proofs.«01_k».proof.Proof.Val.Weigh
public import proofs.«01_k».proof.Proof.PI.Dat0
public import proofs.«01_k».proof.Proof.PI.Dat2

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.ValueIdx

variable (V : Dev nD → Valuation τ sig (Elt Ideal)) (c : Dev nD)

/-- The points of the first and last calls' grids. -/
abbrev T0 := Fin (cfg0 (F := Ideal)).N
abbrev T2 := Fin (cfg2 (F := Ideal)).N

theorem first_iff (t : Fin grid0.N) : atFirst (BitVec.ofNat 32 (grid0.coords t 0).val) = 1#1 ↔ t.val = 0 := by
  revert t; decide +kernel
theorem first_iff2 (t : Fin grid2.N) : atFirst (BitVec.ofNat 32 (grid2.coords t 0).val) = 1#1 ↔ t.val = 0 := by
  revert t; decide +kernel
theorem last_iff2 (t : Fin grid2.N) : atLast (BitVec.ofNat 32 (grid2.coords t 0).val) = 1#1 ↔ t.val = 63 := by
  revert t; decide +kernel

theorem begun0_acc (t : T0) : begun0 (grid0.coords t) (acc0 V c t.val) = acc0 V c t.val := by
  by_cases h : atFirst (BitVec.ofNat 32 (grid0.coords t 0).val) = 1#1
  · rw [begun0, if_pos h, (first_iff t).1 h]; rfl
  · rw [begun0, if_neg h]

theorem begun2_acc (t : T2) : begun2 (grid2.coords t) (acc2 V c t.val) = acc2 V c t.val := by
  by_cases h : atFirst (BitVec.ofNat 32 (grid2.coords t 0).val) = 1#1
  · rw [begun2, if_pos h, (first_iff2 t).1 h]; rfl
  · rw [begun2, if_neg h]

/-- What a point of the first call adds to an element of the sums, and of the counts. -/
def adds0 (r : Fin 4352) (l : Fin 256) (t : T0) : EReal :=
  ∑ i : Fin 2048, if segAt (segs0 V c t) i = r.val then (emb0 V c t (ix2 i l) : EReal) else 0
def ones0 (r : Fin 4352) (t : T0) : EReal :=
  ∑ i : Fin 2048, if segAt (segs0 V c t) i = r.val then (1 : EReal) else 0

theorem acc0_sums (hs : ∀ t, SegsOk (segs0 V c t)) (hr : ∀ t, Rising (segs0 V c t)) (r : Fin 4352) (l : Fin 256) (n : ℕ) :
    ((acc0 V c n).1 (ix2 r l) : EReal) = ∑ t ∈ Finset.range n, if h : t < (cfg0 (F := Ideal)).N then adds0 V c r l ⟨t, h⟩ else 0 := by
  induction n with
  | zero => exact Ideal.ofBits_zero_f32
  | succ n ih =>
    rw [Finset.sum_range_succ, ← ih]
    by_cases h : n < (cfg0 (F := Ideal)).N
    · rw [dif_pos h]
      have e := acc0_succ V c ⟨n, h⟩
      have e' : acc0 V c (n + 1) = loop1 (segs0 V c ⟨n, h⟩) (emb0 V c ⟨n, h⟩) 2048 0#32 (acc0 V c n) := by
        rw [← begun0_acc V c ⟨n, h⟩]; exact e
      rw [e', loop1_sums _ (hs _) (hr _)]
      rfl
    · rw [dif_neg h, add_zero, acc0, dif_neg h]

theorem acc0_counts (hs : ∀ t, SegsOk (segs0 V c t)) (hr : ∀ t, Rising (segs0 V c t)) (r : Fin 4352) (l : Fin 128) (n : ℕ) :
    ((acc0 V c n).2 (ix2 r l) : EReal) = ∑ t ∈ Finset.range n, if h : t < (cfg0 (F := Ideal)).N then ones0 V c r ⟨t, h⟩ else 0 := by
  induction n with
  | zero => exact Ideal.ofBits_zero_f32
  | succ n ih =>
    rw [Finset.sum_range_succ, ← ih]
    by_cases h : n < (cfg0 (F := Ideal)).N
    · rw [dif_pos h]
      have e := acc0_succ V c ⟨n, h⟩
      have e' : acc0 V c (n + 1) = loop1 (segs0 V c ⟨n, h⟩) (emb0 V c ⟨n, h⟩) 2048 0#32 (acc0 V c n) := by
        rw [← begun0_acc V c ⟨n, h⟩]; exact e
      rw [e', loop1_counts _ (hs _) (hr _)]
      rfl
    · rw [dif_neg h, add_zero, acc0, dif_neg h]

/-- What a point of the last call adds to an element. -/
def adds2 (r : Fin 4352) (l : Fin 256) (t : T2) : EReal :=
  ∑ i : Fin 2048, if segAt (segs2 V c t) i = r.val then
    (k2_pay2 (in2_0 V c t) (ix2 i l) : EReal) * attn (k2_pay4 (in2_6 V c t))
      (fun l => (k2_pay3 (in2_0 V c t) (in2_4 V c t) (in2_5 V c t) (ix2 i l) : EReal) + in2_2 V c t (ix2 r l)) else 0

theorem acc2_step (hs : ∀ t, SegsOk (segs2 V c t)) (hr : ∀ t, Rising (segs2 V c t)) (r : Fin 4352) (l : Fin 256) (t : T2) :
    (acc2 V c (t.val + 1) (ix2 r l) : EReal)
      = if t.val = 63 then ((acc2 V c t.val (ix2 r l) : EReal) + adds2 V c r l t) * in2_3 V c t (ix2 r l)
        else (acc2 V c t.val (ix2 r l) : EReal) + adds2 V c r l t := by
  have e := acc2_succ V c t
  rw [point2, begun2_acc] at e
  rw [e]
  by_cases h : t.val = 63
  · rw [if_pos h, ended2, if_pos ((last_iff2 t).2 h)]
    refine (mulf_apply _ _ _).trans ?_
    rw [shapeCast_self, shapeCast_self, loop2_sums _ (hs _) (hr _)]
    rfl
  · rw [if_neg h, ended2, if_neg (fun h' => h ((last_iff2 t).1 h')), loop2_sums _ (hs _) (hr _)]
    rfl

theorem acc2_sums (hs : ∀ t, SegsOk (segs2 V c t)) (hr : ∀ t, Rising (segs2 V c t)) (r : Fin 4352) (l : Fin 256) (n : ℕ) (hn : n ≤ 63) :
    (acc2 V c n (ix2 r l) : EReal) = ∑ t ∈ Finset.range n, if h : t < (cfg2 (F := Ideal)).N then adds2 V c r l ⟨t, h⟩ else 0 := by
  induction n with
  | zero => exact Ideal.ofBits_zero_f32
  | succ n ih =>
    have h : n < (cfg2 (F := Ideal)).N := by rw [show (cfg2 (F := Ideal)).N = 64 from N_2]; omega
    rw [Finset.sum_range_succ, ← ih (by omega), dif_pos h]
    refine (acc2_step V c hs hr r l ⟨n, h⟩).trans (if_neg (by show ¬ n = 63; omega))

/-- The accumulators after the last point. -/
theorem acc0_sums_end (hs : ∀ t, SegsOk (segs0 V c t)) (hr : ∀ t, Rising (segs0 V c t)) (r : Fin 4352) (l : Fin 256) :
    ((acc0 V c 64).1 (ix2 r l) : EReal) = ∑ t : Fin 64, adds0 V c r l (t.cast N_0.symm) := by
  rw [acc0_sums V c hs hr, Finset.sum_range]
  exact Finset.sum_congr rfl fun t _ => dif_pos (lt_of_lt_of_eq t.isLt N_0.symm)

theorem acc0_counts_end (hs : ∀ t, SegsOk (segs0 V c t)) (hr : ∀ t, Rising (segs0 V c t)) (r : Fin 4352) (l : Fin 128) :
    ((acc0 V c 64).2 (ix2 r l) : EReal) = ∑ t : Fin 64, ones0 V c r (t.cast N_0.symm) := by
  rw [acc0_counts V c hs hr, Finset.sum_range]
  exact Finset.sum_congr rfl fun t _ => dif_pos (lt_of_lt_of_eq t.isLt N_0.symm)

theorem acc2_end (hs : ∀ t, SegsOk (segs2 V c t)) (hr : ∀ t, Rising (segs2 V c t)) (r : Fin 4352) (l : Fin 256) (t : T2) (ht : t.val = 63) :
    (acc2 V c (t.val + 1) (ix2 r l) : EReal) = (∑ t : Fin 64, adds2 V c r l (t.cast N_2.symm)) * in2_3 V c t (ix2 r l) := by
  have e : ∑ u : Fin 64, adds2 V c r l (u.cast N_2.symm) = (acc2 V c t.val (ix2 r l) : EReal) + adds2 V c r l t := by
    have e1 : ∑ u : Fin 64, adds2 V c r l (u.cast N_2.symm)
        = ∑ u ∈ Finset.range 64, if h : u < (cfg2 (F := Ideal)).N then adds2 V c r l ⟨u, h⟩ else 0 := by
      symm
      rw [Finset.sum_range]
      exact Finset.sum_congr rfl fun u _ => dif_pos (lt_of_lt_of_eq u.isLt N_2.symm)
    rw [e1, Finset.sum_range_succ, ← acc2_sums V c hs hr r l 63 (le_refl _)]
    have h63 : 63 < (cfg2 (F := Ideal)).N := by rw [show (cfg2 (F := Ideal)).N = 64 from N_2]; decide
    rw [dif_pos h63]
    obtain ⟨n, hn⟩ := t
    have hn' : n = 63 := ht
    subst hn'
    rfl
  rw [e, acc2_step V c hs hr r l t, if_pos ht]

end Cert.KernelIdeal.Loop

end
-- ==== Proof.Val.After.lean ====
/- What the three calls leave in their arrays. -/
module

public import proofs.«01_k».proof.Proof.Val.Acc
public import proofs.«01_k».proof.Proof.PI.Host
public import Idealize.ShloMosaic.Lib.Pipeline.ValueKit.Geometry

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.TcCoe
open Idealize.ShloMosaic.ValueIdx
open Idealize.ShloMosaic.Pipeline (Dat Cfg Window BodyObligation RegionSeg afterRegion)

attribute [local irreducible] acc0 acc2 emb0 accBlock

variable (m : (ℓ : Loc nD τ sig) → Buf (Elt Ideal) ℓ) (c : Dev nD)

theorem after0 (w : Fin 11) : V12 m (outs m) c (Pipeline.arrRef spec0 w) = (dat0 (V11 m) c).arrAt w (cfg0 (F := Ideal)).N := by
  rw [← left0]
  exact Pipeline.afterRegion_arr (dat0 (V11 m) c) (V11 m c) winFacts0.arr_inj w

theorem at0_9 : ∀ t : Fin grid0.N, (win0 9).index t = ![0, 0] := by decide +kernel
theorem at0_10 : ∀ t : Fin grid0.N, (win0 10).index t = ![0, 0] := by decide +kernel
theorem at0_8 : ∀ t : Fin grid0.N, (win0 8).index t = ![t.val, 0] := by decide +kernel
theorem covers0_9 : ((cfg0 (F := Ideal)).win 9).Covers := by decide +kernel
theorem covers0_10 : ((cfg0 (F := Ideal)).win 10).Covers := by decide +kernel
theorem covers0_8 : ((cfg0 (F := Ideal)).win 8).Covers := by decide +kernel

/-- The sums the first call leaves. -/
theorem sums_after : V12 m (outs m) c main_v14_1 = (acc0 (V11 m) c 64).1 := by
  refine (after0 m c 9).trans ?_
  refine Dat.arrAt_eq_of_covers (dat0 (V11 m) c) 9 _ covers0_9 (fun t ht y => ?_)
  have h63 : t.val + 1 = 64 := by
    have h1 := (flush0_9 t).1 ht
    have h2 : t.val < 64 := lt_of_lt_of_eq t.isLt N_0
    omega
  show (acc0 (V11 m) c (t.val + 1)).1 _ = (acc0 (V11 m) c 64).1 _
  rw [h63]
  refine congrArg ((acc0 (V11 m) c 64).1) (funext fun a => Fin.ext ?_)
  refine Eq.trans ?_ ((win0 9).rect_emb_val t y a).symm
  rw [at0_9 t]
  match a with
  | ⟨0, _⟩ => show (y 0).val = 0 * 4352 + (y 0).val; omega
  | ⟨1, _⟩ => show (y 1).val = 0 * 256 + (y 1).val; omega

/-- The counts the first call leaves. -/
theorem counts_after : V12 m (outs m) c main_v14_2 = (acc0 (V11 m) c 64).2 := by
  refine (after0 m c 10).trans ?_
  refine Dat.arrAt_eq_of_covers (dat0 (V11 m) c) 10 _ covers0_10 (fun t ht y => ?_)
  have h63 : t.val + 1 = 64 := by
    have h1 := (flush0_10 t).1 ht
    have h2 : t.val < 64 := lt_of_lt_of_eq t.isLt N_0
    omega
  show (acc0 (V11 m) c (t.val + 1)).2 _ = (acc0 (V11 m) c 64).2 _
  rw [h63]
  refine congrArg ((acc0 (V11 m) c 64).2) (funext fun a => Fin.ext ?_)
  refine Eq.trans ?_ ((win0 10).rect_emb_val t y a).symm
  rw [at0_10 t]
  match a with
  | ⟨0, _⟩ => show (y 0).val = 0 * 4352 + (y 0).val; omega
  | ⟨1, _⟩ => show (y 1).val = 0 * 128 + (y 1).val; omega

/-- The embeddings the first call leaves, all rows. -/
def embAll : Vec Ideal S131072x256 .f32 := fun i =>
  emb0 (V11 m) c (⟨(i 0).val / 2048, by
    have := idx2_lt0 i
    rw [show (cfg0 (F := Ideal)).N = 64 from N_0]; omega⟩ : T0) (ix2 (⟨(i 0).val % 2048, Nat.mod_lt _ (by decide)⟩ : Fin 2048) (i 1 : Fin 256))

theorem emb_after : V12 m (outs m) c main_v14_0 = embAll m c := by
  refine (after0 m c 8).trans ?_
  refine Dat.arrAt_eq_of_covers (dat0 (V11 m) c) 8 _ covers0_8 (fun t ht y => ?_)
  show emb0 (V11 m) c t _ = embAll m c _
  have e0 : ((((cfg0 (F := Ideal)).win 8).blk t).view.emb y 0).val = t.val * 2048 + (y 0).val := by
    refine ((win0 8).rect_emb_val t y 0).trans ?_
    rw [at0_8 t]; rfl
  have e1 : ((((cfg0 (F := Ideal)).win 8).blk t).view.emb y 1).val = (y 1).val := by
    refine ((win0 8).rect_emb_val t y 1).trans ?_
    rw [at0_8 t]; show 0 * 256 + (y 1).val = _; omega
  have hy : (y 0).val < 2048 := (y 0).isLt
  have key : ∀ (z : S131072x256.Idx), (z 0).val = t.val * 2048 + (y 0).val → (z 1).val = (y 1).val →
      emb0 (V11 m) c t (((cfg0 (F := Ideal)).win 8).xinj ((cfg0 (F := Ideal)).grid.coords t) y) = embAll m c z := by
    intro z h0 h1
    unfold embAll
    have ht : (⟨(z 0).val / 2048, by
        have := idx2_lt0 z
        rw [show (cfg0 (F := Ideal)).N = 64 from N_0]; omega⟩ : T0) = t := Fin.ext (by show (z 0).val / 2048 = t.val; omega)
    rw [ht]
    refine congrArg (emb0 (V11 m) c t) (funext fun a => Fin.ext ?_)
    match a with
    | ⟨0, _⟩ => show (y 0).val = (z 0).val % 2048; omega
    | ⟨1, _⟩ => exact h1.symm
  exact key _ e0 e1

theorem after1 (w : Fin 5) : V13 m (outs m) c (Pipeline.arrRef spec1 w) = (dat1 (V12 m (outs m)) c).arrAt w (cfg1 (F := Ideal)).N := by
  rw [← left1]
  exact Pipeline.afterRegion_arr (dat1 (V12 m (outs m)) c) (V12 m (outs m) c) winFacts1.arr_inj w

theorem at1_3 : ∀ t : Fin grid1.N, (win1 3).index t = ![0, 0] := by decide +kernel
theorem at1_4 : ∀ t : Fin grid1.N, (win1 4).index t = ![0, 0] := by decide +kernel
theorem covers1_3 : ((cfg1 (F := Ideal)).win 3).Covers := by decide +kernel
theorem covers1_4 : ((cfg1 (F := Ideal)).win 4).Covers := by decide +kernel

/-- The projected means the second call leaves. -/
theorem proj_after : V13 m (outs m) c main_v15_0 = k1_pay3 (firstLane (acc0 (V11 m) c 64).2) (acc0 (V11 m) c 64).1 (V11 m c main_arg14) := by
  refine (after1 m c 3).trans ?_
  refine Dat.arrAt_eq_of_covers (dat1 (V12 m (outs m)) c) 3 _ covers1_3 (fun t ht y => ?_)
  show k1_pay3 (firstLane (in1_1 (V12 m (outs m)) c t)) (in1_0 (V12 m (outs m)) c t) (in1_2 (V12 m (outs m)) c t) _ = _
  rw [in1_0_whole, in1_1_whole, in1_2_whole, sums_after, counts_after, V12_of m (outs m) c main_arg14 (by decide)]
  refine congrArg (k1_pay3 (firstLane (acc0 (V11 m) c 64).2) (acc0 (V11 m) c 64).1 (V11 m c main_arg14)) (funext fun a => Fin.ext ?_)
  refine Eq.trans ?_ ((win1 3).rect_emb_val t y a).symm
  rw [at1_3 t]
  match a with
  | ⟨0, _⟩ => show (y 0).val = 0 * 4352 + (y 0).val; omega
  | ⟨1, _⟩ => show (y 1).val = 0 * 256 + (y 1).val; omega

/-- The reciprocal counts the second call leaves. -/
theorem inv_after : V13 m (outs m) c main_v15_1 = k1_pay2 (firstLane (acc0 (V11 m) c 64).2) := by
  refine (after1 m c 4).trans ?_
  refine Dat.arrAt_eq_of_covers (dat1 (V12 m (outs m)) c) 4 _ covers1_4 (fun t ht y => ?_)
  show k1_pay2 (firstLane (in1_1 (V12 m (outs m)) c t)) _ = _
  rw [in1_1_whole, counts_after]
  refine congrArg (k1_pay2 (firstLane (acc0 (V11 m) c 64).2)) (funext fun a => Fin.ext ?_)
  refine Eq.trans ?_ ((win1 4).rect_emb_val t y a).symm
  rw [at1_4 t]
  match a with
  | ⟨0, _⟩ => show (y 0).val = 0 * 4352 + (y 0).val; omega
  | ⟨1, _⟩ => show (y 1).val = 0 * 256 + (y 1).val; omega

theorem after2 (w : Fin 8) : V14 m (outs m) c (Pipeline.arrRef spec2 w) = (dat2 (V13 m (outs m)) c).arrAt w (cfg2 (F := Ideal)).N := by
  rw [← left2]
  exact Pipeline.afterRegion_arr (dat2 (V13 m (outs m)) c) (V13 m (outs m) c) winFacts2.arr_inj w

theorem at2_7 : ∀ t : Fin grid2.N, (win2 7).index t = ![0, 0] := by decide +kernel
theorem covers2_7 : ((cfg2 (F := Ideal)).win 7).Covers := by decide +kernel

/-- The sums the last call leaves. -/
theorem out_after : V14 m (outs m) c main_v16 = acc2 (V13 m (outs m)) c 64 := by
  refine (after2 m c 7).trans ?_
  refine Dat.arrAt_eq_of_covers (dat2 (V13 m (outs m)) c) 7 _ covers2_7 (fun t ht y => ?_)
  have h63 : t.val + 1 = 64 := by
    have h1 := (flush2_7 t).1 ht
    have h2 : t.val < 64 := lt_of_lt_of_eq t.isLt N_2
    omega
  show acc2 (V13 m (outs m)) c (t.val + 1) _ = acc2 (V13 m (outs m)) c 64 _
  rw [h63]
  refine congrArg (acc2 (V13 m (outs m)) c 64) (funext fun a => Fin.ext ?_)
  refine Eq.trans ?_ ((win2 7).rect_emb_val t y a).symm
  rw [at2_7 t]
  match a with
  | ⟨0, _⟩ => show (y 0).val = 0 * 4352 + (y 0).val; omega
  | ⟨1, _⟩ => show (y 1).val = 0 * 256 + (y 1).val; omega

end Cert.KernelIdeal.Loop

end
-- ==== Proof.Val.Pads.lean ====
/- The parameters as the calls read them: the two projections and their biases with zero lanes after their own, and the
   table of positions with zero rows after its own and zero lanes before. -/
module

public import proofs.«01_k».proof.Proof.Val.After

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.TcCoe Idealize.ShloMosaic.Tactic
open Idealize.ShloMosaic.ValueIdx

variable (m : (ℓ : Loc nD τ sig) → Buf (Elt Ideal) ℓ) (c : Dev nD)

/-- The pads' value. -/
def fill : S_.Idx → EReal := sitofp (F := Ideal) .f32 (constantI S_ 32 0#32)

theorem fill_zero (i : S_.Idx) : fill i = 0 := by
  show (((0#32).toInt : ℝ) : EReal) = 0
  simp

/-- The pad. -/
def wide (x : Vec Ideal S128x56 .f32) : Vec Ideal S128x256 .f32 := pad S128x256 ![0, 0] ![0, 200] ![0, 0] x fill pads_S128x56_S128x256_000_02000 h_S_

/-- The pad. -/
def long (x : Vec Ideal S56 .f32) : Vec Ideal S256 .f32 := pad S256 ![0] ![200] ![0] x fill pads_S56_S256_02000 h_S_

/-- The pad. -/
def tab (x : Vec Ideal S200x200 .f32) : Vec Ideal S256x256 .f32 := pad S256x256 ![0, 56] ![56, 0] ![0, 0] x fill pads_S200x200_S256x256_0560_5600 h_S_

theorem v5_eq : V11 m c main_v5 = wide (V0 m c main_arg9) := by
  rw [show V11 m c main_v5 = V2 m c main_v5 from (V11_of m c main_v5 (by decide)).trans <| (V10_of m c main_v5 (by decide)).trans <| (V9_of m c main_v5 (by decide)).trans <| (V8_of m c main_v5 (by decide)).trans <| (V7_of m c main_v5 (by decide)).trans <| (V6_of m c main_v5 (by decide)).trans <| (V5_of m c main_v5 (by decide)).trans <| (V4_of m c main_v5 (by decide)).trans <| (V3_of m c main_v5 (by decide))]
  have e : V2 m c main_v5 = pad S128x256 ![0, 0] ![0, 200] ![0, 0] (V1 m c main_arg9) (sitofp (F := Ideal) .f32 (V1 m c main_c)) pads_S128x56_S128x256_000_02000 h_S_ := by
    unfold V2 hostOps0_1
    after_results
    rfl
  have ec : V1 m c main_c = constantI S_ 32 0#32 := by
    unfold V1 hostOps0
    after_results
  rw [e, ec, show V1 m c main_arg9 = V0 m c main_arg9 from (V1_of m c main_arg9 (by decide))]
  rfl

theorem v6_eq : V11 m c main_v6 = wide (V0 m c main_arg7) := by
  rw [show V11 m c main_v6 = V4 m c main_v6 from (V11_of m c main_v6 (by decide)).trans <| (V10_of m c main_v6 (by decide)).trans <| (V9_of m c main_v6 (by decide)).trans <| (V8_of m c main_v6 (by decide)).trans <| (V7_of m c main_v6 (by decide)).trans <| (V6_of m c main_v6 (by decide)).trans <| (V5_of m c main_v6 (by decide))]
  have e : V4 m c main_v6 = pad S128x256 ![0, 0] ![0, 200] ![0, 0] (V3 m c main_arg7) (sitofp (F := Ideal) .f32 (V3 m c main_c_0)) pads_S128x56_S128x256_000_02000 h_S_ := by
    unfold V4 hostOps0_3
    after_results
    rfl
  have ec : V3 m c main_c_0 = constantI S_ 32 0#32 := by
    unfold V3 hostOps0_2
    after_results
  rw [e, ec, show V3 m c main_arg7 = V0 m c main_arg7 from (V3_of m c main_arg7 (by decide)).trans <| (V2_of m c main_arg7 (by decide)).trans <| (V1_of m c main_arg7 (by decide))]
  rfl

theorem v11_eq : V11 m c main_v11 = tab (V0 m c main_arg11) := by
  rw [show V11 m c main_v11 = V10 m c main_v11 from (V11_of m c main_v11 (by decide))]
  have e : V10 m c main_v11 = pad S256x256 ![0, 56] ![56, 0] ![0, 0] (V9 m c main_arg11) (sitofp (F := Ideal) .f32 (V9 m c main_c_3)) pads_S200x200_S256x256_0560_5600 h_S_ := by
    unfold V10 hostOps0_9
    after_results
    rfl
  have ec : V9 m c main_c_3 = constantI S_ 32 0#32 := by
    unfold V9 hostOps0_8
    after_results
  rw [e, ec, show V9 m c main_arg11 = V0 m c main_arg11 from (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))]
  rfl

theorem v8_eq : V11 m c main_v8 = shapeCast S1x256 (long (V0 m c main_arg10)) shapeCasts_S256_S1x256 := by
  rw [show V11 m c main_v8 = V7 m c main_v8 from (V11_of m c main_v8 (by decide)).trans <| (V10_of m c main_v8 (by decide)).trans <| (V9_of m c main_v8 (by decide)).trans <| (V8_of m c main_v8 (by decide))]
  have e1 : V7 m c main_v8 = shapeCast S1x256 (V6 m c main_v7) shapeCasts_S256_S1x256 := by
    unfold V7 hostOps0_6
    after_results
    rfl
  have e : V6 m c main_v7 = pad S256 ![0] ![200] ![0] (V5 m c main_arg10) (sitofp (F := Ideal) .f32 (V5 m c main_c_1)) pads_S56_S256_02000 h_S_ := by
    unfold V6 hostOps0_5
    after_results
    rfl
  have ec : V5 m c main_c_1 = constantI S_ 32 0#32 := by
    unfold V5 hostOps0_4
    after_results
  rw [e1, e, ec, show V5 m c main_arg10 = V0 m c main_arg10 from (V5_of m c main_arg10 (by decide)).trans <| (V4_of m c main_arg10 (by decide)).trans <| (V3_of m c main_arg10 (by decide)).trans <| (V2_of m c main_arg10 (by decide)).trans <| (V1_of m c main_arg10 (by decide))]
  rfl

theorem v10_eq : V11 m c main_v10 = shapeCast S1x256 (long (V0 m c main_arg8)) shapeCasts_S256_S1x256 := by
  rw [show V11 m c main_v10 = V9 m c main_v10 from (V11_of m c main_v10 (by decide)).trans <| (V10_of m c main_v10 (by decide))]
  have e1 : V9 m c main_v10 = shapeCast S1x256 (V8 m c main_v9) shapeCasts_S256_S1x256 := by
    unfold V9 hostOps0_8
    after_results
    rfl
  have e : V8 m c main_v9 = pad S256 ![0] ![200] ![0] (V7 m c main_arg8) (sitofp (F := Ideal) .f32 (V7 m c main_c_2)) pads_S56_S256_02000 h_S_ := by
    unfold V8 hostOps0_7
    after_results
    rfl
  have ec : V7 m c main_c_2 = constantI S_ 32 0#32 := by
    unfold V7 hostOps0_6
    after_results
  rw [e1, e, ec, show V7 m c main_arg8 = V0 m c main_arg8 from (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))]
  rfl

theorem v12_eq : V11 m c main_v12 = shapeCast S1x256 (V0 m c main_arg15) shapeCasts_S256x1_S1x256 := by
  have e1 : V11 m c main_v12 = shapeCast S1x256 (V10 m c main_arg15) shapeCasts_S256x1_S1x256 := by
    unfold V11 hostOps0_10
    after_results
    rfl
  rw [e1, show V10 m c main_arg15 = V0 m c main_arg15 from (V10_of m c main_arg15 (by decide)).trans <| (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide))]

theorem v13_eq : V11 m c main_v13 = shapeCast S1x256 (V0 m c main_arg13) shapeCasts_S256_S1x256 := by
  have e1 : V11 m c main_v13 = shapeCast S1x256 (V10 m c main_arg13) shapeCasts_S256_S1x256 := by
    unfold V11 hostOps0_10
    after_results
    rfl
  rw [e1, show V10 m c main_arg13 = V0 m c main_arg13 from (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))]

theorem v17_eq : V15 m (outs m) c main_v17 = extractStridedSlice S4096x256 ![0, 0] (V14 m (outs m) c main_v16) slices_S4352x256_S4096x256_0_0 := by
  unfold V15 hostOps3
  after_results

/-- The pads at an element. -/
theorem wide_apply (x : Vec Ideal S128x56 .f32) (d : Fin 128) (l : Fin 256) :
    (wide x (ix2 d l) : EReal) = if h : l.val < 56 then x (ix2 d (⟨l.val, h⟩ : Fin 56)) else 0 := by
  by_cases h : l.val < 56
  · rw [dif_pos h]
    refine pad_apply_of_inside _ _ _ x fill pads_S128x56_S128x256_000_02000 h_S_ (ix2 d l) (ix2 d (⟨l.val, h⟩ : Fin 56)) fun a => ?_
    match a with
    | ⟨0, _⟩ => show d.val = 0 + d.val * (0 + 1); omega
    | ⟨1, _⟩ => show l.val = 0 + l.val * (0 + 1); omega
  · rw [dif_neg h]
    refine (pad_apply_of_not_inside _ _ _ x fill pads_S128x56_S128x256_000_02000 h_S_ (ix2 d l) 1 ?_).trans (fill_zero _)
    show ¬ (0 ≤ l.val ∧ (l.val - 0) % (0 + 1) = 0 ∧ (l.val - 0) / (0 + 1) < 56)
    omega

theorem long_apply (x : Vec Ideal S56 .f32) (l : Fin 256) :
    (long x (ix1 l) : EReal) = if h : l.val < 56 then x (ix1 (⟨l.val, h⟩ : Fin 56)) else 0 := by
  by_cases h : l.val < 56
  · rw [dif_pos h]
    refine pad_apply_of_inside _ _ _ x fill pads_S56_S256_02000 h_S_ (ix1 l) (ix1 (⟨l.val, h⟩ : Fin 56)) fun a => ?_
    match a with
    | ⟨0, _⟩ => show l.val = 0 + l.val * (0 + 1); omega
  · rw [dif_neg h]
    refine (pad_apply_of_not_inside _ _ _ x fill pads_S56_S256_02000 h_S_ (ix1 l) 0 ?_).trans (fill_zero _)
    show ¬ (0 ≤ l.val ∧ (l.val - 0) % (0 + 1) = 0 ∧ (l.val - 0) / (0 + 1) < 56)
    omega

theorem tab_apply (x : Vec Ideal S200x200 .f32) (q : Fin 200) (l : Fin 256) :
    (tab x (ix2 (⟨q.val, by omega⟩ : Fin 256) l) : EReal) = if h : l.val < 56 then 0 else x (ix2 q (⟨l.val - 56, by omega⟩ : Fin 200)) := by
  by_cases h : l.val < 56
  · rw [dif_pos h]
    refine (pad_apply_of_not_inside _ _ _ x fill pads_S200x200_S256x256_0560_5600 h_S_ (ix2 (⟨q.val, by omega⟩ : Fin 256) l) 1 ?_).trans (fill_zero _)
    show ¬ (56 ≤ l.val ∧ (l.val - 56) % (0 + 1) = 0 ∧ (l.val - 56) / (0 + 1) < 200)
    omega
  · rw [dif_neg h]
    refine pad_apply_of_inside _ _ _ x fill pads_S200x200_S256x256_0560_5600 h_S_ (ix2 (⟨q.val, by omega⟩ : Fin 256) l) (ix2 q (⟨l.val - 56, by omega⟩ : Fin 200)) fun a => ?_
    match a with
    | ⟨0, _⟩ => show q.val = 0 + q.val * (0 + 1); omega
    | ⟨1, _⟩ => show l.val = 56 + (l.val - 56) * (0 + 1); omega

end Cert.KernelIdeal.Loop

end
-- ==== Proof.Val.Spec.lean ====
/- The mathematics of the problem, of arrays of extended reals: the nodes' embeddings (a projection of a node's features
   beside its position's row of the table), the means of the nodes' embeddings over the segments, the nodes' weights, and
   the means of the weighted embeddings. -/
module

public import Idealize.ShloMosaic.PureOps.Ideal
public import Idealize.ShloMosaic.Lib.ValueIdx

@[expose] public section

noncomputable section

namespace Cert.Spec

open Idealize.ShloMosaic Idealize.ShloMosaic.ValueIdx

/-- Arrays of one and two axes. -/
abbrev A1 (α : Type) (a : ℕ) : Type := (⟨1, ![a]⟩ : Shape).Idx → α
abbrev A2 (α : Type) (a b : ℕ) : Type := (⟨2, ![a, b]⟩ : Shape).Idx → α

/-- The problem's arrays: of the products and the queries the features, the positions and the segments, then the
    parameters. -/
structure Args where
  xp : A2 EReal 65536 128
  xq : A2 EReal 65536 128
  ip : A1 (BitVec 32) 65536
  iq : A1 (BitVec 32) 65536
  sp : A1 (BitVec 32) 65536
  sq : A1 (BitVec 32) 65536
  wp : A2 EReal 128 56
  bp : A1 EReal 56
  wq : A2 EReal 128 56
  bq : A1 EReal 56
  tab : A2 EReal 200 200
  wn : A2 EReal 256 256
  bn : A1 EReal 256
  wc : A2 EReal 256 256
  wa : A2 EReal 256 1

/-- One kind of node before the hyperbolic tangent: 56 projected lanes, then 200 of the table. -/
def row (x : A2 EReal 65536 128) (i : A1 (BitVec 32) 65536) (w : A2 EReal 128 56) (b : A1 EReal 56) (tab : A2 EReal 200 200)
    (n : Fin 65536) (l : Fin 256) : EReal :=
  if h : l.val < 56 then (∑ d : Fin 128, x (ix2 n d) * w (ix2 d (⟨l.val, h⟩ : Fin 56))) + b (ix1 (⟨l.val, h⟩ : Fin 56))
  else tab (ix2 (⟨min (i (ix1 n)).toNat 199, by omega⟩ : Fin 200) (⟨l.val - 56, by omega⟩ : Fin 200))

variable (A : Args)

/-- The nodes' embeddings: the products', then the queries'. -/
def emb (n : Fin 131072) (l : Fin 256) : EReal :=
  Ideal.tanh (if h : n.val < 65536 then row A.xp A.ip A.wp A.bp A.tab ⟨n.val, h⟩ l
    else row A.xq A.iq A.wq A.bq A.tab ⟨n.val - 65536, by omega⟩ l)

/-- The nodes' segments. -/
def seg (n : Fin 131072) : ℕ :=
  if h : n.val < 65536 then (A.sp (ix1 (⟨n.val, h⟩ : Fin 65536))).toNat else (A.sq (ix1 (⟨n.val - 65536, by omega⟩ : Fin 65536))).toNat

/-- A sum over a segment's nodes. -/
def total (f : Fin 131072 → EReal) (r : ℕ) : EReal := ∑ n : Fin 131072, if seg A n = r then f n else 0

/-- The number of a segment's nodes, at least one. -/
def count (r : ℕ) : EReal := max (total A (fun _ => 1) r) 1

/-- A mean over a segment's nodes. -/
def mean (f : Fin 131072 → EReal) (r : ℕ) : EReal := Ideal.div (total A f r) (count A r)

/-- The segments' projected means. -/
def coarse (r : ℕ) (l : Fin 256) : EReal := ∑ j : Fin 256, mean A (fun n => emb A n j) r * A.wc (ix2 j l)

/-- The nodes' own projections. -/
def own (n : Fin 131072) (l : Fin 256) : EReal := (∑ j : Fin 256, emb A n j * A.wn (ix2 j l)) + A.bn (ix1 l)

/-- The nodes' weights. -/
def weight (n : Fin 131072) : EReal := ∑ l : Fin 256, Ideal.logistic (own A n l + coarse A (seg A n) l) * A.wa (ix2 l (0 : Fin 1))

/-- The means of the weighted embeddings. -/
def out (r : ℕ) (l : Fin 256) : EReal := mean A (fun n => emb A n l * weight A n) r

theorem count_ne (r : ℕ) : count A r ≠ 0 := fun h => by
  have h1 : (1 : EReal) ≤ count A r := le_max_right _ _
  rw [h] at h1
  exact absurd h1 (not_le.2 zero_lt_one)

/-- A product with a reciprocal count is the quotient. -/
theorem mul_recip (x : EReal) (r : ℕ) : x * Ideal.div 1 (count A r) = Ideal.div x (count A r) := by
  unfold Ideal.div
  rw [if_neg (count_ne A r), if_neg (count_ne A r), one_mul]

end Cert.Spec

end
-- ==== Proof.Val.Emb.lean ====
/- The embeddings the first call computes are the problem's. -/
module

public import proofs.«01_k».proof.Proof.Val.Pads
public import proofs.«01_k».proof.Proof.Val.Spec
public import Idealize.ShloMosaic.Lib.ValueLayout

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.TcCoe
open Idealize.ShloMosaic.ValueIdx

/-- The plain product over 128 features. -/
theorem dot128 (x : FVec Ideal S2048x128 .f32) (y : FVec Ideal S128x256 .f32) (i : Fin 2048) (c : Fin 256) :
    matmul dot_S2048x128_S128x256_S2048x256_1_0_0_1_n_n none x y (constant S2048x256 .f32 0x00000000#32) (ix2 i c)
      = ∑ j : Fin 128, x (ix2 i j) * y (ix2 j c) := by
  have h := Ideal.matmul_plain_apply (M := 2048) (K := 128) (N := 256) none x y (constant S2048x256 .f32 0x00000000#32) i c
  refine h.trans ?_
  show Ideal.ofBits .f32 0x00000000#32 + _ = _
  rw [Ideal.ofBits_zero_f32, zero_add]

theorem early_iff (t : Fin grid0.N) : Scalar.cmpi .slt (BitVec.ofNat 32 (grid0.coords t 0).val) 32#32 = if t.val < 32 then 1#1 else 0#1 := by
  revert t; decide +kernel

/-- The rows' mask of positions. -/
def hotPos (v : IVec S2048x1 32) : FVec Ideal S2048x256 .f32 :=
  sitofp .f32 (extui 32 (cmpi .eq (broadcastTo S2048x256 v broadcasts_S2048x1_S2048x256) lanes) natLt_1_32)

theorem hotPos_apply (v : IVec S2048x1 32) (i : Fin 2048) (l : Fin 256) :
    (hotPos v (ix2 i l) : EReal) = if (v (ix2 i (0 : Fin 1))).toNat = l.val then 1 else 0 := by
  have h2 := bcol v broadcasts_S2048x1_S2048x256 i l
  have e : (hotPos v (ix2 i l) : EReal)
      = ((((IntOp.cmpi .eq (broadcastTo S2048x256 v broadcasts_S2048x1_S2048x256 (ix2 i l)) (lanes (ix2 i l))).setWidth 32).toInt : ℝ) : EReal) := rfl
  have hl : (lanes (ix2 i l)).toNat = l.val := by
    show (BitVec.ofNat 32 _).toNat = _
    rw [BitVec.toNat_ofNat]
    have := l.isLt
    show (0 * 256 + l.val) % _ = _
    omega
  rw [e, h2, bit_value]
  have hc : IntOp.cmpi .eq (v (ix2 i (0 : Fin 1))) (lanes (ix2 i l)) = 1#1 ↔ (v (ix2 i (0 : Fin 1))).toNat = l.val := by
    rw [IntOp.cmpi_eq, ← BitVec.toNat_inj, hl]
  simp only [hc]

/-- The parameters of the products in the first half of the blocks, of the queries in the second. -/
def pick {α : Type} (t : Fin grid0.N) (a b : α) : α := Scalar.select (Scalar.cmpi .slt (BitVec.ofNat 32 (grid0.coords t 0).val) 32#32) a b

theorem pick_eq {α : Type} (t : Fin grid0.N) (a b : α) : pick t a b = if t.val < 32 then a else b := by
  unfold pick
  rw [early_iff]
  by_cases ht : t.val < 32
  · simp only [if_pos ht]; rfl
  · simp only [if_neg ht]; rfl

/-- The block of embeddings at an element, of the blocks read. -/
theorem pay8_apply (t : Fin grid0.N) (wp wq : Vec Ideal S128x256 .f32) (bp bq : Vec Ideal S1x256 .f32) (x : Vec Ideal S2048x128 .f32)
    (v : Vec Ideal S1x2048x1 .i32) (tb : Vec Ideal S256x256 .f32) (i : Fin 2048) (l : Fin 256) (q : Fin 256)
    (hq : (v (ix3 (0 : Fin 1) i (0 : Fin 1)) : BitVec 32).toNat = q.val) :
    (k0_pay8 (grid0.coords t) wp wq bp bq x v tb (ix2 i l) : EReal)
      = Ideal.tanh (((∑ d : Fin 128, (x (ix2 i d) : EReal) * (if t.val < 32 then wp else wq) (ix2 d l)) + tb (ix2 q l))
          + (if t.val < 32 then bp else bq) (ix2 (0 : Fin 1) l)) := by
  have e : k0_pay8 (grid0.coords t) wp wq bp bq x v tb
      = tanh (addf (addf (matmul dot_S2048x128_S128x256_S2048x256_1_0_0_1_n_n none (shapeCast S2048x128 x shapeCasts_S2048x128_S2048x128)
            (pick t (shapeCast S128x256 wp shapeCasts_S128x256_S128x256) (shapeCast S128x256 wq shapeCasts_S128x256_S128x256))
            (constant S2048x256 .f32 0x00000000#32))
          (matmul dot_S2048x256_S256x256_S2048x256_1_0_0_1_n_n none (hotPos (shapeCast S2048x1 v shapeCasts_S1x2048x1_S2048x1)) (shapeCast S256x256 tb shapeCasts_S256x256_S256x256)
            (constant S2048x256 .f32 0x00000000#32)))
          (broadcastTo S2048x256 (pick t (shapeCast S1x256 bp shapeCasts_S1x256_S1x256) (shapeCast S1x256 bq shapeCasts_S1x256_S1x256))
              broadcasts_S1x256_S2048x256)) := rfl
  rw [e]
  simp only [shapeCast_self]
  show Ideal.tanh ((matmul (F := Ideal) dot_S2048x128_S128x256_S2048x256_1_0_0_1_n_n none x (pick t wp wq) (constant S2048x256 .f32 0x00000000#32) (ix2 i l)
      + matmul (F := Ideal) dot_S2048x256_S256x256_S2048x256_1_0_0_1_n_n none (hotPos (shapeCast S2048x1 v shapeCasts_S1x2048x1_S2048x1)) tb
            (constant S2048x256 .f32 0x00000000#32) (ix2 i l))
      + broadcastTo S2048x256 (pick t bp bq) broadcasts_S1x256_S2048x256 (ix2 i l)) = _
  rw [dot128, dot256, broadcastTo_1b_ab_apply, pick_eq, pick_eq]
  have hv : shapeCast S2048x1 v shapeCasts_S1x2048x1_S2048x1 (ix2 i (0 : Fin 1)) = v (ix3 (0 : Fin 1) i (0 : Fin 1)) :=
    shapeCast_1ab_ab_apply v shapeCasts_S1x2048x1_S2048x1 i (0 : Fin 1)
  have hs : ∑ j : Fin 256, (hotPos (shapeCast S2048x1 v shapeCasts_S1x2048x1_S2048x1) (ix2 i j) : EReal) * tb (ix2 j l) = tb (ix2 q l) := by
    rw [Finset.sum_eq_single q]
    · rw [hotPos_apply, hv, if_pos hq, one_mul]
    · intro j _ hj
      rw [hotPos_apply, hv, if_neg (fun h => hj (Fin.ext (h.symm.trans hq))), zero_mul]
    · intro h; exact absurd (Finset.mem_univ _) h
  rw [hs]

end Cert.KernelIdeal.Loop

end
-- ==== Proof.Val.Nodes.lean ====
/- The nodes of the kernel are the problem's: their embeddings and their segments. -/
module

public import proofs.«01_k».proof.Proof.Val.Emb
public import proofs.«01_k».proof.Proof.Val.After
public import proofs.«01_k».proof.Proof.Drawn

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.TcCoe
open Idealize.ShloMosaic.ValueIdx

attribute [local irreducible] acc0 acc2 accBlock

variable (m : (ℓ : Loc nD τ sig) → Buf (Elt Ideal) ℓ) (c : Dev nD)

/-- The problem's arrays, of the memory at the start. -/
def args : Cert.Spec.Args where
  xp := V0 m c main_arg1
  xq := V0 m c main_arg0
  ip := V0 m c main_arg3
  iq := V0 m c main_arg2
  sp := V0 m c main_arg6
  sq := V0 m c main_arg5
  wp := V0 m c main_arg9
  bp := V0 m c main_arg10
  wq := V0 m c main_arg7
  bq := V0 m c main_arg8
  tab := V0 m c main_arg11
  wn := V0 m c main_arg12
  bn := V0 m c main_arg13
  wc := V0 m c main_arg14
  wa := V0 m c main_arg15

/-- The memory's arguments are as drawn. -/
abbrev DrawnAt : Prop := Cert.Pre.Drawn (V0 m c main_arg2) (V0 m c main_arg3) (V0 m c main_arg4) (V0 m c main_arg5) (V0 m c main_arg6)

/-- One kind of node: the padded lanes of the projection and of the table add up to the two side by side. -/
theorem half (X : Cert.Spec.A2 EReal 65536 128) (I : Cert.Spec.A1 (BitVec 32) 65536) (w : Vec Ideal S128x56 .f32) (b : Vec Ideal S56 .f32)
    (tb : Vec Ideal S200x200 .f32) (n : Fin 65536) (l : Fin 256) (q : Fin 200) (hq : (I (ix1 n)).toNat = q.val) :
    ((∑ d : Fin 128, X (ix2 n d) * (wide w (ix2 d l) : EReal)) + tab tb (ix2 (⟨q.val, by omega⟩ : Fin 256) l))
        + shapeCast S1x256 (long b) shapeCasts_S256_S1x256 (ix2 (0 : Fin 1) l)
      = Cert.Spec.row X I w b tb n l := by
  have eb : shapeCast S1x256 (long b) shapeCasts_S256_S1x256 (ix2 (0 : Fin 1) l) = long b (ix1 l) := shapeCast_a_1a_apply _ _ _ _
  rw [eb, tab_apply, long_apply]
  unfold Cert.Spec.row
  by_cases h : l.val < 56
  · simp only [wide_apply, dif_pos h]
    rw [add_zero]
  · simp only [wide_apply, dif_neg h, mul_zero, Finset.sum_const_zero, zero_add, add_zero]
    refine congrArg tb (congrArg (fun a => ix2 a _) (Fin.ext ?_))
    show q.val = min (I (ix1 n)).toNat 199
    omega

/-- The embeddings of a block. -/
theorem emb0_eq (hd : DrawnAt m c) (t : T0) (i : Fin 2048) (l : Fin 256) (n : Fin 131072) (hn : n.val = t.val * 2048 + i.val) :
    (emb0 (V11 m) c t (ix2 i l) : EReal) = Cert.Spec.emb (args m c) n l := by
  have ht : t.val < 64 := lt_of_lt_of_eq t.isLt N_0
  have e1 : in0_1 (V11 m) c t (ix3 (0 : Fin 1) i (0 : Fin 1)) = joined (V0 m c main_arg3) (V0 m c main_arg2) n :=
    (in0_1_row (V11 m) c t i ⟨t.val, ht⟩ rfl).trans (v2_row m c ⟨t.val, ht⟩ i n hn)
  have hlt : (joined (V0 m c main_arg3) (V0 m c main_arg2) n : BitVec 32).toNat < 200 := by
    unfold joined; split
    · exact hd.p _
    · exact hd.q _
  have e0 : ∀ d : Fin 128, (in0_0 (V11 m) c t (ix2 i d) : EReal) = joinedRows (V0 m c main_arg1) (V0 m c main_arg0) n d := fun d =>
    (in0_0_row (V11 m) c t i d n hn).trans (v0_row m c n d)
  unfold emb0
  rw [pay8_apply t _ _ _ _ _ _ _ i l ⟨_, lt_trans hlt (by decide)⟩ (congrArg BitVec.toNat e1)]
  simp only [e0]
  rw [in0_3_whole, in0_4_whole, in0_5_whole, in0_6_whole, in0_7_whole, v5_eq, v6_eq, v8_eq, v10_eq, v11_eq]
  unfold Cert.Spec.emb
  refine congrArg Ideal.tanh ?_
  by_cases h : n.val < 65536
  · have h32 : t.val < 32 := by omega
    simp only [if_pos h32, dif_pos h, joinedRows]
    refine half _ _ _ _ _ _ l ⟨_, hlt⟩ ?_
    simp only [joined, dif_pos h]
    rfl
  · have h32 : ¬ t.val < 32 := by omega
    simp only [if_neg h32, dif_neg h, joinedRows]
    refine half _ _ _ _ _ _ l ⟨_, hlt⟩ ?_
    simp only [joined, dif_neg h]
    rfl

/-- All the embeddings. -/
theorem embAll_eq (hd : DrawnAt m c) (n : Fin 131072) (l : Fin 256) : (embAll m c (ix2 n l) : EReal) = Cert.Spec.emb (args m c) n l :=
  emb0_eq m c hd _ _ l n (by
    show n.val = n.val / 2048 * 2048 + n.val % 2048
    omega)

theorem seg_joined (n : Fin 131072) : Cert.Spec.seg (args m c) n = (joined (V0 m c main_arg6) (V0 m c main_arg5) n : BitVec 32).toNat := by
  unfold Cert.Spec.seg joined
  by_cases h : n.val < 65536
  · simp only [dif_pos h]; rfl
  · simp only [dif_neg h]; rfl

/-- The segments of a block, in either call. -/
theorem segs0_eq (t : T0) (i : Fin 2048) (n : Fin 131072) (hn : n.val = t.val * 2048 + i.val) :
    segAt (segs0 (V11 m) c t) i = Cert.Spec.seg (args m c) n := by
  have ht : t.val < 64 := lt_of_lt_of_eq t.isLt N_0
  rw [seg_joined]
  exact congrArg BitVec.toNat ((segs0_row (V11 m) c t i ⟨t.val, ht⟩ rfl).trans (v4_row m c ⟨t.val, ht⟩ i n hn))

theorem segs2_eq (t : T2) (i : Fin 2048) (n : Fin 131072) (hn : n.val = t.val * 2048 + i.val) :
    segAt (segs2 (V13 m (outs m)) c t) i = Cert.Spec.seg (args m c) n := by
  have ht : t.val < 64 := lt_of_lt_of_eq t.isLt N_2
  rw [seg_joined]
  refine congrArg BitVec.toNat ((segs2_row (V13 m (outs m)) c t i ⟨t.val, ht⟩ rfl).trans ?_)
  rw [v4_kept]
  exact v4_row m c ⟨t.val, ht⟩ i n hn

/-- Successive words that do not fall do not fall at all. -/
theorem rises (a : S65536.Idx → BitVec 32)
    (h : ∀ (k : ℕ) (hk : k + 1 < 65536), (a (ix1 (⟨k, by omega⟩ : Fin 65536))).toNat ≤ (a (ix1 (⟨k + 1, hk⟩ : Fin 65536))).toNat) (i : ℕ) (d : ℕ) (hd : i + d < 65536) :
    (a (ix1 (⟨i, by omega⟩ : Fin 65536))).toNat ≤ (a (ix1 (⟨i + d, hd⟩ : Fin 65536))).toNat := by
  induction d with
  | zero => exact le_refl _
  | succ d ih => exact (ih (by omega)).trans (h (i + d) hd)

theorem seg_rises (hd : DrawnAt m c) (t : ℕ) (ht : t < 64) (i j : Fin 2048) (hij : i ≤ j) :
    Cert.Spec.seg (args m c) (rowNo t ht i) ≤ Cert.Spec.seg (args m c) (rowNo t ht j) := by
  have hij' : i.val ≤ j.val := hij
  unfold Cert.Spec.seg rowNo
  by_cases h : t < 32
  · have h1 : t * 2048 + i.val < 65536 := by omega
    have h2 : t * 2048 + j.val < 65536 := by omega
    simp only [dif_pos h1, dif_pos h2]
    have e := rises (V0 m c main_arg6) hd.up6 (t * 2048 + i.val) (j.val - i.val) (by omega)
    have e2 : t * 2048 + i.val + (j.val - i.val) = t * 2048 + j.val := by omega
    simp only [e2] at e
    exact e
  · have h1 : ¬ t * 2048 + i.val < 65536 := by omega
    have h2 : ¬ t * 2048 + j.val < 65536 := by omega
    simp only [dif_neg h1, dif_neg h2]
    have e := rises (V0 m c main_arg5) hd.up5 (t * 2048 + i.val - 65536) (j.val - i.val) (by omega)
    have e2 : t * 2048 + i.val - 65536 + (j.val - i.val) = t * 2048 + j.val - 65536 := by omega
    simp only [e2] at e
    exact e

theorem rising0 (hd : DrawnAt m c) (t : T0) : Rising (segs0 (V11 m) c t) := fun i j hij => by
  have ht : t.val < 64 := lt_of_lt_of_eq t.isLt N_0
  rw [segs0_eq m c t i (rowNo t.val ht i) rfl, segs0_eq m c t j (rowNo t.val ht j) rfl]
  exact seg_rises m c hd t.val ht i j hij

theorem rising2 (hd : DrawnAt m c) (t : T2) : Rising (segs2 (V13 m (outs m)) c t) := fun i j hij => by
  have ht : t.val < 64 := lt_of_lt_of_eq t.isLt N_2
  rw [segs2_eq m c t i (rowNo t.val ht i) rfl, segs2_eq m c t j (rowNo t.val ht j) rfl]
  exact seg_rises m c hd t.val ht i j hij

/-- A sum over the blocks' rows is a sum over the nodes. -/
theorem sum_blocks (f : Fin 131072 → EReal) : ∑ t : Fin 64, ∑ i : Fin 2048, f (rowNo t.val t.isLt i) = ∑ n : Fin 131072, f n := by
  rw [← Fintype.sum_prod_type' (fun (t : Fin 64) (i : Fin 2048) => f (rowNo t.val t.isLt i))]
  refine Fintype.sum_equiv (finProdFinEquiv (m := 64) (n := 2048)) _ _ fun x => congrArg f (Fin.ext ?_)
  show x.1.val * 2048 + x.2.val = x.2.val + 2048 * x.1.val
  omega

end Cert.KernelIdeal.Loop

end
-- ==== Proof.Val.Final.lean ====
/- The kernel's result is the problem's. -/
module

public import proofs.«01_k».proof.Proof.Val.Nodes
public import proofs.«01_k».proof.Proof.Val.Acc

@[expose] public section

set_option maxRecDepth 16384

noncomputable section

namespace Cert.KernelIdeal.Loop

open Cert.KernelIdeal Cert.KernelIdeal.Gen Cert.Window Cert.KernelIdeal.Facts
open Idealize.ShloMosaic hiding ix1 ix2 ix3 ix4
open Idealize.ShloMosaic.TcCoe
open Idealize.ShloMosaic.ValueIdx

attribute [local irreducible] acc0 acc2 accBlock emb0

variable (m : (ℓ : Loc nD τ sig) → Buf (Elt Ideal) ℓ) (c : Dev nD)

/-- The plain product over a segment's lanes. -/
theorem dotSeg (x : FVec Ideal S4352x256 .f32) (y : FVec Ideal S256x256 .f32) (r : Fin 4352) (l : Fin 256) :
    matmul dot_S4352x256_S256x256_S4352x256_1_0_0_1_n_n none x y (constant S4352x256 .f32 0x00000000#32) (ix2 r l)
      = ∑ j : Fin 256, x (ix2 r j) * y (ix2 j l) := by
  have h := Ideal.matmul_plain_apply (M := 4352) (K := 256) (N := 256) none x y (constant S4352x256 .f32 0x00000000#32) r l
  refine h.trans ?_
  show Ideal.ofBits .f32 0x00000000#32 + _ = _
  rw [Ideal.ofBits_zero_f32, zero_add]

/-- The reciprocal counts' column. -/
theorem recip_apply (X : Vec Ideal S4352x1 .f32) (r : Fin 4352) :
    (k1_pay1 X (ix2 r (0 : Fin 1)) : EReal) = Ideal.div 1 (max (X (ix2 r (0 : Fin 1))) 1) := by
  have e : k1_pay1 X = divf (broadcast S4352x1 (Scalar.ofBits .f32 0x3F800000#32)) (maximumf (shapeCast S4352x1 X shapeCasts_S4352x1_S4352x1)
      (broadcast S4352x1 (Scalar.ofBits .f32 0x3F800000#32))) := rfl
  rw [e, shapeCast_self]
  show Ideal.div (Ideal.ofBits .f32 0x3F800000#32) (max (X (ix2 r (0 : Fin 1))) (Ideal.ofBits .f32 0x3F800000#32)) = _
  rw [Ideal.ofBits_one_f32]

/-- A column read as a row. -/
theorem turned (x : Vec Ideal S256x1 .f32) (k : Fin 256) : shapeCast S1x256 x shapeCasts_S256x1_S1x256 (ix2 (0 : Fin 1) k) = x (ix2 k (0 : Fin 1)) := by
  refine shapeCast_apply _ _ _ _ ?_
  rw [Shape.rowMajor_val_two, Shape.rowMajor_val_two]
  show k.val * 1 + 0 = 0 * 256 + k.val
  omega

theorem firstLane_apply (X : Vec Ideal S4352x128 .f32) (r : Fin 4352) : firstLane X (ix2 r (0 : Fin 1)) = X (ix2 r (0 : Fin 128)) := by
  unfold firstLane
  refine congrArg X (funext fun a => Fin.ext ?_)
  match a with
  | ⟨0, _⟩ =>
    show 0 + 1 * r.val = r.val
    omega
  | ⟨1, _⟩ => rfl

theorem wc_kept : V11 m c main_arg14 = V0 m c main_arg14 :=
  (V11_of m c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))

theorem wn_kept : V11 m c main_arg12 = V0 m c main_arg12 :=
  (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))

variable (hd : DrawnAt m c)
include hd

/-- The sums and the counts the first call leaves. -/
theorem sums_eq (r : Fin 4352) (l : Fin 256) :
    ((acc0 (V11 m) c 64).1 (ix2 r l) : EReal) = Cert.Spec.total (args m c) (fun n => Cert.Spec.emb (args m c) n l) r.val := by
  rw [acc0_sums_end (V11 m) c (ok0 m c hd.s5 hd.s6) (rising0 m c hd)]
  unfold Cert.Spec.total
  rw [← sum_blocks]
  refine Finset.sum_congr rfl fun t _ => ?_
  unfold adds0
  refine Finset.sum_congr rfl fun i _ => ?_
  rw [segs0_eq m c (t.cast N_0.symm) i (rowNo t.val t.isLt i) rfl, emb0_eq m c hd (t.cast N_0.symm) i l (rowNo t.val t.isLt i) rfl]

theorem counts_eq (r : Fin 4352) (l : Fin 128) :
    ((acc0 (V11 m) c 64).2 (ix2 r l) : EReal) = Cert.Spec.total (args m c) (fun _ => 1) r.val := by
  rw [acc0_counts_end (V11 m) c (ok0 m c hd.s5 hd.s6) (rising0 m c hd)]
  unfold Cert.Spec.total
  rw [← sum_blocks]
  refine Finset.sum_congr rfl fun t _ => ?_
  unfold ones0
  refine Finset.sum_congr rfl fun i _ => ?_
  rw [segs0_eq m c (t.cast N_0.symm) i (rowNo t.val t.isLt i) rfl]

theorem recip_eq (r : Fin 4352) :
    (k1_pay1 (firstLane (acc0 (V11 m) c 64).2) (ix2 r (0 : Fin 1)) : EReal) = Ideal.div 1 (Cert.Spec.count (args m c) r.val) := by
  rw [recip_apply, firstLane_apply, counts_eq m c hd]
  rfl

/-- The reciprocals the second call leaves. -/
theorem inv_eq (r : Fin 4352) (l : Fin 256) :
    (V13 m (outs m) c main_v15_1 (ix2 r l) : EReal) = Ideal.div 1 (Cert.Spec.count (args m c) r.val) := by
  rw [inv_after, ← recip_eq m c hd]
  have e : k1_pay2 (firstLane (acc0 (V11 m) c 64).2) = broadcastTo S4352x256 (shapeCast S4352x1 (k1_pay1 (firstLane (acc0 (V11 m) c 64).2)) shapeCasts_S4352x1_S4352x1)
      broadcasts_S4352x1_S4352x256 := rfl
  rw [e, shapeCast_self]
  exact bcol _ _ _ _

/-- The projected means the second call leaves. -/
theorem proj_eq (r : Fin 4352) (l : Fin 256) : (V13 m (outs m) c main_v15_0 (ix2 r l) : EReal) = Cert.Spec.coarse (args m c) r.val l := by
  rw [proj_after]
  have e : k1_pay3 (firstLane (acc0 (V11 m) c 64).2) (acc0 (V11 m) c 64).1 (V11 m c main_arg14)
      = matmul dot_S4352x256_S256x256_S4352x256_1_0_0_1_n_n none (mulf (shapeCast S4352x256 (acc0 (V11 m) c 64).1 shapeCasts_S4352x256_S4352x256)
          (broadcastTo S4352x256 (k1_pay1 (firstLane (acc0 (V11 m) c 64).2)) broadcasts_S4352x1_S4352x256)) (V11 m c main_arg14)
          (constant S4352x256 .f32 0x00000000#32) := rfl
  rw [e, shapeCast_self]
  refine (dotSeg _ _ r l).trans ?_
  unfold Cert.Spec.coarse
  refine Finset.sum_congr rfl fun j _ => ?_
  have e2 : (broadcastTo S4352x256 (k1_pay1 (firstLane (acc0 (V11 m) c 64).2)) broadcasts_S4352x1_S4352x256 (ix2 r j) : EReal)
      = Ideal.div 1 (Cert.Spec.count (args m c) r.val) := (bcol _ _ _ _).trans (recip_eq m c hd r)
  have e3 : (V11 m c main_arg14 : Vec Ideal S256x256 .f32) = V0 m c main_arg14 := wc_kept m c
  refine congrArg₂ (· * ·) ?_ (congrFun e3 (ix2 j l))
  refine (mulf_apply _ _ _).trans ?_
  rw [e2, sums_eq m c hd]
  exact Cert.Spec.mul_recip (args m c) _ _

/-- The last call's rows. -/
theorem rows2 (t : T2) (i : Fin 2048) (n : Fin 131072) (hn : n.val = t.val * 2048 + i.val) (l : Fin 256) :
    (in2_0 (V13 m (outs m)) c t (ix2 i l) : EReal) = Cert.Spec.emb (args m c) n l := by
  rw [in2_0_row (V13 m (outs m)) c t i l n hn, V13_of m (outs m) c main_v14_0 (by decide), emb_after]
  exact embAll_eq m c hd n l

/-- What a point of the last call adds. -/
theorem adds2_eq (r : Fin 4352) (l : Fin 256) (t : T2) (ht : t.val < 64) :
    adds2 (V13 m (outs m)) c r l t
      = ∑ i : Fin 2048, if Cert.Spec.seg (args m c) (rowNo t.val ht i) = r.val then
          Cert.Spec.emb (args m c) (rowNo t.val ht i) l * Cert.Spec.weight (args m c) (rowNo t.val ht i) else 0 := by
  unfold adds2
  refine Finset.sum_congr rfl fun i _ => ?_
  rw [segs2_eq m c t i (rowNo t.val ht i) rfl]
  by_cases h : Cert.Spec.seg (args m c) (rowNo t.val ht i) = r.val
  · rw [if_pos h, if_pos h]
    have e2 : (k2_pay2 (in2_0 (V13 m (outs m)) c t) (ix2 i l) : EReal) = Cert.Spec.emb (args m c) (rowNo t.val ht i) l := by
      show (shapeCast S2048x256 (in2_0 (V13 m (outs m)) c t) shapeCasts_S2048x256_S2048x256 (ix2 i l) : EReal) = _
      rw [shapeCast_self]
      exact rows2 m c hd t i _ rfl l
    rw [e2]
    refine congrArg (Cert.Spec.emb (args m c) (rowNo t.val ht i) l * ·) ?_
    unfold attn Cert.Spec.weight
    refine Finset.sum_congr rfl fun k _ => ?_
    have e4 : (k2_pay4 (in2_6 (V13 m (outs m)) c t) (ix2 (0 : Fin 1) k) : EReal) = V0 m c main_arg15 (ix2 k (0 : Fin 1)) := by
      show (shapeCast S1x256 (in2_6 (V13 m (outs m)) c t) shapeCasts_S1x256_S1x256 (ix2 (0 : Fin 1) k) : EReal) = _
      rw [shapeCast_self, in2_6_whole, V13_of m (outs m) c main_v12 (by decide), V12_of m (outs m) c main_v12 (by decide), v12_eq]
      exact turned _ k
    have e3 : (k2_pay3 (in2_0 (V13 m (outs m)) c t) (in2_4 (V13 m (outs m)) c t) (in2_5 (V13 m (outs m)) c t) (ix2 i k) : EReal)
        = Cert.Spec.own (args m c) (rowNo t.val ht i) k := by
      show ((matmul (F := Ideal) dot_S2048x256_S256x256_S2048x256_1_0_0_1_n_n none (shapeCast S2048x256 (in2_0 (V13 m (outs m)) c t) shapeCasts_S2048x256_S2048x256)
          (in2_4 (V13 m (outs m)) c t) (constant S2048x256 .f32 0x00000000#32) (ix2 i k) : EReal)
          + broadcastTo S2048x256 (shapeCast S1x256 (in2_5 (V13 m (outs m)) c t) shapeCasts_S1x256_S1x256) broadcasts_S1x256_S2048x256 (ix2 i k)) = _
      rw [shapeCast_self, shapeCast_self, dot256, broadcastTo_1b_ab_apply, in2_5_whole, in2_4_whole]
      rw [V13_of m (outs m) c main_v13 (by decide), V12_of m (outs m) c main_v13 (by decide), v13_eq]
      unfold Cert.Spec.own
      refine congrArg₂ (· + ·) (Finset.sum_congr rfl fun j _ => ?_) (shapeCast_a_1a_apply _ _ _ _)
      have e5 : (V13 m (outs m) c main_arg12 : Vec Ideal S256x256 .f32) = V0 m c main_arg12 :=
        (V13_of m (outs m) c main_arg12 (by decide)).trans ((V12_of m (outs m) c main_arg12 (by decide)).trans (wn_kept m c))
      exact congrArg₂ (· * ·) (rows2 m c hd t i _ rfl j) (congrFun e5 (ix2 j k))
    dsimp only
    rw [e3, e4, in2_2_whole, proj_eq m c hd, h]
    rfl
  · rw [if_neg h, if_neg h]

/-- The kernel's result. -/
theorem result_eq (r : Fin 4096) (l : Fin 256) :
    (V15 m (outs m) c main_v17 (ix2 r l) : EReal) = Cert.Spec.out (args m c) r.val l := by
  have hr : r.val < 4352 := by omega
  have e : V15 m (outs m) c main_v17 (ix2 r l) = V14 m (outs m) c main_v16 (ix2 (⟨r.val, hr⟩ : Fin 4352) l) := by
    rw [v17_eq]
    refine congrArg (V14 m (outs m) c main_v16) (funext fun a => Fin.ext ?_)
    match a with
    | ⟨0, _⟩ => show 0 + r.val = r.val; omega
    | ⟨1, _⟩ => show 0 + l.val = l.val; omega
  rw [e, out_after]
  have h63 : 63 < (cfg2 (F := Ideal)).N := by rw [show (cfg2 (F := Ideal)).N = 64 from N_2]; decide
  have e2 := acc2_end (V13 m (outs m)) c (ok2 m c hd.s5 hd.s6) (rising2 m c hd) (⟨r.val, hr⟩ : Fin 4352) l ⟨63, h63⟩ rfl
  refine e2.trans ?_
  rw [in2_3_whole, inv_eq m c hd, Cert.Spec.mul_recip]
  unfold Cert.Spec.out Cert.Spec.mean
  refine congrArg (Ideal.div · _) ?_
  unfold Cert.Spec.total
  rw [← sum_blocks]
  exact Finset.sum_congr rfl fun t _ => adds2_eq m c hd _ _ _ t.isLt

end Cert.KernelIdeal.Loop

end
-- ==== Proof.Ref.Read.lean ====
/- What a taking of rows reads when every index is in range, and what a summing of rows by segment reads. -/
module

public import Idealize.ShloMosaic.Lib.ReduceAll
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.Routing.OpsSearch
public import Idealize.ShloMosaic.PureOps.Ideal

@[expose] public section

noncomputable section

namespace Cert.ReferenceIdeal.Read

open Idealize.ShloMosaic Idealize.ShloMosaic.ValueIdx Idealize.ShloMosaic.Routing

/-- Indices that are not negative are not wrapped. -/
theorem wrapped {n : ℕ} (w a z : IVec (shape1 n) 32) (hz : ∀ i, z i = 0#32) (hw : ∀ i, (w i).toNat < 2 ^ 31) :
    select (cmpi .slt w z) a w = w := by
  funext i
  show Scalar.select (IntOp.cmpi .slt (w i) (z i)) (a i) (w i) = w i
  rw [hz i]
  exact wrap_of_lt _ _ (hw i)

/-- Every index of a column in range: the mask is one. -/
theorem mask_one {n k : ℕ} (col lo hi : IVec (shape2 n 1) 32) (hk : k < 2 ^ 31) (hcol : ∀ i, (col i).toNat ≤ k)
    (hlo : ∀ i, lo i = 0#32) (hhi : ∀ i, hi i = BitVec.ofNat 32 k) (init : IVec shape0 1) (hinit : ∀ i, init i = 1#1)
    (h : (shape2 n 1).ReducesTo [1] (shape1 n)) (hu : 0 < shape0.numel) (p : (shape1 n).Idx) :
    Host.reduce IntOp.andi (andi (cmpi .sge col lo) (cmpi .sle col hi)) init h hu p = 1#1 := by
  refine Host.reduce_andi_one _ _ h hu p (hinit _) fun i => ?_
  show IntOp.andi (IntOp.cmpi .sge (col i) (lo i)) (IntOp.cmpi .sle (col i) (hi i)) = 1#1
  have hc := hcol i
  rw [hlo i, hhi i]
  have e1 : IntOp.cmpi .sge (col i) 0#32 = 1#1 := by
    rw [StableHlo.Predicate.sge_iff_toNat (by omega) (by decide)]
    exact Nat.zero_le _
  have e2 : IntOp.cmpi .sle (col i) (BitVec.ofNat 32 k) = 1#1 := by
    rw [StableHlo.Predicate.sle_iff_toNat (by omega) (by rw [BitVec.toNat_ofNat, Nat.mod_eq_of_lt (by omega)]; omega)]
    rw [BitVec.toNat_ofNat, Nat.mod_eq_of_lt (by omega)]
    exact hc
  rw [e1, e2]
  rfl

/-- A row of a summing of rows by segment: the rows whose segment it is. -/
theorem lands_row {R C U : ℕ} (d : ScatterDims (shape2 R C) (shape2 U 1) (shape2 U C)) (huw : d.updateWindowDims = [1])
    (hiw : d.insertedWindowDims = [0]) (hsd : d.scatterDimsToOperandDims = [0]) (hivd : d.indexVectorDim = 1)
    (idx : IVec (shape2 U 1) 32) (u : Fin U) (y : Fin C) (r : Fin R) (l : Fin C) :
    d.resultIdx? (ix2 u y) idx = some (ix2 r l) ↔ (idx (ix2 u (0 : Fin 1))).toInt = (r.val : Int) ∧ y = l := by
  have hm : (0 : Fin 2) ∈ d.scatterDimsToOperandDims := by rw [hsd]; exact List.mem_singleton.2 rfl
  have hkept : d.sKept = [1] := by
    show (shape2 R C).kept d.insertedWindowDims = _
    rw [hiw]
    rfl
  have hwin0 : d.window (ix2 u y) 0 = 0 := by
    unfold ScatterDims.window
    rw [dif_neg fun h => (of_decide_eq_true (List.mem_filter.1 h).2) (by rw [hiw]; exact List.mem_singleton.2 rfl)]
  have hwin1 : d.window (ix2 u y) 1 = y.val := by
    unfold ScatterDims.window
    rw [dif_pos (by rw [hkept]; exact List.mem_singleton.2 rfl)]
    have q : ∀ X ∈ d.updateWindowDims, (ix2 u y X).val = y.val := fun X hX => by
      rw [huw] at hX
      obtain rfl := List.mem_singleton.1 hX
      rfl
    exact q _ (List.getElem_mem _)
  have hstart1 : d.start (ix2 u y) idx 1 = 0 := by
    unfold ScatterDims.start
    rw [dif_neg fun h => by rw [hsd] at h; exact absurd (List.mem_singleton.1 h) (by decide : (1 : Fin 2) ≠ 0)]
  have hstart0 : d.start (ix2 u y) idx 0 = (idx (ix2 u (0 : Fin 1))).toInt := by
    unfold ScatterDims.start
    rw [dif_pos hm]
    have hsi : d.siIdx (ix2 u y) ⟨d.scatterDimsToOperandDims.idxOf 0, List.idxOf_lt_length_iff.2 hm⟩ = ix2 u (0 : Fin 1) := by
      funext b'
      match b' with
      | ⟨0, _⟩ =>
        apply Fin.ext
        unfold ScatterDims.siIdx
        rw [dif_neg (by rw [hivd]; exact Nat.zero_ne_one)]
        unfold ScatterDims.siCoord
        simp only [Fin.val_cast]
        have hus : d.uScatter = [0] := by
          show (shape2 U C).kept d.updateWindowDims = _
          rw [huw]
          rfl
        have q : ∀ X ∈ d.uScatter, (ix2 u y X).val = u.val := fun X hX => by
          rw [hus] at hX
          obtain rfl := List.mem_singleton.1 hX
          rfl
        exact q _ (List.getElem_mem _)
      | ⟨1, _⟩ => exact Subsingleton.elim (α := Fin 1) _ _
    rw [hsi]
  rw [Fin.ext_iff, resultIdx?_ix2, hstart0, hwin0, hstart1, hwin1]
  omega

theorem add_rows {R C U : ℕ} {φ : FTy} (d : ScatterDims (shape2 R C) (shape2 U 1) (shape2 U C)) (huw : d.updateWindowDims = [1])
    (hiw : d.insertedWindowDims = [0]) (hsd : d.scatterDimsToOperandDims = [0]) (hivd : d.indexVectorDim = 1)
    (x : FVec Ideal (shape2 R C) φ) (hx : ∀ i, (x i : EReal) = 0) (idx : IVec (shape2 U 1) 32) (s : Fin U → ℕ)
    (hs : ∀ u, (idx (ix2 u (0 : Fin 1))).toInt = (s u : Int)) (upd : FVec Ideal (shape2 U C) φ) (r : Fin R) (l : Fin C) :
    (Host.scatterAdd d x idx upd (ix2 r l) : EReal) = ∑ u : Fin U, if s u = r.val then (upd (ix2 u l) : EReal) else 0 := by
  show Ideal.hostScatterAdd d x idx upd (ix2 r l) = _
  unfold Ideal.hostScatterAdd
  rw [hx, zero_add, ← Finset.sum_filter]
  have key : ∀ j : (shape2 U C).Idx, d.resultIdx? j idx = some (ix2 r l) → s (j 0) = r.val ∧ j = ix2 (j 0 : Fin U) l := by
    intro j h
    have ej : j = ix2 (j 0 : Fin U) (j 1 : Fin C) := eq_ix2 j
    have h' := (lands_row d huw hiw hsd hivd idx (j 0 : Fin U) (j 1 : Fin C) r l).1 ((congrArg (fun k => d.resultIdx? k idx) ej).symm.trans h)
    refine ⟨?_, ej.trans (congrArg (ix2 (j 0 : Fin U)) h'.2)⟩
    exact Int.ofNat_inj.1 ((hs (j 0 : Fin U)).symm.trans h'.1)
  refine Finset.sum_nbij' (fun j => (j 0 : Fin U)) (fun u => ix2 u l) ?_ ?_ ?_ ?_ ?_
  · intro j hj
    exact Finset.mem_filter.2 ⟨Finset.mem_univ _, (key j (Finset.mem_filter.1 hj).2).1⟩
  · intro u hu
    refine Finset.mem_filter.2 ⟨Finset.mem_univ _, (lands_row d huw hiw hsd hivd idx u l r l).2 ⟨?_, rfl⟩⟩
    rw [hs, (Finset.mem_filter.1 hu).2]
  · intro j hj
    exact (key j (Finset.mem_filter.1 hj).2).2.symm
  · intro u hu
    rfl
  · intro j hj
    exact congrArg upd (key j (Finset.mem_filter.1 hj).2).2

end Cert.ReferenceIdeal.Read

end
-- ==== Proof.Ref.Repeat.lean ====
/- The reference's repeat, of every product once: the indices it computes count up from nought. -/
module

public import proofs.«01_k».proof.Proof.Ref.Read
public import proofs.«01_k».proof.Proof.Gen.ReferenceIdeal.Run
public import Idealize.ShloMosaic.Lib.Pipeline.Value

@[expose] public section

set_option maxRecDepth 16384

noncomputable section

namespace Cert.ReferenceIdeal.Read

open Cert.ReferenceIdeal Cert.ReferenceIdeal.Gen Cert.ReferenceIdeal.Value
open Idealize.ShloMosaic
open Idealize.ShloMosaic.TcCoe Idealize.ShloMosaic.StableHlo
open Idealize.ShloMosaic.ValueIdx Idealize.ShloMosaic.Routing

/-- A literal broadcast is that literal everywhere. -/
theorem bcLit {s : Shape} (hb : S_.BroadcastsInDim s (![] : Fin 0 → Fin s.rank)) (k : BitVec 32) (i : s.Idx) :
    broadcastInDim s ![] hb (constantI S_ 32 k) i = k := bc0 hb _ i

/-- Words that count up. -/
abbrev upTo : IVec S65536 32 := fun i => BitVec.ofNat 32 (i 0).val

theorem upTo_lt (i : S65536.Idx) : (upTo i).toNat < 65536 := by
  have h := (i 0).isLt
  change (i 0).val < 65536 at h
  show (BitVec.ofNat 32 (i 0).val).toNat < 65536
  rw [BitVec.toNat_ofNat, Nat.mod_eq_of_lt (by omega)]
  exact h

/-- Ones turned about are ones. -/
theorem turned_ones (w : IVec S65536 32) (hw : ∀ i, w i = 1#32) (i : Fin 65536) :
    concatenate S65536 0 [⟨S1, (extractStridedSlice S1 ![65535] w slices_S65536_S1_65535)⟩,
      ⟨S65535, (extractStridedSlice S65535 ![0] w slices_S65536_S65535_0)⟩] concatenates_S1_S65535_S65536_d0 (ix1 i) = 1#32 := by
  by_cases h : i.val = 0
  · refine (concatenate_pair_apply_left (s₁ := S1) (s₂ := S65535) (t := S65536) 0 _ _ _ (ix1 i) rfl (ix1 (0 : Fin 1)) ?_).trans (hw _)
    intro b; match b with | ⟨0, _⟩ => exact h.symm
  · refine (concatenate_pair_apply_right (s₁ := S1) (s₂ := S65535) (t := S65536) 0 _ _ _ (ix1 i) rfl rfl
      (ix1 (⟨i.val - 1, by omega⟩ : Fin 65535)) ?_ ?_).trans (hw _)
    · intro b hb; match b with | ⟨0, _⟩ => exact absurd rfl hb
    · show i.val - 1 + 1 = i.val; omega

/-- Ones turned about, the first made nought. -/
def turned (w : IVec S65536 32) : IVec S65536 32 :=
  Host.scatter scatter_S65536_S1_S__n_0_0_0 (fun _ b => b) (concatenate S65536 0 [⟨S1, (extractStridedSlice S1 ![65535] w slices_S65536_S1_65535)⟩, ⟨S65535, (extractStridedSlice S65535 ![0] w slices_S65536_S65535_0)⟩] concatenates_S1_S65535_S65536_d0) (broadcastInDim S1 ![] bcast_S_S1 (constantI S_ 32 0#32)) (constantI S_ 32 0#32)

theorem turned_apply (w : IVec S65536 32) (hw : ∀ i, w i = 1#32) (i : Fin 65536) :
    turned w (ix1 i) = BitVec.ofNat 32 (if i.val = 0 then 0 else 1) := by
  refine (scatter_one scatter_S65536_S1_S__n_0_0_0 rfl rfl _ _ _ (0 : Fin 65536) (by decide) (bcLit bcast_S_S1 _ _) i).trans ?_
  by_cases h0 : i = 0
  · rw [if_pos h0, if_pos (by rw [h0]; rfl)]; rfl
  · rw [if_neg h0, if_neg (show ¬ i.val = 0 from fun h => h0 (Fin.ext h))]
    exact turned_ones w hw i

/-- Running sums. -/
def running (x : IVec S65536 32) : IVec S65536 32 :=
  Host.reduceWindow IntOp.addi ![65536] ![1] ![65535] ![0] x (broadcastInDim S_ ![] bcast_S_S_ (constantI S_ 32 0#32)) reduceWindows_S65536_S65536_w65536s1p65535_0 h_S_

theorem running_apply (x : IVec S65536 32) (f : ℕ → ℕ) (hx : ∀ i : Fin 65536, x (ix1 i) = BitVec.ofNat 32 (f i.val)) (j : Fin 65536) :
    running x (ix1 j) = BitVec.ofNat 32 ((List.range (j.val + 1)).map f).sum :=
  cumsum1 (N := 65536) (Nm1 := 65535) rfl x f hx _ (bcLit bcast_S_S_ _ _) reduceWindows_S65536_S65536_w65536s1p65535_0 h_S_ j

theorem starts_ones (w : IVec S65536 32) (hw : ∀ i, w i = 1#32) : running (turned w) = upTo := by
  funext j
  obtain ⟨j, rfl⟩ : ∃ k : Fin 65536, j = ix1 k := ⟨j 0, eq_ix1 j⟩
  refine (running_apply _ (fun n => if n = 0 then 0 else 1) (turned_apply w hw) j).trans ?_
  show _ = BitVec.ofNat 32 j.val
  congr 1
  generalize j.val = k
  induction k with
  | zero => rfl
  | succ k ih => rw [List.range_succ, List.map_append, List.sum_append, ih]; simp

/-- How often each index starts a repeat. -/
def tally (v : IVec S65536 32) : IVec S65536 32 :=
  Host.scatter scatter_S65536_S65536x1_S65536_n_0_0_1 IntOp.addi (broadcastInDim S65536 ![] bcast_S_S65536 (constantI S_ 32 0#32)) (broadcastInDim S65536x1 ![0] bcast_S65536_S65536x1_0 (select (cmpi .slt v (broadcastInDim S65536 ![] bcast_S_S65536 (constantI S_ 32 0#32))) (addi v (broadcastInDim S65536 ![] bcast_S_S65536 (constantI S_ 32 65536#32))) v)) (broadcastInDim S65536 ![] bcast_S_S65536 (constantI S_ 32 1#32))

theorem count_self (N x : ℕ) (hx : x < N) : Nat.count (fun i => i = x) N = 1 := by
  rw [Nat.count_eq_card_filter_range]
  refine Finset.card_eq_one.2 ⟨x, ?_⟩
  ext a
  simp only [Finset.mem_filter, Finset.mem_range, Finset.mem_singleton]
  omega

theorem column_upTo (a : IVec S65536 32) (i : Fin 65536) :
    broadcastInDim S65536x1 ![0] bcast_S65536_S65536x1_0 (select (cmpi .slt upTo (broadcastInDim S65536 ![] bcast_S_S65536 (constantI S_ 32 0#32))) a upTo)
      (ix2 i (0 : Fin 1)) = BitVec.ofNat 32 i.val := by
  refine (bcCol bcast_S65536_S65536x1_0 _ i).trans ?_
  rw [wrapped upTo a _ (bcLit bcast_S_S65536 _) fun i => (upTo_lt i).trans (by decide)]

theorem tally_upTo (i : Fin 65536) : tally upTo (ix1 i) = BitVec.ofNat 32 1 :=
  (scatter_hist scatter_S65536_S65536x1_S65536_n_0_0_1 rfl rfl rfl _ (bcLit bcast_S_S65536 _) _ _ (bcLit bcast_S_S65536 _) (fun n => n)
    (column_upTo _) (fun i => by have := i.isLt; omega) i).trans (congrArg (BitVec.ofNat 32) (count_self 65536 i.val i.isLt))

/-- The repeats' indices, of their starts. -/
def places (v : IVec S65536 32) : IVec S65536 32 :=
  subi (running (tally v)) (broadcastInDim S65536 ![] bcast_S_S65536 (constantI S_ 32 1#32))

theorem places_upTo : places upTo = upTo := by
  funext j
  obtain ⟨j, rfl⟩ : ∃ k : Fin 65536, j = ix1 k := ⟨j 0, eq_ix1 j⟩
  have e : ((List.range (j.val + 1)).map fun _ => 1).sum = j.val + 1 := by simp
  have h := running_apply _ (fun _ => 1) tally_upTo j
  rw [e] at h
  show running (tally upTo) (ix1 j) - broadcastInDim S65536 ![] bcast_S_S65536 (constantI S_ 32 1#32) (ix1 j) = BitVec.ofNat 32 j.val
  rw [h, bcLit, BitVec.ofNat_add]
  exact BitVec.add_sub_cancel _ _

variable (V : Valuation τ sig (Elt Ideal))

theorem v26_eq (h4 : ∀ i, (V (Proc.devRef .tc main_arg4) : IVec S65536 32) i = 1#32) : (res_main_v26 V : IVec S65536 32) = upTo := by
  have e : (res_main_v26 V : IVec S65536 32) = places (running (turned (V (Proc.devRef .tc main_arg4)))) := rfl
  rw [e, starts_ones _ h4, places_upTo]

theorem v46_eq (h4 : ∀ i, (V (Proc.devRef .tc main_arg4) : IVec S65536 32) i = 1#32) : (res_main_v46 V : IVec S65536 32) = upTo := by
  have e : (res_main_v46 V : IVec S65536 32) = places (running (turned (V (Proc.devRef .tc main_arg4)))) := rfl
  rw [e, starts_ones _ h4, places_upTo]

end Cert.ReferenceIdeal.Read

end
-- ==== Proof.Ref.Nodes.lean ====
/- The reference's node embeddings and segments are the problem's. -/
module

public import proofs.«01_k».proof.Proof.Ref.Repeat
public import proofs.«01_k».proof.Proof.Drawn
public import proofs.«01_k».proof.Proof.Val.Spec
public import Idealize.ShloMosaic.Lib.StackMember

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.StableHlo
open Idealize.ShloMosaic.ValueIdx Idealize.ShloMosaic.Routing

/-- A column of indices, a negative one counted from the end. -/
def colOf (size : BitVec 32) (w : IVec S65536 32) : IVec S65536x1 32 :=
  broadcastInDim S65536x1 ![0] bcast_S65536_S65536x1_0 (select (cmpi .slt w (broadcastInDim S65536 ![] bcast_S_S65536 (constantI S_ 32 0#32))) (addi w (broadcastInDim S65536 ![] bcast_S_S65536 (constantI S_ 32 size))) w)

theorem colOf_apply (size : BitVec 32) (w : IVec S65536 32) (hw : ∀ i, (w i).toNat < 2 ^ 31) (p : Fin 65536) (q : Fin 1) :
    colOf size w (ix2 p q) = w (ix1 p) := by
  obtain rfl : q = 0 := Subsingleton.elim _ _
  refine (bcCol bcast_S65536_S65536x1_0 _ p).trans ?_
  rw [wrapped w _ _ (bcLit bcast_S_S65536 _) hw]

/-- Which indices of a column are in range. -/
def maskOf (k : BitVec 32) (col : IVec S65536x1 32) : IVec S65536 1 :=
  Host.reduce IntOp.andi (andi (cmpi .sge col (broadcastInDim S65536x1 ![] bcast_S_S65536x1 (constantI S_ 32 0#32))) (cmpi .sle col (broadcastInDim S65536x1 ![0, 1] bcast_S1x1_S65536x1_0_1 (broadcastInDim S1x1 ![1] bcast_S1_S1x1_1 (constantI S1 32 k))))) (constantI S_ 1 1#1) reducesTo_S65536x1_S65536_d1 h_S_

theorem maskOf_one (k : ℕ) (hk : k < 2 ^ 31) (size : BitVec 32) (w : IVec S65536 32) (hw : ∀ i, (w i).toNat ≤ k) (p : S65536.Idx) :
    maskOf (BitVec.ofNat 32 k) (colOf size w) p = 1#1 := by
  refine mask_one _ _ _ hk (fun i => ?_) (bcLit bcast_S_S65536x1 _) (fun i => ?_) _ (fun _ => rfl) reducesTo_S65536x1_S65536_d1 h_S_ p
  · rw [eq_ix2 i]
    refine le_trans (le_of_eq (congrArg BitVec.toNat (colOf_apply size w (fun i => (hw i).trans_lt hk) (i 0) (i 1)))) (hw _)
  · rfl

/-- A choice by a row's mask that is one. -/
theorem rows_select {a b : ℕ} (hb : (shape1 a).BroadcastsInDim (shape2 a b) (![0] : Fin 1 → Fin (shape2 a b).rank)) (m : IVec (shape1 a) 1)
    (hm : ∀ p, m p = 1#1) (x y : FVec Ideal (shape2 a b) .f32) (i : (shape2 a b).Idx) :
    select (broadcastInDim (shape2 a b) ![0] hb m) x y i = x i := by
  have h : broadcastInDim (shape2 a b) ![0] hb m i = 1#1 := hm _
  show Scalar.select (broadcastInDim (shape2 a b) ![0] hb m i) (x i) (y i) = x i
  rw [h]
  rfl

/-- A choice of words by a mask that is one. -/
theorem word_select {a : ℕ} (m : IVec (shape1 a) 1) (x y : IVec (shape1 a) 32) (i : (shape1 a).Idx) (hm : m i = 1#1) :
    select m x y i = x i := by
  show Scalar.select (m i) (x i) (y i) = x i
  rw [hm]
  rfl

/-- Rows of the table. -/
def tableRows (tab : FVec Ideal S200x200 .f32) (w : IVec S65536 32) : FVec Ideal S65536x200 .f32 :=
  select (broadcastInDim S65536x200 ![0] bcast_S65536_S65536x200_0 (maskOf 199#32 (colOf 200#32 w))) (Host.gather gather_S200x200_S65536x1_S65536x200_1_0_n_n_0_1_1200 tab (colOf 200#32 w)) (broadcastInDim S65536x200 ![] bcast_S_S65536x200 (constant S_ .f32 0x7FC00000#32))

theorem tableRows_apply (tab : FVec Ideal S200x200 .f32) (w : IVec S65536 32) (hw : ∀ i, (w i).toNat < 200) (p : Fin 65536) (y : Fin 200) :
    tableRows tab w (ix2 p y) = tab (ix2 (⟨min (w (ix1 p)).toNat 199, by omega⟩ : Fin 200) y) := by
  refine (rows_select bcast_S65536_S65536x200_0 _ (maskOf_one 199 (by decide) _ w fun i => Nat.le_of_lt_succ (hw i)) _ _ _).trans ?_
  refine gather_row gather_S200x200_S65536x1_S65536x200_1_0_n_n_0_1_1200 rfl rfl rfl rfl rfl tab _ p y _ ?_ (by decide)
  rw [colOf_apply _ w (fun i => (hw i).trans (by decide))]
  have h := hw (ix1 p)
  apply BitVec.eq_of_toNat_eq
  show _ = (BitVec.ofNat 32 (min (w (ix1 p)).toNat 199)).toNat
  rw [BitVec.toNat_ofNat, Nat.mod_eq_of_lt (by omega)]
  omega

/-- Rows taken at the repeats' indices. -/
def repeated (w : IVec S65536 32) (x : FVec Ideal S65536x56 .f32) : FVec Ideal S65536x56 .f32 :=
  select (broadcastInDim S65536x56 ![0] bcast_S65536_S65536x56_0 (maskOf 65535#32 (colOf 65536#32 w))) (Host.gather gather_S65536x56_S65536x1_S65536x56_1_0_n_n_0_1_156 x (colOf 65536#32 w)) (broadcastInDim S65536x56 ![] bcast_S_S65536x56 (constant S_ .f32 0x7FC00000#32))

theorem repeated_apply (x : FVec Ideal S65536x56 .f32) (p : Fin 65536) (y : Fin 56) : repeated upTo x (ix2 p y) = x (ix2 p y) := by
  refine (rows_select bcast_S65536_S65536x56_0 _ (maskOf_one 65535 (by decide) _ upTo fun i => Nat.le_of_lt_succ (upTo_lt i)) _ _ _).trans ?_
  refine gather_row gather_S65536x56_S65536x1_S65536x56_1_0_n_n_0_1_156 rfl rfl rfl rfl rfl x _ p y p ?_ (by decide)
  exact colOf_apply _ upTo (fun i => (upTo_lt i).trans (by decide)) p 0

/-- Segments taken at the repeats' indices. -/
def repeatedSegs (w s : IVec S65536 32) : IVec S65536 32 :=
  select (maskOf 65535#32 (colOf 65536#32 w)) (Host.gather gather_S65536_S65536x1_S65536_n_0_n_n_0_1_1 s (colOf 65536#32 w)) (broadcastInDim S65536 ![] bcast_S_S65536 (constantI S_ 32 2147483648#32))

theorem repeatedSegs_apply (s : IVec S65536 32) (p : Fin 65536) : repeatedSegs upTo s (ix1 p) = s (ix1 p) := by
  refine (word_select _ _ _ _ (maskOf_one 65535 (by decide) 65536#32 upTo (fun i => Nat.le_of_lt_succ (upTo_lt i)) (ix1 p))).trans ?_
  refine gather_take1 gather_S65536_S65536x1_S65536_n_0_n_n_0_1_1 rfl rfl rfl rfl s _ p p ?_ (by decide)
  exact colOf_apply _ upTo (fun i => (upTo_lt i).trans (by decide)) p 0

/-- Rows of features, projected. -/
def projected (x : FVec Ideal S65536x128 .f32) (w : FVec Ideal S128x56 .f32) (b : FVec Ideal S56 .f32) : FVec Ideal S65536x56 .f32 :=
  addf (Host.dotGeneral dot_S65536x128_S128x56_S65536x56_1_0_0_1_n_n none x w) (broadcastInDim S65536x56 ![0, 1] bcast_S1x56_S65536x56_0_1 (broadcastInDim S1x56 ![1] bcast_S56_S1x56_1 b))

theorem projected_apply (x : FVec Ideal S65536x128 .f32) (w : FVec Ideal S128x56 .f32) (b : FVec Ideal S56 .f32) (p : Fin 65536) (y : Fin 56) :
    (projected x w b (ix2 p y) : EReal) = (∑ d : Fin 128, (x (ix2 p d) : EReal) * w (ix2 d y)) + b (ix1 y) := by
  have h1 := StackMember.dotGeneral_plain_apply (m := 65536) (k := 128) (n := 56) none x w p y
  have h2 := bcCols bcast_S56_S1x56_1 bcast_S1x56_S65536x56_0_1 b p y
  exact congrArg₂ (fun u v : EReal => u + v) h1 h2

/-- Projected lanes beside the table's. -/
def lanesOf (a : FVec Ideal S65536x56 .f32) (b : FVec Ideal S65536x200 .f32) : FVec Ideal S65536x256 .f32 :=
  Host.tanh (concatenate S65536x256 1 [⟨S65536x56, a⟩, ⟨S65536x200, b⟩] concatenates_S65536x56_S65536x200_S65536x256_d1)

theorem lanesOf_apply (a : FVec Ideal S65536x56 .f32) (b : FVec Ideal S65536x200 .f32) (p : Fin 65536) (l : Fin 256) :
    (lanesOf a b (ix2 p l) : EReal) = Ideal.tanh (if h : l.val < 56 then a (ix2 p (⟨l.val, h⟩ : Fin 56)) else b (ix2 p (⟨l.val - 56, by omega⟩ : Fin 200))) := by
  show Ideal.tanh (concatenate S65536x256 1 [⟨S65536x56, a⟩, ⟨S65536x200, b⟩] concatenates_S65536x56_S65536x200_S65536x256_d1 (ix2 p l)) = _
  congr 1
  split
  · next h =>
    refine concatenate_pair_apply_left (s₁ := S65536x56) (s₂ := S65536x200) (t := S65536x256) 1 a b _ (ix2 p l) rfl (ix2 p (⟨l.val, h⟩ : Fin 56)) ?_
    intro b; match b with | ⟨0, _⟩ => rfl | ⟨1, _⟩ => rfl
  · next h =>
    refine concatenate_pair_apply_right (s₁ := S65536x56) (s₂ := S65536x200) (t := S65536x256) 1 a b _ (ix2 p l) rfl rfl (ix2 p (⟨l.val - 56, by omega⟩ : Fin 200)) ?_ ?_
    · intro b hb; match b with | ⟨0, _⟩ => rfl | ⟨1, _⟩ => exact absurd rfl hb
    · show l.val - 56 + 56 = l.val; omega

variable (V : Valuation τ sig (Elt Ideal))

/-- The problem's arrays as the reference finds them. -/
def args : Cert.Spec.Args where
  xp := V (Proc.devRef .tc main_arg1)
  xq := V (Proc.devRef .tc main_arg0)
  ip := V (Proc.devRef .tc main_arg3)
  iq := V (Proc.devRef .tc main_arg2)
  sp := V (Proc.devRef .tc main_arg6)
  sq := V (Proc.devRef .tc main_arg5)
  wp := V (Proc.devRef .tc main_arg9)
  bp := V (Proc.devRef .tc main_arg10)
  wq := V (Proc.devRef .tc main_arg7)
  bq := V (Proc.devRef .tc main_arg8)
  tab := V (Proc.devRef .tc main_arg11)
  wn := V (Proc.devRef .tc main_arg12)
  bn := V (Proc.devRef .tc main_arg13)
  wc := V (Proc.devRef .tc main_arg14)
  wa := V (Proc.devRef .tc main_arg15)

/-- What is known of the index arrays. -/
abbrev DrawnAt : Prop :=
  Cert.Pre.Drawn (V (Proc.devRef .tc main_arg2)) (V (Proc.devRef .tc main_arg3)) (V (Proc.devRef .tc main_arg4)) (V (Proc.devRef .tc main_arg5)) (V (Proc.devRef .tc main_arg6))

/-- The nodes' embeddings. -/
abbrev nodes : FVec Ideal S131072x256 .f32 := res_main_v48 V

/-- The nodes' segments. -/
abbrev segs : IVec S131072 32 := res_main_v49 V

theorem nodes_eq (hd : DrawnAt V) (n : Fin 131072) (l : Fin 256) : (nodes V (ix2 n l) : EReal) = Cert.Spec.emb (args V) n l := by
  have e : nodes V = concatenate S131072x256 0 [⟨S65536x256, lanesOf (repeated (res_main_v26 V) (projected (args V).xp (args V).wp (args V).bp)) (tableRows (args V).tab (args V).ip)⟩,
      ⟨S65536x256, lanesOf (projected (args V).xq (args V).wq (args V).bq) (tableRows (args V).tab (args V).iq)⟩]
      concatenates_S65536x256_S65536x256_S131072x256_d0 := rfl
  rw [e, v26_eq V hd.one]
  unfold Cert.Spec.emb
  by_cases h : n.val < 65536
  · rw [dif_pos h]
    refine (concatenate_pair_apply_left (s₁ := S65536x256) (s₂ := S65536x256) (t := S131072x256) 0 _ _ _ (ix2 n l) rfl (ix2 (⟨n.val, h⟩ : Fin 65536) l) ?_).trans ?_
    · intro b; match b with | ⟨0, _⟩ => rfl | ⟨1, _⟩ => rfl
    · refine (lanesOf_apply _ _ _ _).trans (congrArg Ideal.tanh ?_)
      unfold Cert.Spec.row
      split
      · rw [repeated_apply, projected_apply]
      · exact tableRows_apply _ _ hd.p _ _
  · rw [dif_neg h]
    refine (concatenate_pair_apply_right (s₁ := S65536x256) (s₂ := S65536x256) (t := S131072x256) 0 _ _ _ (ix2 n l) rfl rfl (ix2 (⟨n.val - 65536, by omega⟩ : Fin 65536) l) ?_ ?_).trans ?_
    · intro b hb; match b with | ⟨0, _⟩ => exact absurd rfl hb | ⟨1, _⟩ => rfl
    · show n.val - 65536 + 65536 = n.val; omega
    · refine (lanesOf_apply _ _ _ _).trans (congrArg Ideal.tanh ?_)
      unfold Cert.Spec.row
      split
      · rw [projected_apply]
      · exact tableRows_apply _ _ hd.q _ _

theorem segs_eq (hd : DrawnAt V) (n : Fin 131072) : (segs V (ix1 n)).toNat = Cert.Spec.seg (args V) n := by
  have e : segs V = concatenate S131072 0 [⟨S65536, repeatedSegs (res_main_v46 V) (args V).sp⟩, ⟨S65536, (args V).sq⟩] concatenates_S65536_S65536_S131072_d0 := rfl
  rw [e, v46_eq V hd.one]
  unfold Cert.Spec.seg
  by_cases h : n.val < 65536
  · rw [dif_pos h]
    refine congrArg BitVec.toNat ((concatenate_pair_apply_left (s₁ := S65536) (s₂ := S65536) (t := S131072) 0 _ _ _ (ix1 n) rfl (ix1 (⟨n.val, h⟩ : Fin 65536)) ?_).trans (repeatedSegs_apply _ _))
    intro b; match b with | ⟨0, _⟩ => rfl
  · rw [dif_neg h]
    refine congrArg BitVec.toNat (concatenate_pair_apply_right (s₁ := S65536) (s₂ := S65536) (t := S131072) 0 _ _ _ (ix1 n) rfl rfl (ix1 (⟨n.val - 65536, by omega⟩ : Fin 65536)) ?_ ?_)
    · intro b hb; match b with | ⟨0, _⟩ => exact absurd rfl hb
    · show n.val - 65536 + 65536 = n.val; omega

theorem seg_lt (hd : DrawnAt V) (n : Fin 131072) : Cert.Spec.seg (args V) n < 4096 := by
  unfold Cert.Spec.seg
  split
  · exact hd.s6 _
  · exact hd.s5 _

end Cert.ReferenceIdeal.Read

end
-- ==== Proof.Ref.Result.lean ====
/- The reference's result is the problem's. -/
module

public import proofs.«01_k».proof.Proof.Ref.Nodes
public import Idealize.ShloMosaic.Lib.IdealHost

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.StableHlo
open Idealize.ShloMosaic.ValueIdx Idealize.ShloMosaic.Routing

/-- A literal broadcast is that literal everywhere. -/
theorem bcFloat {s : Shape} (hb : S_.BroadcastsInDim s (![] : Fin 0 → Fin s.rank)) (v : FVec Ideal S_ .f32) (x : EReal) (hv : (v ix0 : EReal) = x) (i : s.Idx) :
    (broadcastInDim s ![] hb v i : EReal) = x := (bc0 hb v i).trans hv

theorem zero_lit : ((constant S_ .f32 0x00000000#32 : FVec Ideal S_ .f32) ix0 : EReal) = 0 := Ideal.ofBits_zero_f32

theorem one_lit : ((constant S_ .f32 0x3F800000#32 : FVec Ideal S_ .f32) ix0 : EReal) = 1 := Ideal.ofBits_one_f32

/-- A quotient of arrays at an index. -/
theorem quotient_apply {s : Shape} (x y : FVec Ideal s .f32) (i : s.Idx) : (Host.divf x y i : EReal) = Ideal.div (x i) (y i) := rfl

/-- The column of segments. -/
def segCol (s : IVec S131072 32) : IVec S131072x1 32 := broadcastInDim S131072x1 ![0] bcast_S131072_S131072x1_0 s

/-- Sums over the segments. -/
def sums (s : IVec S131072 32) (x : FVec Ideal S131072x256 .f32) : FVec Ideal S4096x256 .f32 :=
  Host.scatterAdd scatter_S4096x256_S131072x1_S131072x256_1_0_0_1 (broadcastInDim S4096x256 ![] bcast_S_S4096x256 (constant S_ .f32 0x00000000#32)) (segCol s) x

/-- The segments' sizes, at least one. -/
def sizes (s : IVec S131072 32) : FVec Ideal S4096x1 .f32 :=
  maximumf (broadcastInDim S4096x1 ![] bcast_S_S4096x1 (id (constant S_ .f32 0x3F800000#32))) (Host.scatterAdd scatter_S4096x1_S131072x1_S131072x1_1_0_0_1 (broadcastInDim S4096x1 ![] bcast_S_S4096x1 (constant S_ .f32 0x00000000#32)) (segCol s) (broadcastInDim S131072x1 ![] bcast_S_S131072x1 (constant S_ .f32 0x3F800000#32)))

/-- Means over the segments. -/
def means (s : IVec S131072 32) (x : FVec Ideal S131072x256 .f32) : FVec Ideal S4096x256 .f32 :=
  Host.divf (sums s x) (broadcastInDim S4096x256 ![0, 1] bcast_S4096x1_S4096x256_0_1 (sizes s))

/-- Each node's segment's row. -/
def backCol (s : IVec S131072 32) : IVec S131072x1 32 :=
  broadcastInDim S131072x1 ![0] bcast_S131072_S131072x1_0 (select (cmpi .slt s (broadcastInDim S131072 ![] bcast_S_S131072 (constantI S_ 32 0#32))) (addi s (broadcastInDim S131072 ![] bcast_S_S131072 (constantI S_ 32 4096#32))) s)

def back (s : IVec S131072 32) (x : FVec Ideal S4096x256 .f32) : FVec Ideal S131072x256 .f32 :=
  select (broadcastInDim S131072x256 ![0] bcast_S131072_S131072x256_0 (Host.reduce IntOp.andi (andi (cmpi .sge (backCol s) (broadcastInDim S131072x1 ![] bcast_S_S131072x1 (constantI S_ 32 0#32))) (cmpi .sle (backCol s) (broadcastInDim S131072x1 ![0, 1] bcast_S1x1_S131072x1_0_1 (broadcastInDim S1x1 ![1] bcast_S1_S1x1_1 (constantI S1 32 4095#32))))) (constantI S_ 1 1#1) reducesTo_S131072x1_S131072_d1 h_S_)) (Host.gather gather_S4096x256_S131072x1_S131072x256_1_0_n_n_0_1_1256 x (backCol s)) (broadcastInDim S131072x256 ![] bcast_S_S131072x256 (constant S_ .f32 0x7FC00000#32))

section Reading

variable (A : Cert.Spec.Args) (s : IVec S131072 32) (hs : ∀ n, (s (ix1 n)).toNat = Cert.Spec.seg A n) (hlt : ∀ n, Cert.Spec.seg A n < 4096)

include hs hlt

theorem segCol_apply (n : Fin 131072) : (segCol s (ix2 n (0 : Fin 1))).toInt = (Cert.Spec.seg A n : Int) := by
  have h : segCol s (ix2 n (0 : Fin 1)) = s (ix1 n) := bcCol bcast_S131072_S131072x1_0 s n
  have h1 := hs n
  have h2 := hlt n
  rw [h, BitVec.toInt_eq_toNat_of_lt (by omega), h1]

theorem sums_apply (x : FVec Ideal S131072x256 .f32) (r : Fin 4096) (l : Fin 256) :
    (sums s x (ix2 r l) : EReal) = Cert.Spec.total A (fun n => x (ix2 n l)) r.val :=
  add_rows scatter_S4096x256_S131072x1_S131072x256_1_0_0_1 rfl rfl rfl rfl _ (bcFloat bcast_S_S4096x256 _ 0 zero_lit) (segCol s)
    (Cert.Spec.seg A) (segCol_apply A s hs hlt) x r l

theorem sizes_apply (r : Fin 4096) : (sizes s (ix2 r (0 : Fin 1)) : EReal) = Cert.Spec.count A r.val := by
  have h := add_rows scatter_S4096x1_S131072x1_S131072x1_1_0_0_1 rfl rfl rfl rfl _ (bcFloat bcast_S_S4096x1 _ 0 zero_lit) (segCol s)
    (Cert.Spec.seg A) (segCol_apply A s hs hlt) (broadcastInDim S131072x1 ![] bcast_S_S131072x1 (constant S_ .f32 0x3F800000#32)) r (0 : Fin 1)
  have h1 := bcFloat bcast_S_S4096x1 (id (constant S_ .f32 0x3F800000#32)) 1 one_lit (ix2 r (0 : Fin 1))
  refine (congrArg₂ (fun u v : EReal => max u v) h1 h).trans ?_
  rw [max_comm]
  unfold Cert.Spec.count Cert.Spec.total
  refine congrArg (fun u : EReal => max u 1) (Finset.sum_congr rfl fun n _ => ?_)
  rw [bcFloat bcast_S_S131072x1 _ 1 one_lit]

theorem means_apply (x : FVec Ideal S131072x256 .f32) (r : Fin 4096) (l : Fin 256) :
    (means s x (ix2 r l) : EReal) = Cert.Spec.mean A (fun n => x (ix2 n l)) r.val := by
  have h2 : (broadcastInDim S4096x256 ![0, 1] bcast_S4096x1_S4096x256_0_1 (sizes s) (ix2 r l) : EReal) = Cert.Spec.count A r.val := by
    refine (broadcastInDim_apply _ bcast_S4096x1_S4096x256_0_1 (sizes s) (ix2 r l) (ix2 r (0 : Fin 1)) ?_).trans (sizes_apply A s hs hlt r)
    intro a; match a with | ⟨0, _⟩ => rfl | ⟨1, _⟩ => rfl
  have h1 := sums_apply A s hs hlt x r l
  unfold Cert.Spec.mean
  rw [← h1, ← h2]
  exact quotient_apply (sums s x) _ (ix2 r l)

theorem backCol_apply (n : Fin 131072) (q : Fin 1) : backCol s (ix2 n q) = s (ix1 n) := by
  obtain rfl : q = 0 := Subsingleton.elim _ _
  refine (bcCol bcast_S131072_S131072x1_0 _ n).trans ?_
  rw [wrapped s _ _ (bcLit bcast_S_S131072 _) fun i => ?_]
  have h := hs (i 0)
  have h2 := hlt (i 0)
  have e : s i = s (ix1 (i 0)) := congrArg s (eq_ix1 i)
  rw [e]
  omega

theorem back_apply (x : FVec Ideal S4096x256 .f32) (n : Fin 131072) (l : Fin 256) :
    back s x (ix2 n l) = x (ix2 (⟨Cert.Spec.seg A n, hlt n⟩ : Fin 4096) l) := by
  refine (rows_select bcast_S131072_S131072x256_0 _ (fun p => mask_one _ _ _ (k := 4095) (by decide) (fun i => ?_) (bcLit bcast_S_S131072x1 _) (fun i => rfl) _
    (fun _ => rfl) reducesTo_S131072x1_S131072_d1 h_S_ p) _ _ _).trans ?_
  · rw [eq_ix2 i]
    refine (congrArg BitVec.toNat (backCol_apply A s hs hlt (i 0) (i 1))).le.trans ?_
    have h := hs (i 0)
    have h2 := hlt (i 0)
    omega
  · refine gather_row gather_S4096x256_S131072x1_S131072x256_1_0_n_n_0_1_1256 rfl rfl rfl rfl rfl x _ n l _ ?_ (by decide)
    rw [backCol_apply A s hs hlt]
    have h := hs n
    have h2 := hlt n
    apply BitVec.eq_of_toNat_eq
    rw [BitVec.toNat_ofNat, Nat.mod_eq_of_lt (by dsimp only; omega)]
    exact h

end Reading

/-- The nodes' weights. -/
def gates (x b : FVec Ideal S131072x256 .f32) (wn : FVec Ideal S256x256 .f32) (bn : FVec Ideal S256 .f32) (wc : FVec Ideal S256x256 .f32) : FVec Ideal S131072x256 .f32 :=
  Host.divf (broadcastInDim S131072x256 ![] bcast_S_S131072x256 (constant S_ .f32 0x3F800000#32)) (addf (broadcastInDim S131072x256 ![] bcast_S_S131072x256 (constant S_ .f32 0x3F800000#32)) (Host.exp (Host.negf (addf (addf (Host.dotGeneral dot_S131072x256_S256x256_S131072x256_1_0_0_1_n_n none x wn) (broadcastInDim S131072x256 ![0, 1] bcast_S1x256_S131072x256_0_1 (broadcastInDim S1x256 ![1] bcast_S256_S1x256_1 bn))) (Host.dotGeneral dot_S131072x256_S256x256_S131072x256_1_0_0_1_n_n none b wc)))))

theorem dotNodes (x : FVec Ideal S131072x256 .f32) (w : FVec Ideal S256x256 .f32) (n : Fin 131072) (l : Fin 256) :
    (Host.dotGeneral dot_S131072x256_S256x256_S131072x256_1_0_0_1_n_n none x w (ix2 n l) : EReal) = ∑ j : Fin 256, (x (ix2 n j) : EReal) * w (ix2 j l) :=
  StackMember.dotGeneral_plain_apply (m := 131072) (k := 256) (n := 256) none x w n l

theorem gates_apply (x b : FVec Ideal S131072x256 .f32) (wn : FVec Ideal S256x256 .f32) (bn : FVec Ideal S256 .f32) (wc : FVec Ideal S256x256 .f32)
    (n : Fin 131072) (l : Fin 256) :
    (gates x b wn bn wc (ix2 n l) : EReal) = Ideal.logistic (((∑ j : Fin 256, (x (ix2 n j) : EReal) * wn (ix2 j l)) + bn (ix1 l))
      + ∑ j : Fin 256, (b (ix2 n j) : EReal) * wc (ix2 j l)) := by
  have h1 := bcFloat bcast_S_S131072x256 (constant S_ .f32 0x3F800000#32) 1 one_lit (ix2 n l)
  have h2 := bcCols bcast_S256_S1x256_1 bcast_S1x256_S131072x256_0_1 bn n l
  have h3 := congrArg₂ (fun u v : EReal => u + v) (congrArg₂ (fun u v : EReal => u + v) (dotNodes x wn n l) h2) (dotNodes b wc n l)
  exact congrArg₂ Ideal.div h1 (congrArg₂ (fun u v : EReal => u + v) h1 (congrArg (fun u : EReal => Ideal.exp (-u)) h3))

/-- Embeddings times weights. -/
def scaled (x g : FVec Ideal S131072x256 .f32) (wa : FVec Ideal S256x1 .f32) : FVec Ideal S131072x256 .f32 :=
  mulf x (broadcastInDim S131072x256 ![0, 1] bcast_S131072x1_S131072x256_0_1 (Host.dotGeneral dot_S131072x256_S256x1_S131072x1_1_0_0_1_n_n none g wa))

theorem scaled_apply (x g : FVec Ideal S131072x256 .f32) (wa : FVec Ideal S256x1 .f32) (n : Fin 131072) (l : Fin 256) :
    (scaled x g wa (ix2 n l) : EReal) = x (ix2 n l) * ∑ j : Fin 256, (g (ix2 n j) : EReal) * wa (ix2 j (0 : Fin 1)) := by
  have h1 : (broadcastInDim S131072x256 ![0, 1] bcast_S131072x1_S131072x256_0_1 (Host.dotGeneral dot_S131072x256_S256x1_S131072x1_1_0_0_1_n_n none g wa) (ix2 n l) : EReal)
      = ∑ j : Fin 256, (g (ix2 n j) : EReal) * wa (ix2 j (0 : Fin 1)) := by
    refine (broadcastInDim_apply _ bcast_S131072x1_S131072x256_0_1 _ (ix2 n l) (ix2 n (0 : Fin 1)) ?_).trans
      (StackMember.dotGeneral_plain_apply (m := 131072) (k := 256) (n := 1) none g wa n (0 : Fin 1))
    intro a; match a with | ⟨0, _⟩ => rfl | ⟨1, _⟩ => rfl
  exact congrArg (fun u : EReal => x (ix2 n l) * u) h1

variable (V : Valuation τ sig (Elt Ideal))

/-- The reference's result, of its arguments. -/
def result : FVec Ideal S4096x256 .f32 :=
  means (segs V) (scaled (nodes V) (gates (nodes V) (back (segs V) (means (segs V) (nodes V))) (args V).wn (args V).bn (args V).wc) (args V).wa)

theorem result_eq (hd : DrawnAt V) (r : Fin 4096) (l : Fin 256) : (result V (ix2 r l) : EReal) = Cert.Spec.out (args V) r.val l := by
  have hs := segs_eq V hd
  have hlt := seg_lt V hd
  refine (means_apply (args V) (segs V) hs hlt _ r l).trans ?_
  unfold Cert.Spec.out
  refine congrArg (fun f => Cert.Spec.mean (args V) f r.val) (funext fun n => ?_)
  rw [scaled_apply, nodes_eq V hd]
  unfold Cert.Spec.weight
  refine congrArg (fun u : EReal => Cert.Spec.emb (args V) n l * u) (Finset.sum_congr rfl fun j _ => ?_)
  rw [gates_apply]
  unfold Cert.Spec.own Cert.Spec.coarse
  refine congrArg (fun u : EReal => Ideal.logistic u * (args V).wa (ix2 j (0 : Fin 1))) (congrArg₂ (fun u v : EReal => u + v)
    (congrArg (fun u : EReal => u + (args V).bn (ix1 j)) (Finset.sum_congr rfl fun k _ => ?_)) (Finset.sum_congr rfl fun k _ => ?_))
  · rw [nodes_eq V hd]
  · rw [back_apply (args V) (segs V) hs hlt, means_apply (args V) (segs V) hs hlt]
    exact congrArg (fun f => Cert.Spec.mean (args V) f (Cert.Spec.seg (args V) n) * (args V).wc (ix2 k j)) (funext fun n' => nodes_eq V hd n' k)

end Cert.ReferenceIdeal.Read

end
-- ==== Proof.Equal.lean ====
/- The kernel and the reference, from memories that agree on the arguments, end with the same result: each is the
   problem's mathematics of those arguments. -/
module

public import proofs.«01_k».proof.Proof.Val.Final
public import proofs.«01_k».proof.Proof.Ref.Result
public import proofs.«01_k».proof.Proof.PI.Frame

@[expose] public section

set_option maxRecDepth 16384

noncomputable section

namespace Cert.Equal

open Idealize.ShloMosaic Idealize.ShloMosaic.TcCoe

theorem drawn_of_eq {a2 a3 a4 a5 a6 b2 b3 b4 b5 b6 : Cert.Pre_inputs_as_drawn.S65536.Idx → BitVec 32} (h : Cert.Pre.Drawn b2 b3 b4 b5 b6)
    (e2 : a2 = b2) (e3 : a3 = b3) (e4 : a4 = b4) (e5 : a5 = b5) (e6 : a6 = b6) : Cert.Pre.Drawn a2 a3 a4 a5 a6 := by
  subst e2 e3 e4 e5 e6
  exact h

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))

/-- Equal mathematics of equal arguments is an equal array. -/
theorem arrays_eq (hd : Cert.KernelIdeal.Loop.DrawnAt m c) (hd' : Cert.ReferenceIdeal.Read.DrawnAt V)
    (ha : Cert.ReferenceIdeal.Read.args V = Cert.KernelIdeal.Loop.args m c) :
    Cert.ReferenceIdeal.Read.result V = (Cert.KernelIdeal.Gen.V15 m (Cert.KernelIdeal.Loop.outs m) c Cert.KernelIdeal.main_v17 : Cert.Spec.A2 EReal 4096 256) := by
  funext i
  have e : i = ValueIdx.ix2 (i 0 : Fin 4096) (i 1 : Fin 256) := ValueIdx.eq_ix2 i
  have h1 := Cert.ReferenceIdeal.Read.result_eq V hd' (i 0) (i 1)
  have h2 := Cert.KernelIdeal.Loop.result_eq m c hd (i 0) (i 1)
  rw [ha] at h1
  rw [e]
  exact h1.trans h2.symm

/-- From memories that agree on the arguments, the two programs' results are equal. -/
theorem results_eq (m' : (ℓ : Loc Cert.ReferenceIdeal.nD Cert.ReferenceIdeal.τ Cert.ReferenceIdeal.sig) → Buf (Elt Ideal) ℓ) (hd : Cert.KernelIdeal.Loop.DrawnAt m c)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Read.result (StableHlo.launchContents m' c) = (Cert.KernelIdeal.Gen.V15 m (Cert.KernelIdeal.Loop.outs m) c Cert.KernelIdeal.main_v17 : Cert.Spec.A2 EReal 4096 256) :=
  arrays_eq m c _ hd (drawn_of_eq hd h2 h3 h4 h5 h6) ((Cert.Spec.Args.mk.injEq ..).mpr ⟨h1, h0, h3, h2, h6, h5, h9, h10, h7, h8, h11, h12, h13, h14, h15⟩)

end Cert.Equal

end
-- ==== Proof.lean ====
/- The claims of `Cert.Claim`, put together: the frames of the kernel at both instances from the run of
   its three calls (Proof/PI, Proof/P), the reference's frame from its run, `preserves`, which is immediate
   where nothing was rewritten, and `algebraic`, from the values of the kernel (Proof/Val) and of the reference (Proof/Ref). -/
module

public import proofs.«01_k».proof.Defs
public import proofs.«01_k».proof.Proof.PI.Frame
public import proofs.«01_k».proof.Proof.P.Frame
public import proofs.«01_k».proof.Proof.Pre
public import proofs.«01_k».proof.Proof.Drawn
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel at machine words keeps its arguments and its semaphores. -/
theorem frame_kernel : Cert.quiescent_Kernel := by
  intro m ρ hpre
  exact (θ_run Cert.Kernel.defs _ _).mono (fun r h => ⟨fun c => (h.1 c).2, h.2⟩)
    (Cert.Kernel.Loop.run_args (F := Bits) m ρ (fun c i => (Cert.Pre.segments _ _ _ _ _ _ _ _ _ _ _ _ _ _ _ _ (hpre c) i).1)
      (fun c i => (Cert.Pre.segments _ _ _ _ _ _ _ _ _ _ _ _ _ _ _ _ (hpre c) i).2))

/-- The kernel over the extended reals keeps its arguments and its semaphores. -/
theorem frame_ideal : Cert.quiescent_KernelIdeal := by
  intro m ρ hpre
  exact (θ_run Cert.KernelIdeal.defs _ _).mono (fun r h => ⟨fun c => (h.1 c).2, h.2⟩)
    (Cert.KernelIdeal.Loop.run_args (F := Ideal) m ρ (fun c i => (Cert.Pre.segments _ _ _ _ _ _ _ _ _ _ _ _ _ _ _ _ (hpre c) i).1)
      (fun c i => (Cert.Pre.segments _ _ _ _ _ _ _ _ _ _ _ _ _ _ _ _ (hpre c) i).2))

/-- The reference keeps its arguments and its semaphores. -/
theorem frame_reference : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run (F := Ideal) m g)

/-- The same where the arguments are as drawn. -/
theorem frame_ideal_drawn : Cert.quiescent_KernelIdeal_pre_inputs_as_drawn := by
  intro m ρ hpre
  have hd : ∀ c, Cert.KernelIdeal.Loop.DrawnAt m c := fun c => Cert.Pre.drawn _ _ _ _ _ _ _ _ _ _ _ _ _ _ _ _ (hpre c)
  exact (θ_run Cert.KernelIdeal.defs _ _).mono (fun r h => ⟨fun c => (h.1 c).2, h.2⟩)
    (Cert.KernelIdeal.Loop.run_args (F := Ideal) m ρ (fun c => (hd c).s5) (fun c => (hd c).s6))

theorem frame_reference_drawn : Cert.quiescent_ReferenceIdeal_pre_inputs_as_drawn := fun m g _ => frame_reference m g trivial

/-- The kernel and the reference end with the same result. -/
theorem algebraic : Cert.algebraic_KernelIdeal_ReferenceIdeal_pre_inputs_as_drawn := by
  intro m g m' g' hpre hag
  have hd : ∀ c, Cert.KernelIdeal.Loop.DrawnAt m c := fun c => Cert.Pre.drawn _ _ _ _ _ _ _ _ _ _ _ _ _ _ _ _ (hpre c)
  refine ⟨fun c => Cert.KernelIdeal.Gen.V15 m (Cert.KernelIdeal.Loop.outs m) c Cert.KernelIdeal.main_v17, ?_, ?_⟩
  · exact (θ_run Cert.KernelIdeal.defs _ _).mono (fun r h => h.1)
      (Cert.KernelIdeal.Loop.run_args (F := Ideal) m g (fun c => (hd c).s5) (fun c => (hd c).s6))
  · refine (θ_run Cert.ReferenceIdeal.defs _ _).mono (fun r h c => ⟨?_, (h c).2⟩) (Cert.ReferenceIdeal.Value.run (F := Ideal) m' g')
    obtain ⟨h0, h1, h2, h3, h4, h5, h6, h7, h8, h9, h10, h11, h12, h13, h14, h15⟩ := hag c
    exact (h c).1.trans (Cert.Equal.results_eq m c m' (hd c) h0 h1 h2 h3 h4 h5 h6 h7 h8 h9 h10 h11 h12 h13 h14 h15)

theorem claim : Cert.Claim := ⟨Cert.Kernel.Gen.facts, Cert.KernelIdeal.Gen.facts, Cert.ReferenceIdeal.Gen.facts,
  Cert.Pre_segments_in_range.Gen.facts, Cert.Pre.drawnFacts, frame_kernel, frame_ideal, frame_ideal_drawn, frame_reference, frame_reference_drawn, trivial,
  algebraic⟩

end Cert.Proof

end
